-- ==== Defs.lean ====
def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11)
      ∧ r.2.mem ((c.tc : Thread Cert.Qkv.nD Cert.Qkv.τ).loc Cert.Qkv.main_arg12) = m ((c.tc : Thread Cert.Qkv.nD Cert.Qkv.τ).loc Cert.Qkv.main_arg12)
      ∧ r.2.mem ((c.tc : Thread Cert.Qkv.nD Cert.Qkv.τ).loc Cert.Qkv.main_arg13) = m ((c.tc : Thread Cert.Qkv.nD Cert.Qkv.τ).loc Cert.Qkv.main_arg13)
      ∧ r.2.mem ((c.tc : Thread Cert.Qkv.nD Cert.Qkv.τ).loc Cert.Qkv.main_arg14) = m ((c.tc : Thread Cert.Qkv.nD Cert.Qkv.τ).loc Cert.Qkv.main_arg14)
      ∧ r.2.mem ((c.tc : Thread Cert.Qkv.nD Cert.Qkv.τ).loc Cert.Qkv.main_arg15) = m ((c.tc : Thread Cert.Qkv.nD Cert.Qkv.τ).loc Cert.Qkv.main_arg15)
      ∧ r.2.mem ((c.tc : Thread Cert.Qkv.nD Cert.Qkv.τ).loc Cert.Qkv.main_arg16) = m ((c.tc : Thread Cert.Qkv.nD Cert.Qkv.τ).loc Cert.Qkv.main_arg16))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
      ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12)
      ∧ r.2.mem ((c.tc : Thread Cert.QkvIdeal.nD Cert.QkvIdeal.τ).loc Cert.QkvIdeal.main_arg13) = m ((c.tc : Thread Cert.QkvIdeal.nD Cert.QkvIdeal.τ).loc Cert.QkvIdeal.main_arg13)
      ∧ r.2.mem ((c.tc : Thread Cert.QkvIdeal.nD Cert.QkvIdeal.τ).loc Cert.QkvIdeal.main_arg14) = m ((c.tc : Thread Cert.QkvIdeal.nD Cert.QkvIdeal.τ).loc Cert.QkvIdeal.main_arg14)
      ∧ r.2.mem ((c.tc : Thread Cert.QkvIdeal.nD Cert.QkvIdeal.τ).loc Cert.QkvIdeal.main_arg15) = m ((c.tc : Thread Cert.QkvIdeal.nD Cert.QkvIdeal.τ).loc Cert.QkvIdeal.main_arg15)
      ∧ r.2.mem ((c.tc : Thread Cert.QkvIdeal.nD Cert.QkvIdeal.τ).loc Cert.QkvIdeal.main_arg16) = m ((c.tc : Thread Cert.QkvIdeal.nD Cert.QkvIdeal.τ).loc Cert.QkvIdeal.main_arg16))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11)
      ∧ r.2.mem ((c.tc : Thread Cert.QkvRefIdeal.nD Cert.QkvRefIdeal.τ).loc Cert.QkvRefIdeal.main_arg12) = m ((c.tc : Thread Cert.QkvRefIdeal.nD Cert.QkvRefIdeal.τ).loc Cert.QkvRefIdeal.main_arg12)
      ∧ r.2.mem ((c.tc : Thread Cert.QkvRefIdeal.nD Cert.QkvRefIdeal.τ).loc Cert.QkvRefIdeal.main_arg13) = m ((c.tc : Thread Cert.QkvRefIdeal.nD Cert.QkvRefIdeal.τ).loc Cert.QkvRefIdeal.main_arg13)
      ∧ r.2.mem ((c.tc : Thread Cert.QkvRefIdeal.nD Cert.QkvRefIdeal.τ).loc Cert.QkvRefIdeal.main_arg14) = m ((c.tc : Thread Cert.QkvRefIdeal.nD Cert.QkvRefIdeal.τ).loc Cert.QkvRefIdeal.main_arg14)
      ∧ r.2.mem ((c.tc : Thread Cert.QkvRefIdeal.nD Cert.QkvRefIdeal.τ).loc Cert.QkvRefIdeal.main_arg15) = m ((c.tc : Thread Cert.QkvRefIdeal.nD Cert.QkvRefIdeal.τ).loc Cert.QkvRefIdeal.main_arg15)
      ∧ r.2.mem ((c.tc : Thread Cert.QkvRefIdeal.nD Cert.QkvRefIdeal.τ).loc Cert.QkvRefIdeal.main_arg16) = m ((c.tc : Thread Cert.QkvRefIdeal.nD Cert.QkvRefIdeal.τ).loc Cert.QkvRefIdeal.main_arg16))
      ∧ r.2.sem = fun _ => 0)

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)) (v2 : (c : Dev Cert.OutIdeal.nD) → Buf (Elt Ideal) ((c.tc : Thread Cert.OutIdeal.nD Cert.OutIdeal.τ).loc Cert.OutIdeal.main_v0_2)) (v3 : (c : Dev Cert.OutIdeal.nD) → Buf (Elt Ideal) ((c.tc : Thread Cert.OutIdeal.nD Cert.OutIdeal.τ).loc Cert.OutIdeal.main_v0_3)) (v4 : (c : Dev Cert.OutIdeal.nD) → Buf (Elt Ideal) ((c.tc : Thread Cert.OutIdeal.nD Cert.OutIdeal.τ).loc Cert.OutIdeal.main_v0_4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_v0_2) = v2 c
          ∧ r.2.mem ((c.tc : Thread Cert.OutIdeal.nD Cert.OutIdeal.τ).loc Cert.OutIdeal.main_v0_3) = v3 c
          ∧ r.2.mem ((c.tc : Thread Cert.OutIdeal.nD Cert.OutIdeal.τ).loc Cert.OutIdeal.main_v0_4) = v4 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0_0) = v0 c
          ∧ r.2.mem ((c.tc : Thread Cert.OutRefIdeal.nD Cert.OutRefIdeal.τ).loc Cert.OutRefIdeal.main_v0_1) = v1 c
          ∧ r.2.mem ((c.tc : Thread Cert.OutRefIdeal.nD Cert.OutRefIdeal.τ).loc Cert.OutRefIdeal.main_v0_2) = v2 c
          ∧ r.2.mem ((c.tc : Thread Cert.OutRefIdeal.nD Cert.OutRefIdeal.τ).loc Cert.OutRefIdeal.main_v0_3) = v3 c
          ∧ r.2.mem ((c.tc : Thread Cert.OutRefIdeal.nD Cert.OutRefIdeal.τ).loc Cert.OutRefIdeal.main_v0_4) = v4 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v0_0) = v0 c
          ∧ r.2.mem ((c.tc : Thread Cert.FfnRefIdeal.nD Cert.FfnRefIdeal.τ).loc Cert.FfnRefIdeal.main_v0_1) = v1 c
          ∧ r.2.mem ((c.tc : Thread Cert.FfnRefIdeal.nD Cert.FfnRefIdeal.τ).loc Cert.FfnRefIdeal.main_v0_2) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v0_0) = v0 c
          ∧ r.2.mem ((c.tc : Thread Cert.NormRefIdeal.nD Cert.NormRefIdeal.τ).loc Cert.NormRefIdeal.main_v0_1) = v1 c
          ∧ r.2.mem ((c.tc : Thread Cert.NormRefIdeal.nD Cert.NormRefIdeal.τ).loc Cert.NormRefIdeal.main_v0_2) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)
      ∧ m' ((c.tc : Thread Cert.QkvRefIdeal.nD Cert.QkvRefIdeal.τ).loc Cert.QkvRefIdeal.main_arg12) = m ((c.tc : Thread Cert.QkvIdeal.nD Cert.QkvIdeal.τ).loc Cert.QkvIdeal.main_arg12)
      ∧ m' ((c.tc : Thread Cert.QkvRefIdeal.nD Cert.QkvRefIdeal.τ).loc Cert.QkvRefIdeal.main_arg13) = m ((c.tc : Thread Cert.QkvIdeal.nD Cert.QkvIdeal.τ).loc Cert.QkvIdeal.main_arg13)
      ∧ m' ((c.tc : Thread Cert.QkvRefIdeal.nD Cert.QkvRefIdeal.τ).loc Cert.QkvRefIdeal.main_arg14) = m ((c.tc : Thread Cert.QkvIdeal.nD Cert.QkvIdeal.τ).loc Cert.QkvIdeal.main_arg14)
      ∧ m' ((c.tc : Thread Cert.QkvRefIdeal.nD Cert.QkvRefIdeal.τ).loc Cert.QkvRefIdeal.main_arg15) = m ((c.tc : Thread Cert.QkvIdeal.nD Cert.QkvIdeal.τ).loc Cert.QkvIdeal.main_arg15)
      ∧ m' ((c.tc : Thread Cert.QkvRefIdeal.nD Cert.QkvRefIdeal.τ).loc Cert.QkvRefIdeal.main_arg16) = m ((c.tc : Thread Cert.QkvIdeal.nD Cert.QkvIdeal.τ).loc Cert.QkvIdeal.main_arg16)) →
    ∃ (v0 : (c : Dev Cert.QkvIdeal.nD) → Buf (Elt Ideal) ((c.tc : Thread Cert.QkvIdeal.nD Cert.QkvIdeal.τ).loc Cert.QkvIdeal.main_v0_2)) (v1 : (c : Dev Cert.QkvIdeal.nD) → Buf (Elt Ideal) ((c.tc : Thread Cert.QkvIdeal.nD Cert.QkvIdeal.τ).loc Cert.QkvIdeal.main_v0_3)) (v2 : (c : Dev Cert.QkvIdeal.nD) → Buf (Elt Ideal) ((c.tc : Thread Cert.QkvIdeal.nD Cert.QkvIdeal.τ).loc Cert.QkvIdeal.main_v0_4)) (v3 : (c : Dev Cert.QkvIdeal.nD) → Buf (Elt Ideal) ((c.tc : Thread Cert.QkvIdeal.nD Cert.QkvIdeal.τ).loc Cert.QkvIdeal.main_v0_5)) (v4 : (c : Dev Cert.QkvIdeal.nD) → Buf (Elt Ideal) ((c.tc : Thread Cert.QkvIdeal.nD Cert.QkvIdeal.τ).loc Cert.QkvIdeal.main_v0_6)) (v5 : (c : Dev Cert.QkvIdeal.nD) → Buf (Elt Ideal) ((c.tc : Thread Cert.QkvIdeal.nD Cert.QkvIdeal.τ).loc Cert.QkvIdeal.main_v0_7)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_2) = v0 c
          ∧ r.2.mem ((c.tc : Thread Cert.QkvIdeal.nD Cert.QkvIdeal.τ).loc Cert.QkvIdeal.main_v0_3) = v1 c
          ∧ r.2.mem ((c.tc : Thread Cert.QkvIdeal.nD Cert.QkvIdeal.τ).loc Cert.QkvIdeal.main_v0_4) = v2 c
          ∧ r.2.mem ((c.tc : Thread Cert.QkvIdeal.nD Cert.QkvIdeal.τ).loc Cert.QkvIdeal.main_v0_5) = v3 c
          ∧ r.2.mem ((c.tc : Thread Cert.QkvIdeal.nD Cert.QkvIdeal.τ).loc Cert.QkvIdeal.main_v0_6) = v4 c
          ∧ r.2.mem ((c.tc : Thread Cert.QkvIdeal.nD Cert.QkvIdeal.τ).loc Cert.QkvIdeal.main_v0_7) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11)
          ∧ r.2.mem ((c.tc : Thread Cert.QkvIdeal.nD Cert.QkvIdeal.τ).loc Cert.QkvIdeal.main_arg12) = m ((c.tc : Thread Cert.QkvIdeal.nD Cert.QkvIdeal.τ).loc Cert.QkvIdeal.main_arg12)
          ∧ r.2.mem ((c.tc : Thread Cert.QkvIdeal.nD Cert.QkvIdeal.τ).loc Cert.QkvIdeal.main_arg13) = m ((c.tc : Thread Cert.QkvIdeal.nD Cert.QkvIdeal.τ).loc Cert.QkvIdeal.main_arg13)
          ∧ r.2.mem ((c.tc : Thread Cert.QkvIdeal.nD Cert.QkvIdeal.τ).loc Cert.QkvIdeal.main_arg14) = m ((c.tc : Thread Cert.QkvIdeal.nD Cert.QkvIdeal.τ).loc Cert.QkvIdeal.main_arg14)
          ∧ r.2.mem ((c.tc : Thread Cert.QkvIdeal.nD Cert.QkvIdeal.τ).loc Cert.QkvIdeal.main_arg15) = m ((c.tc : Thread Cert.QkvIdeal.nD Cert.QkvIdeal.τ).loc Cert.QkvIdeal.main_arg15)
          ∧ r.2.mem ((c.tc : Thread Cert.QkvIdeal.nD Cert.QkvIdeal.τ).loc Cert.QkvIdeal.main_arg16) = m ((c.tc : Thread Cert.QkvIdeal.nD Cert.QkvIdeal.τ).loc Cert.QkvIdeal.main_arg16))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_v0_5) = v5 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11)
          ∧ r.2.mem ((c.tc : Thread Cert.QkvRefIdeal.nD Cert.QkvRefIdeal.τ).loc Cert.QkvRefIdeal.main_arg12) = m' ((c.tc : Thread Cert.QkvRefIdeal.nD Cert.QkvRefIdeal.τ).loc Cert.QkvRefIdeal.main_arg12)
          ∧ r.2.mem ((c.tc : Thread Cert.QkvRefIdeal.nD Cert.QkvRefIdeal.τ).loc Cert.QkvRefIdeal.main_arg13) = m' ((c.tc : Thread Cert.QkvRefIdeal.nD Cert.QkvRefIdeal.τ).loc Cert.QkvRefIdeal.main_arg13)
          ∧ r.2.mem ((c.tc : Thread Cert.QkvRefIdeal.nD Cert.QkvRefIdeal.τ).loc Cert.QkvRefIdeal.main_arg14) = m' ((c.tc : Thread Cert.QkvRefIdeal.nD Cert.QkvRefIdeal.τ).loc Cert.QkvRefIdeal.main_arg14)
          ∧ r.2.mem ((c.tc : Thread Cert.QkvRefIdeal.nD Cert.QkvRefIdeal.τ).loc Cert.QkvRefIdeal.main_arg15) = m' ((c.tc : Thread Cert.QkvRefIdeal.nD Cert.QkvRefIdeal.τ).loc Cert.QkvRefIdeal.main_arg15)
          ∧ r.2.mem ((c.tc : Thread Cert.QkvRefIdeal.nD Cert.QkvRefIdeal.τ).loc Cert.QkvRefIdeal.main_arg16) = m' ((c.tc : Thread Cert.QkvRefIdeal.nD Cert.QkvRefIdeal.τ).loc Cert.QkvRefIdeal.main_arg16))

def Claim : Prop :=
  ∃ (hOut : Cert.Out.Facts) (hOutIdeal : Cert.OutIdeal.Facts) (hOutRefIdeal : Cert.OutRefIdeal.Facts) (hFfn : Cert.Ffn.Facts) (hFfnIdeal : Cert.FfnIdeal.Facts) (hFfnRefIdeal : Cert.FfnRefIdeal.Facts) (hNorm : Cert.Norm.Facts) (hNormIdeal : Cert.NormIdeal.Facts) (hNormRefIdeal : Cert.NormRefIdeal.Facts) (hQkv : Cert.Qkv.Facts) (hQkvIdeal : Cert.QkvIdeal.Facts) (hQkvRefIdeal : Cert.QkvRefIdeal.Facts),
    quiescent_Out (hOut := hOut)
    ∧ quiescent_OutIdeal (hOutIdeal := hOutIdeal)
    ∧ quiescent_OutRefIdeal (hOutRefIdeal := hOutRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Norm (hNorm := hNorm)
    ∧ quiescent_NormIdeal (hNormIdeal := hNormIdeal)
    ∧ quiescent_NormRefIdeal (hNormRefIdeal := hNormRefIdeal)
    ∧ quiescent_Qkv (hQkv := hQkv)
    ∧ quiescent_QkvIdeal (hQkvIdeal := hQkvIdeal)
    ∧ quiescent_QkvRefIdeal (hQkvRefIdeal := hQkvRefIdeal)
    ∧ preserves_Out_OutIdeal
    ∧ algebraic_OutIdeal_OutRefIdeal (hOutIdeal := hOutIdeal) (hOutRefIdeal := hOutRefIdeal)
    ∧ preserves_Ffn_FfnIdeal
    ∧ algebraic_FfnIdeal_FfnRefIdeal (hFfnIdeal := hFfnIdeal) (hFfnRefIdeal := hFfnRefIdeal)
    ∧ preserves_Norm_NormIdeal
    ∧ algebraic_NormIdeal_NormRefIdeal (hNormIdeal := hNormIdeal) (hNormRefIdeal := hNormRefIdeal)
    ∧ preserves_Qkv_QkvIdeal
    ∧ algebraic_QkvIdeal_QkvRefIdeal (hQkvIdeal := hQkvIdeal) (hQkvRefIdeal := hQkvRefIdeal)
-- ==== Out.lean ====
abbrev S1536x4096 : Shape := ⟨2, ![1536, 4096]⟩
abbrev S4096x4096 : Shape := ⟨2, ![4096, 4096]⟩
abbrev S1x4096 : Shape := ⟨2, ![1, 4096]⟩
abbrev S1536x1 : Shape := ⟨2, ![1536, 1]⟩
abbrev S256x4096 : Shape := ⟨2, ![256, 4096]⟩
abbrev S256x1 : Shape := ⟨2, ![256, 1]⟩
abbrev S256 : Shape := ⟨1, ![256]⟩

abbrev nBuf : Space → Nat
  | .hbm => 10
  | .vmem => 17
  | .smem => 0
  | _ => 0

abbrev bufTy : (tb : Table) → Fin (tcTables nBuf tb) → BufTy
  | .hbm, ⟨0, _⟩ => ⟨S1536x4096, .f32⟩
  | .hbm, ⟨1, _⟩ => ⟨S1536x4096, .bf16⟩
  | .hbm, ⟨2, _⟩ => ⟨S4096x4096, .fp8e4m3⟩
  | .hbm, ⟨3, _⟩ => ⟨S1x4096, .f32⟩
  | .hbm, ⟨4, _⟩ => ⟨S1x4096, .f32⟩
  | .hbm, ⟨5, _⟩ => ⟨S1536x4096, .fp8e4m3⟩
  | .hbm, ⟨6, _⟩ => ⟨S1536x1, .f32⟩
  | .hbm, ⟨7, _⟩ => ⟨S1536x4096, .f32⟩
  | .hbm, ⟨8, _⟩ => ⟨S1536x4096, .fp8e4m3⟩
  | .hbm, ⟨9, _⟩ => ⟨S1536x1, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S4096x4096, .fp8e4m3⟩
  | .local _ .vmem, ⟨5, _⟩ => ⟨S1x4096, .f32⟩
  | .local _ .vmem, ⟨6, _⟩ => ⟨S1x4096, .f32⟩
  | .local _ .vmem, ⟨7, _⟩ => ⟨S256x4096, .fp8e4m3⟩
  | .local _ .vmem, ⟨8, _⟩ => ⟨S256x4096, .fp8e4m3⟩
  | .local _ .vmem, ⟨9, _⟩ => ⟨S256x1, .f32⟩
  | .local _ .vmem, ⟨10, _⟩ => ⟨S256x1, .f32⟩
  | .local _ .vmem, ⟨11, _⟩ => ⟨S256x4096, .f32⟩
  | .local _ .vmem, ⟨12, _⟩ => ⟨S256x4096, .f32⟩
  | .local _ .vmem, ⟨13, _⟩ => ⟨S256x4096, .fp8e4m3⟩
  | .local _ .vmem, ⟨14, _⟩ => ⟨S256x4096, .fp8e4m3⟩
  | .local _ .vmem, ⟨15, _⟩ => ⟨S256x1, .f32⟩
  | .local _ .vmem, ⟨16, _⟩ => ⟨S256x1, .f32⟩
  | _, _ => ⟨S1536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S1536x4096 : Shape := ⟨2, ![1536, 4096]⟩
abbrev S4096x4096 : Shape := ⟨2, ![4096, 4096]⟩
abbrev S1x4096 : Shape := ⟨2, ![1, 4096]⟩
abbrev S1536x1 : Shape := ⟨2, ![1536, 1]⟩
abbrev S1536 : Shape := ⟨1, ![1536]⟩

abbrev nBuf : Space → Nat
  | .hbm => 10
  | .vmem => 10
  | .smem => 0
  | _ => 0

abbrev bufTy : (tb : Table) → Fin (tcTables nBuf tb) → BufTy
  | .hbm, ⟨0, _⟩ => ⟨S1536x4096, .f32⟩
  | .hbm, ⟨1, _⟩ => ⟨S1536x4096, .bf16⟩
  | .hbm, ⟨2, _⟩ => ⟨S4096x4096, .fp8e4m3⟩
  | .hbm, ⟨3, _⟩ => ⟨S1x4096, .f32⟩
  | .hbm, ⟨4, _⟩ => ⟨S1x4096, .f32⟩
  | .hbm, ⟨5, _⟩ => ⟨S1536x4096, .fp8e4m3⟩
  | .hbm, ⟨6, _⟩ => ⟨S1536x1, .f32⟩
  | .hbm, ⟨7, _⟩ => ⟨S1536x4096, .f32⟩
  | .hbm, ⟨8, _⟩ => ⟨S1536x4096, .fp8e4m3⟩
  | .hbm, ⟨9, _⟩ => ⟨S1536x1, .f32⟩
  | .local _ .vmem, ⟨0, _⟩ => ⟨S1536x4096, .f32⟩
  | .local _ .vmem, ⟨1, _⟩ => ⟨S1536x4096, .bf16⟩
  | .local _ .vmem, ⟨2, _⟩ => ⟨S4096x4096, .fp8e4m3⟩
  | .local _ .vmem, ⟨3, _⟩ => ⟨S1x4096, .f32⟩
  | .local _ .vmem, ⟨4, _⟩ => ⟨S1x4096, .f32⟩
  | .local _ .vmem, ⟨5, _⟩ => ⟨S1536x4096, .fp8e4m3⟩
  | .local _ .vmem, ⟨6, _⟩ => ⟨S1536x1, .f32⟩
  | .local _ .vmem, ⟨7, _⟩ => ⟨S1536x4096, .f32⟩
  | .local _ .vmem, ⟨8, _⟩ => ⟨S1536x4096, .fp8e4m3⟩
  | .local _ .vmem, ⟨9, _⟩ => ⟨S1536x1, .f32⟩
  | _, _ => ⟨S1536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1536x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Ffn.lean ====
abbrev S1536x4096 : Shape := ⟨2, ![1536, 4096]⟩
abbrev S1536x1 : Shape := ⟨2, ![1536, 1]⟩
abbrev S10944x4096 : Shape := ⟨2, ![10944, 4096]⟩
abbrev S1x10944 : Shape := ⟨2, ![1, 10944]⟩
abbrev S1x4096 : Shape := ⟨2, ![1, 4096]⟩
abbrev S1536x10944 : Shape := ⟨2, ![1536, 10944]⟩
abbrev S512x4096 : Shape := ⟨2, ![512, 4096]⟩
abbrev S512x1 : Shape := ⟨2, ![512, 1]⟩
abbrev S1x512 : Shape := ⟨2, ![1, 512]⟩
abbrev S10944x256 : Shape := ⟨2, ![10944, 256]⟩
abbrev S1x256 : Shape := ⟨2, ![1, 256]⟩
abbrev S512x256 : Shape := ⟨2, ![512, 256]⟩
abbrev S512x768 : Shape := ⟨2, ![512, 768]⟩
abbrev S22x512x512 : Shape := ⟨3, ![22, 512, 512]⟩
abbrev S512x11520 : Shape := ⟨2, ![512, 11520]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩
abbrev S512x10752 : Shape := ⟨2, ![512, 10752]⟩
abbrev S10752x256 : Shape := ⟨2, ![10752, 256]⟩
abbrev S512x192 : Shape := ⟨2, ![512, 192]⟩
abbrev S192x256 : Shape := ⟨2, ![192, 256]⟩

abbrev nBuf : Space → Nat
  | .hbm => 12
  | .vmem => 27
  | .smem => 0
  | _ => 0

abbrev bufTy : (tb : Table) → Fin (tcTables nBuf tb) → BufTy
  | .hbm, ⟨0, _⟩ => ⟨S1536x4096, .fp8e4m3⟩
  | .hbm, ⟨1, _⟩ => ⟨S1536x1, .f32⟩
  | .hbm, ⟨2, _⟩ => ⟨S10944x4096, .fp8e4m3⟩
  | .hbm, ⟨3, _⟩ => ⟨S10944x4096, .fp8e4m3⟩
  | .hbm, ⟨4, _⟩ => ⟨S1x10944, .f32⟩
  | .hbm, ⟨5, _⟩ => ⟨S1x10944, .f32⟩
  | .hbm, ⟨6, _⟩ => ⟨S10944x4096, .fp8e4m3⟩
  | .hbm, ⟨7, _⟩ => ⟨S1x4096, .f32⟩
  | .hbm, ⟨8, _⟩ => ⟨S1536x4096, .f32⟩
  | .hbm, ⟨9, _⟩ => ⟨S1536x4096, .bf16⟩
  | .hbm, ⟨10, _⟩ => ⟨S1536x10944, .fp8e4m3⟩
  | .hbm, ⟨11, _⟩ => ⟨S1536x1, .f32⟩
  | .local _ .vmem, ⟨0, _⟩ => ⟨S512x4096, .fp8e4m3⟩
  | .local _ .vmem, ⟨1, _⟩ => ⟨S512x4096, .fp8e4m3⟩
  | .local _ .vmem, ⟨2, _⟩ => ⟨S512x1, .f32⟩
  | .local _ .vmem, ⟨3, _⟩ => ⟨S512x1, .f32⟩
  | .local _ .vmem, ⟨4, _⟩ => ⟨S512x4096, .fp8e4m3⟩
  | .local _ .vmem, ⟨5, _⟩ => ⟨S512x4096, .fp8e4m3⟩
  | .local _ .vmem, ⟨6, _⟩ => ⟨S512x4096, .fp8e4m3⟩
  | .local _ .vmem, ⟨7, _⟩ => ⟨S512x4096, .fp8e4m3⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S10944x256, .fp8e4m3⟩
  | .local _ .vmem, ⟨13, _⟩ => ⟨S10944x256, .fp8e4m3⟩
  | .local _ .vmem, ⟨14, _⟩ => ⟨S1x256, .f32⟩
  | .local _ .vmem, ⟨15, _⟩ => ⟨S1x256, .f32⟩
  | .local _ .vmem, ⟨16, _⟩ => ⟨S512x256, .f32⟩
  | .local _ .vmem, ⟨17, _⟩ => ⟨S512x256, .f32⟩
  | .local _ .vmem, ⟨18, _⟩ => ⟨S512x256, .bf16⟩
  | .local _ .vmem, ⟨19, _⟩ => ⟨S512x256, .bf16⟩
  | .local _ .vmem, ⟨20, _⟩ => ⟨S512x768, .fp8e4m3⟩
  | .local _ .vmem, ⟨21, _⟩ => ⟨S512x768, .fp8e4m3⟩
  | .local _ .vmem, ⟨22, _⟩ => ⟨S512x1, .f32⟩
  | .local _ .vmem, ⟨23, _⟩ => ⟨S512x1, .f32⟩
  | .local _ .vmem, ⟨24, _⟩ => ⟨S22x512x512, .f32⟩
  | .local _ .vmem, ⟨25, _⟩ => ⟨S512x11520, .fp8e4m3⟩
  | .local _ .vmem, ⟨26, _⟩ => ⟨S512x128, .f32⟩
  | _, _ => ⟨S1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![3, 38], ![false, false]⟩

def k0_cond1 (i : grid0.Coords) : BitVec 1 :=
  let arg1 : BitVec 32 := BitVec.ofNat 32 (i 1).val
  let c22_i32 : BitVec 32 := 22#32
  let v0 : BitVec 1 := Scalar.cmpi .slt arg1 c22_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg1 : BitVec 32 := BitVec.ofNat 32 (i 1).val
  let v38 : Index := Scalar.indexCast arg1
  let c0_17 : Index := 0#32
  let c0_18 : Index := 0#32
  ![v38.toNat, 0, 0]
def k0_cond3 (i : grid0.Coords) : BitVec 1 :=
  let arg1 : BitVec 32 := BitVec.ofNat 32 (i 1).val
  let c22_i32_2 : BitVec 32 := 22#32
  let v6 : BitVec 1 := Scalar.cmpi .sge arg1 c22_i32_2
  let v7 : BitVec 32 := Scalar.extui v6
  let c0_i32_3 : BitVec 32 := 0#32
  let v8 : BitVec 1 := Scalar.cmpi .ne v7 c0_i32_3
  v8

def k0_mult1 (i : grid0.Coords) : BitVec 32 :=
  let arg1 : BitVec 32 := BitVec.ofNat 32 (i 1).val
  let c22_i32_4 : BitVec 32 := 22#32
  let v9 : BitVec 32 := Scalar.subi arg1 c22_i32_4
  let c14_i32 : BitVec 32 := 14#32
  let v10 : BitVec 32 := Scalar.minsi v9 c14_i32
  let c768_i32 : BitVec 32 := 768#32
  let v11 : BitVec 32 := Scalar.muli v10 c768_i32
  v11
def k0_off2 (i : grid0.Coords) : Fin 2 → Nat :=
  let c0 : Index := 0#32
  let arg1 : BitVec 32 := BitVec.ofNat 32 (i 1).val
  let c22_i32_4 : BitVec 32 := 22#32
  let v9 : BitVec 32 := Scalar.subi arg1 c22_i32_4
  let c14_i32 : BitVec 32 := 14#32
  let v10 : BitVec 32 := Scalar.minsi v9 c14_i32
  let c768_i32 : BitVec 32 := 768#32
  let v11 : BitVec 32 := Scalar.muli v10 c768_i32
  let v12 : BitVec 32 := v11
  let v13 : Index := Scalar.indexCast v12
  ![0, v13.toNat]
def k0_cond2 (i : grid0.Coords) : BitVec 1 :=
  let arg1 : BitVec 32 := BitVec.ofNat 32 (i 1).val
  let c22_i32_0 : BitVec 32 := 22#32
  let v3 : BitVec 1 := Scalar.cmpi .eq arg1 c22_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.minsi arg1 c21_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.minsi arg1 c21_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.minsi arg1 c21_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.minsi arg1 c21_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.subi arg1 c22_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.subi arg1 c22_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.subi arg1 c22_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.subi arg1 c22_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.subi arg1 c22_i32
  let c0_i32 : BitVec 32 := 0#32
  let c14_i32 : BitVec 32 := 14#32
  let v1 : BitVec 32 := Scalar.maxsi c0_i32 v0
  let v2 : BitVec 32 := Scalar.minsi c14_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S10944x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x768 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnRefIdeal.lean ====
abbrev S1536x4096 : Shape := ⟨2, ![1536, 4096]⟩
abbrev S1536x1 : Shape := ⟨2, ![1536, 1]⟩
abbrev S10944x4096 : Shape := ⟨2, ![10944, 4096]⟩
abbrev S1x10944 : Shape := ⟨2, ![1, 10944]⟩
abbrev S1x4096 : Shape := ⟨2, ![1, 4096]⟩
abbrev S1536x10944 : Shape := ⟨2, ![1536, 10944]⟩
abbrev S4096x10944 : Shape := ⟨2, ![4096, 10944]⟩
abbrev S1536 : Shape := ⟨1, ![1536]⟩

abbrev nBuf : Space → Nat
  | .hbm => 12
  | .vmem => 12
  | .smem => 0
  | _ => 0

abbrev bufTy : (tb : Table) → Fin (tcTables nBuf tb) → BufTy
  | .hbm, ⟨0, _⟩ => ⟨S1536x4096, .fp8e4m3⟩
  | .hbm, ⟨1, _⟩ => ⟨S1536x1, .f32⟩
  | .hbm, ⟨2, _⟩ => ⟨S10944x4096, .fp8e4m3⟩
  | .hbm, ⟨3, _⟩ => ⟨S10944x4096, .fp8e4m3⟩
  | .hbm, ⟨4, _⟩ => ⟨S1x10944, .f32⟩
  | .hbm, ⟨5, _⟩ => ⟨S1x10944, .f32⟩
  | .hbm, ⟨6, _⟩ => ⟨S10944x4096, .fp8e4m3⟩
  | .hbm, ⟨7, _⟩ => ⟨S1x4096, .f32⟩
  | .hbm, ⟨8, _⟩ => ⟨S1536x4096, .f32⟩
  | .hbm, ⟨9, _⟩ => ⟨S1536x4096, .bf16⟩
  | .hbm, ⟨10, _⟩ => ⟨S1536x10944, .fp8e4m3⟩
  | .hbm, ⟨11, _⟩ => ⟨S1536x1, .f32⟩
  | .local _ .vmem, ⟨0, _⟩ => ⟨S1536x4096, .fp8e4m3⟩
  | .local _ .vmem, ⟨1, _⟩ => ⟨S1536x1, .f32⟩
  | .local _ .vmem, ⟨2, _⟩ => ⟨S10944x4096, .fp8e4m3⟩
  | .local _ .vmem, ⟨3, _⟩ => ⟨S10944x4096, .fp8e4m3⟩
  | .local _ .vmem, ⟨4, _⟩ => ⟨S1x10944, .f32⟩
  | .local _ .vmem, ⟨5, _⟩ => ⟨S1x10944, .f32⟩
  | .local _ .vmem, ⟨6, _⟩ => ⟨S10944x4096, .fp8e4m3⟩
  | .local _ .vmem, ⟨7, _⟩ => ⟨S1x4096, .f32⟩
  | .local _ .vmem, ⟨8, _⟩ => ⟨S1536x4096, .f32⟩
  | .local _ .vmem, ⟨9, _⟩ => ⟨S1536x4096, .bf16⟩
  | .local _ .vmem, ⟨10, _⟩ => ⟨S1536x10944, .fp8e4m3⟩
  | .local _ .vmem, ⟨11, _⟩ => ⟨S1536x1, .f32⟩
  | _, _ => ⟨S1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1536x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10944x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10944x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x10944 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x10944 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10944x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x10944 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Norm.lean ====
abbrev S1536x4096 : Shape := ⟨2, ![1536, 4096]⟩
abbrev S1x4096 : Shape := ⟨2, ![1, 4096]⟩
abbrev S16x4096 : Shape := ⟨2, ![16, 4096]⟩
abbrev S16x1 : Shape := ⟨2, ![16, 1]⟩
abbrev S1536x1 : Shape := ⟨2, ![1536, 1]⟩
abbrev S16x1536 : Shape := ⟨2, ![16, 1536]⟩
abbrev S128x4096 : Shape := ⟨2, ![128, 4096]⟩
abbrev S128x1 : Shape := ⟨2, ![128, 1]⟩
abbrev S16x128 : Shape := ⟨2, ![16, 128]⟩
abbrev S128x128 : Shape := ⟨2, ![128, 128]⟩
abbrev S8x128 : Shape := ⟨2, ![8, 128]⟩
abbrev S128 : Shape := ⟨1, ![128]⟩
abbrev S1x128 : Shape := ⟨2, ![1, 128]⟩

abbrev nBuf : Space → Nat
  | .hbm => 7
  | .vmem => 11
  | .smem => 0
  | _ => 0

abbrev bufTy : (tb : Table) → Fin (tcTables nBuf tb) → BufTy
  | .hbm, ⟨0, _⟩ => ⟨S1536x4096, .bf16⟩
  | .hbm, ⟨1, _⟩ => ⟨S1x4096, .f32⟩
  | .hbm, ⟨2, _⟩ => ⟨S16x4096, .f32⟩
  | .hbm, ⟨3, _⟩ => ⟨S16x1, .f32⟩
  | .hbm, ⟨4, _⟩ => ⟨S1536x4096, .fp8e4m3⟩
  | .hbm, ⟨5, _⟩ => ⟨S1536x1, .f32⟩
  | .hbm, ⟨6, _⟩ => ⟨S16x1536, .f32⟩
  | .local _ .vmem, ⟨0, _⟩ => ⟨S128x4096, .bf16⟩
  | .local _ .vmem, ⟨1, _⟩ => ⟨S128x4096, .bf16⟩
  | .local _ .vmem, ⟨2, _⟩ => ⟨S1x4096, .f32⟩
  | .local _ .vmem, ⟨3, _⟩ => ⟨S16x4096, .f32⟩
  | .local _ .vmem, ⟨4, _⟩ => ⟨S16x1, .f32⟩
  | .local _ .vmem, ⟨5, _⟩ => ⟨S128x4096, .fp8e4m3⟩
  | .local _ .vmem, ⟨6, _⟩ => ⟨S128x4096, .fp8e4m3⟩
  | .local _ .vmem, ⟨7, _⟩ => ⟨S128x1, .f32⟩
  | .local _ .vmem, ⟨8, _⟩ => ⟨S128x1, .f32⟩
  | .local _ .vmem, ⟨9, _⟩ => ⟨S16x128, .f32⟩
  | .local _ .vmem, ⟨10, _⟩ => ⟨S16x128, .f32⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormRefIdeal.lean ====
abbrev S1536x4096 : Shape := ⟨2, ![1536, 4096]⟩
abbrev S1x4096 : Shape := ⟨2, ![1, 4096]⟩
abbrev S16x4096 : Shape := ⟨2, ![16, 4096]⟩
abbrev S16x1 : Shape := ⟨2, ![16, 1]⟩
abbrev S1536x1 : Shape := ⟨2, ![1536, 1]⟩
abbrev S16x1536 : Shape := ⟨2, ![16, 1536]⟩
abbrev S1536 : Shape := ⟨1, ![1536]⟩
abbrev S4096x16 : Shape := ⟨2, ![4096, 16]⟩
abbrev S1x16 : Shape := ⟨2, ![1, 16]⟩
abbrev S1536x16 : Shape := ⟨2, ![1536, 16]⟩

abbrev nBuf : Space → Nat
  | .hbm => 7
  | .vmem => 7
  | .smem => 0
  | _ => 0

abbrev bufTy : (tb : Table) → Fin (tcTables nBuf tb) → BufTy
  | .hbm, ⟨0, _⟩ => ⟨S1536x4096, .bf16⟩
  | .hbm, ⟨1, _⟩ => ⟨S1x4096, .f32⟩
  | .hbm, ⟨2, _⟩ => ⟨S16x4096, .f32⟩
  | .hbm, ⟨3, _⟩ => ⟨S16x1, .f32⟩
  | .hbm, ⟨4, _⟩ => ⟨S1536x4096, .fp8e4m3⟩
  | .hbm, ⟨5, _⟩ => ⟨S1536x1, .f32⟩
  | .hbm, ⟨6, _⟩ => ⟨S16x1536, .f32⟩
  | .local _ .vmem, ⟨0, _⟩ => ⟨S1536x4096, .bf16⟩
  | .local _ .vmem, ⟨1, _⟩ => ⟨S1x4096, .f32⟩
  | .local _ .vmem, ⟨2, _⟩ => ⟨S16x4096, .f32⟩
  | .local _ .vmem, ⟨3, _⟩ => ⟨S16x1, .f32⟩
  | .local _ .vmem, ⟨4, _⟩ => ⟨S1536x4096, .fp8e4m3⟩
  | .local _ .vmem, ⟨5, _⟩ => ⟨S1536x1, .f32⟩
  | .local _ .vmem, ⟨6, _⟩ => ⟨S16x1536, .f32⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Qkv.lean ====
abbrev S1536x4096 : Shape := ⟨2, ![1536, 4096]⟩
abbrev S1536x1 : Shape := ⟨2, ![1536, 1]⟩
abbrev S8x4096x256 : Shape := ⟨3, ![8, 4096, 256]⟩
abbrev S8x4096x512 : Shape := ⟨3, ![8, 4096, 512]⟩
abbrev S8x1x256 : Shape := ⟨3, ![8, 1, 256]⟩
abbrev S8x1x512 : Shape := ⟨3, ![8, 1, 512]⟩
abbrev S8x4x3x128 : Shape := ⟨4, ![8, 4, 3, 128]⟩
abbrev S4x8x256x512 : Shape := ⟨4, ![4, 8, 256, 512]⟩
abbrev S4x8x1x256 : Shape := ⟨4, ![4, 8, 1, 256]⟩
abbrev S4x8x1x1 : Shape := ⟨4, ![4, 8, 1, 1]⟩
abbrev S8x1536x256 : Shape := ⟨3, ![8, 1536, 256]⟩
abbrev S8x1536x512 : Shape := ⟨3, ![8, 1536, 512]⟩
abbrev S384x1 : Shape := ⟨2, ![384, 1]⟩
abbrev S1x4096x256 : Shape := ⟨3, ![1, 4096, 256]⟩
abbrev S1x4096x512 : Shape := ⟨3, ![1, 4096, 512]⟩
abbrev S1x1x256 : Shape := ⟨3, ![1, 1, 256]⟩
abbrev S1x1x512 : Shape := ⟨3, ![1, 1, 512]⟩
abbrev S1x1x3x128 : Shape := ⟨4, ![1, 1, 3, 128]⟩
abbrev S1x1x256x512 : Shape := ⟨4, ![1, 1, 256, 512]⟩
abbrev S1x1x1x256 : Shape := ⟨4, ![1, 1, 1, 256]⟩
abbrev S1x1x1x1 : Shape := ⟨4, ![1, 1, 1, 1]⟩
abbrev S384x512 : Shape := ⟨2, ![384, 512]⟩
abbrev S1x384x256 : Shape := ⟨3, ![1, 384, 256]⟩
abbrev S1x384x512 : Shape := ⟨3, ![1, 384, 512]⟩
abbrev S256x512 : Shape := ⟨2, ![256, 512]⟩
abbrev S384x4096 : Shape := ⟨2, ![384, 4096]⟩
abbrev S4096x256 : Shape := ⟨2, ![4096, 256]⟩
abbrev S384x256 : Shape := ⟨2, ![384, 256]⟩
abbrev S1x256 : Shape := ⟨2, ![1, 256]⟩
abbrev S384 : Shape := ⟨1, ![384]⟩
abbrev S4096x512 : Shape := ⟨2, ![4096, 512]⟩
abbrev S1x512 : Shape := ⟨2, ![1, 512]⟩
abbrev S128x128 : Shape := ⟨2, ![128, 128]⟩
abbrev S256x256 : Shape := ⟨2, ![256, 256]⟩
abbrev S256 : Shape := ⟨1, ![256]⟩
abbrev S256x1 : Shape := ⟨2, ![256, 1]⟩
abbrev S1x1 : Shape := ⟨2, ![1, 1]⟩
abbrev S128x256 : Shape := ⟨2, ![128, 256]⟩
abbrev S128x512 : Shape := ⟨2, ![128, 512]⟩
abbrev S128x1 : Shape := ⟨2, ![128, 1]⟩
abbrev S128 : Shape := ⟨1, ![128]⟩
abbrev S1x128 : Shape := ⟨2, ![1, 128]⟩
abbrev S1x1x1x128 : Shape := ⟨4, ![1, 1, 1, 128]⟩
abbrev S1 : Shape := ⟨1, ![1]⟩
abbrev S256x128 : Shape := ⟨2, ![256, 128]⟩

abbrev nBuf : Space → Nat
  | .hbm => 29
  | .vmem => 58
  | .smem => 0
  | _ => 0

abbrev bufTy : (tb : Table) → Fin (tcTables nBuf tb) → BufTy
  | .hbm, ⟨0, _⟩ => ⟨S1536x4096, .fp8e4m3⟩
  | .hbm, ⟨1, _⟩ => ⟨S1536x1, .f32⟩
  | .hbm, ⟨2, _⟩ => ⟨S8x4096x256, .fp8e4m3⟩
  | .hbm, ⟨3, _⟩ => ⟨S8x4096x256, .fp8e4m3⟩
  | .hbm, ⟨4, _⟩ => ⟨S8x4096x512, .fp8e4m3⟩
  | .hbm, ⟨5, _⟩ => ⟨S8x4096x512, .fp8e4m3⟩
  | .hbm, ⟨6, _⟩ => ⟨S8x1x256, .f32⟩
  | .hbm, ⟨7, _⟩ => ⟨S8x1x256, .f32⟩
  | .hbm, ⟨8, _⟩ => ⟨S8x1x512, .f32⟩
  | .hbm, ⟨9, _⟩ => ⟨S8x1x512, .f32⟩
  | .hbm, ⟨10, _⟩ => ⟨S8x4x3x128, .f32⟩
  | .hbm, ⟨11, _⟩ => ⟨S8x4x3x128, .f32⟩
  | .hbm, ⟨12, _⟩ => ⟨S8x1x512, .f32⟩
  | .hbm, ⟨13, _⟩ => ⟨S4x8x256x512, .fp8e4m3⟩
  | .hbm, ⟨14, _⟩ => ⟨S4x8x1x256, .f32⟩
  | .hbm, ⟨15, _⟩ => ⟨S4x8x1x256, .f32⟩
  | .hbm, ⟨16, _⟩ => ⟨S4x8x1x1, .f32⟩
  | .hbm, ⟨17, _⟩ => ⟨S1536x4096, .f32⟩
  | .hbm, ⟨18, _⟩ => ⟨S1536x4096, .f32⟩
  | .hbm, ⟨19, _⟩ => ⟨S8x1536x256, .fp8e4m3⟩
  | .hbm, ⟨20, _⟩ => ⟨S8x4x3x128, .f32⟩
  | .hbm, ⟨21, _⟩ => ⟨S8x1536x256, .fp8e4m3⟩
  | .hbm, ⟨22, _⟩ => ⟨S8x4x3x128, .f32⟩
  | .hbm, ⟨23, _⟩ => ⟨S8x1536x512, .fp8e4m3⟩
  | .hbm, ⟨24, _⟩ => ⟨S8x4x3x128, .f32⟩
  | .hbm, ⟨25, _⟩ => ⟨S4x8x256x512, .fp8e4m3⟩
  | .hbm, ⟨26, _⟩ => ⟨S4x8x1x256, .f32⟩
  | .hbm, ⟨27, _⟩ => ⟨S4x8x1x256, .f32⟩
  | .hbm, ⟨28, _⟩ => ⟨S4x8x1x1, .f32⟩
  | .local _ .vmem, ⟨0, _⟩ => ⟨S1536x4096, .fp8e4m3⟩
  | .local _ .vmem, ⟨1, _⟩ => ⟨S384x1, .f32⟩
  | .local _ .vmem, ⟨2, _⟩ => ⟨S384x1, .f32⟩
  | .local _ .vmem, ⟨3, _⟩ => ⟨S1x4096x256, .fp8e4m3⟩
  | .local _ .vmem, ⟨4, _⟩ => ⟨S1x4096x256, .fp8e4m3⟩
  | .local _ .vmem, ⟨5, _⟩ => ⟨S1x4096x256, .fp8e4m3⟩
  | .local _ .vmem, ⟨6, _⟩ => ⟨S1x4096x256, .fp8e4m3⟩
  | .local _ .vmem, ⟨7, _⟩ => ⟨S1x4096x512, .fp8e4m3⟩
  | .local _ .vmem, ⟨8, _⟩ => ⟨S1x4096x512, .fp8e4m3⟩
  | .local _ .vmem, ⟨9, _⟩ => ⟨S1x4096x512, .fp8e4m3⟩
  | .local _ .vmem, ⟨10, _⟩ => ⟨S1x4096x512, .fp8e4m3⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x3x128, .f32⟩
  | .local _ .vmem, ⟨20, _⟩ => ⟨S1x1x3x128, .f32⟩
  | .local _ .vmem, ⟨21, _⟩ => ⟨S1x1x3x128, .f32⟩
  | .local _ .vmem, ⟨22, _⟩ => ⟨S1x1x3x128, .f32⟩
  | .local _ .vmem, ⟨23, _⟩ => ⟨S1x1x512, .f32⟩
  | .local _ .vmem, ⟨24, _⟩ => ⟨S1x1x512, .f32⟩
  | .local _ .vmem, ⟨25, _⟩ => ⟨S1x1x256x512, .fp8e4m3⟩
  | .local _ .vmem, ⟨26, _⟩ => ⟨S1x1x256x512, .fp8e4m3⟩
  | .local _ .vmem, ⟨27, _⟩ => ⟨S1x1x1x256, .f32⟩
  | .local _ .vmem, ⟨28, _⟩ => ⟨S1x1x1x256, .f32⟩
  | .local _ .vmem, ⟨29, _⟩ => ⟨S1x1x1x256, .f32⟩
  | .local _ .vmem, ⟨30, _⟩ => ⟨S1x1x1x256, .f32⟩
  | .local _ .vmem, ⟨31, _⟩ => ⟨S1x1x1x1, .f32⟩
  | .local _ .vmem, ⟨32, _⟩ => ⟨S1x1x1x1, .f32⟩
  | .local _ .vmem, ⟨33, _⟩ => ⟨S384x512, .f32⟩
  | .local _ .vmem, ⟨34, _⟩ => ⟨S384x512, .f32⟩
  | .local _ .vmem, ⟨35, _⟩ => ⟨S384x512, .f32⟩
  | .local _ .vmem, ⟨36, _⟩ => ⟨S384x512, .f32⟩
  | .local _ .vmem, ⟨37, _⟩ => ⟨S1x384x256, .fp8e4m3⟩
  | .local _ .vmem, ⟨38, _⟩ => ⟨S1x384x256, .fp8e4m3⟩
  | .local _ .vmem, ⟨39, _⟩ => ⟨S1x1x3x128, .f32⟩
  | .local _ .vmem, ⟨40, _⟩ => ⟨S1x1x3x128, .f32⟩
  | .local _ .vmem, ⟨41, _⟩ => ⟨S1x384x256, .fp8e4m3⟩
  | .local _ .vmem, ⟨42, _⟩ => ⟨S1x384x256, .fp8e4m3⟩
  | .local _ .vmem, ⟨43, _⟩ => ⟨S1x1x3x128, .f32⟩
  | .local _ .vmem, ⟨44, _⟩ => ⟨S1x1x3x128, .f32⟩
  | .local _ .vmem, ⟨45, _⟩ => ⟨S1x384x512, .fp8e4m3⟩
  | .local _ .vmem, ⟨46, _⟩ => ⟨S1x384x512, .fp8e4m3⟩
  | .local _ .vmem, ⟨47, _⟩ => ⟨S1x1x3x128, .f32⟩
  | .local _ .vmem, ⟨48, _⟩ => ⟨S1x1x3x128, .f32⟩
  | .local _ .vmem, ⟨49, _⟩ => ⟨S1x1x256x512, .fp8e4m3⟩
  | .local _ .vmem, ⟨50, _⟩ => ⟨S1x1x256x512, .fp8e4m3⟩
  | .local _ .vmem, ⟨51, _⟩ => ⟨S1x1x1x256, .f32⟩
  | .local _ .vmem, ⟨52, _⟩ => ⟨S1x1x1x256, .f32⟩
  | .local _ .vmem, ⟨53, _⟩ => ⟨S1x1x1x256, .f32⟩
  | .local _ .vmem, ⟨54, _⟩ => ⟨S1x1x1x256, .f32⟩
  | .local _ .vmem, ⟨55, _⟩ => ⟨S1x1x1x1, .f32⟩
  | .local _ .vmem, ⟨56, _⟩ => ⟨S1x1x1x1, .f32⟩
  | .local _ .vmem, ⟨57, _⟩ => ⟨S256x512, .f32⟩
  | _, _ => ⟨S1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev main_v0_4 : Ref sig .tc := ⟨.hbm, 21, rfl⟩
abbrev main_v0_5 : Ref sig .tc := ⟨.hbm, 22, rfl⟩
abbrev main_v0_6 : Ref sig .tc := ⟨.hbm, 23, rfl⟩
abbrev main_v0_7 : Ref sig .tc := ⟨.hbm, 24, rfl⟩
abbrev main_v0_8 : Ref sig .tc := ⟨.hbm, 25, rfl⟩
abbrev main_v0_9 : Ref sig .tc := ⟨.hbm, 26, rfl⟩
abbrev main_v0_10 : Ref sig .tc := ⟨.hbm, 27, rfl⟩
abbrev main_v0_11 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_stg22_0 : Ref sig .tc := ⟨.vmem, 43, rfl⟩
abbrev cc0_stg22_1 : Ref sig .tc := ⟨.vmem, 44, rfl⟩
abbrev cc0_stg23_0 : Ref sig .tc := ⟨.vmem, 45, rfl⟩
abbrev cc0_stg23_1 : Ref sig .tc := ⟨.vmem, 46, rfl⟩
abbrev cc0_stg24_0 : Ref sig .tc := ⟨.vmem, 47, rfl⟩
abbrev cc0_stg24_1 : Ref sig .tc := ⟨.vmem, 48, rfl⟩
abbrev cc0_stg25_0 : Ref sig .tc := ⟨.vmem, 49, rfl⟩
abbrev cc0_stg25_1 : Ref sig .tc := ⟨.vmem, 50, rfl⟩
abbrev cc0_stg26_0 : Ref sig .tc := ⟨.vmem, 51, rfl⟩
abbrev cc0_stg26_1 : Ref sig .tc := ⟨.vmem, 52, rfl⟩
abbrev cc0_stg27_0 : Ref sig .tc := ⟨.vmem, 53, rfl⟩
abbrev cc0_stg27_1 : Ref sig .tc := ⟨.vmem, 54, rfl⟩
abbrev cc0_stg28_0 : Ref sig .tc := ⟨.vmem, 55, rfl⟩
abbrev cc0_stg28_1 : Ref sig .tc := ⟨.vmem, 56, rfl⟩
abbrev cc0_scratch0 : Ref sig .tc := ⟨.vmem, 57, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46
abbrev cc0_sem24_0 : DmaSem sig := 47
abbrev cc0_sem24_1 : DmaSem sig := 48
abbrev cc0_sem25_0 : DmaSem sig := 49
abbrev cc0_sem25_1 : DmaSem sig := 50
abbrev cc0_sem26_0 : DmaSem sig := 51
abbrev cc0_sem26_1 : DmaSem sig := 52
abbrev cc0_sem27_0 : DmaSem sig := 53
abbrev cc0_sem27_1 : DmaSem sig := 54
abbrev cc0_sem28_0 : DmaSem sig := 55
abbrev cc0_sem28_1 : DmaSem sig := 56

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let arg1 : BitVec 32 := BitVec.ofNat 32 (i 1).val
  let c384_i32 : BitVec 32 := 384#32
  let v0 : BitVec 32 := Scalar.muli arg1 c384_i32
  let v1 : Index := Scalar.indexCast v0
  let c0 : Index := 0#32
  ![v1.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_25 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_26 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_27 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_28 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 1 → Memref sig .tc .vmem S1536x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x3x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x3x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x256x512 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x1x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S384x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S384x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x384x256 .fp8e4m3 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x3x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x384x256 .fp8e4m3 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1x3x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x384x512 .fp8e4m3 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1x3x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1x256x512 .fp8e4m3 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x1x1x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x1x1x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x1x1x1 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]
-- ==== QkvRefIdeal.lean ====
abbrev S1536x4096 : Shape := ⟨2, ![1536, 4096]⟩
abbrev S1536x1 : Shape := ⟨2, ![1536, 1]⟩
abbrev S8x4096x256 : Shape := ⟨3, ![8, 4096, 256]⟩
abbrev S8x4096x512 : Shape := ⟨3, ![8, 4096, 512]⟩
abbrev S8x1x256 : Shape := ⟨3, ![8, 1, 256]⟩
abbrev S8x1x512 : Shape := ⟨3, ![8, 1, 512]⟩
abbrev S8x4x3x128 : Shape := ⟨4, ![8, 4, 3, 128]⟩
abbrev S4x8x256x512 : Shape := ⟨4, ![4, 8, 256, 512]⟩
abbrev S4x8x1x256 : Shape := ⟨4, ![4, 8, 1, 256]⟩
abbrev S4x8x1x1 : Shape := ⟨4, ![4, 8, 1, 1]⟩
abbrev S8x1536x256 : Shape := ⟨3, ![8, 1536, 256]⟩
abbrev S8x1536x512 : Shape := ⟨3, ![8, 1536, 512]⟩
abbrev S1x1536x4096 : Shape := ⟨3, ![1, 1536, 4096]⟩
abbrev S8x1536x4096 : Shape := ⟨3, ![8, 1536, 4096]⟩
abbrev S1x1536x1 : Shape := ⟨3, ![1, 1536, 1]⟩
abbrev S8x1536 : Shape := ⟨2, ![8, 1536]⟩
abbrev S8x1536x1 : Shape := ⟨3, ![8, 1536, 1]⟩

abbrev nBuf : Space → Nat
  | .hbm => 23
  | .vmem => 14
  | .smem => 0
  | _ => 0

abbrev bufTy : (tb : Table) → Fin (tcTables nBuf tb) → BufTy
  | .hbm, ⟨0, _⟩ => ⟨S1536x4096, .fp8e4m3⟩
  | .hbm, ⟨1, _⟩ => ⟨S1536x1, .f32⟩
  | .hbm, ⟨2, _⟩ => ⟨S8x4096x256, .fp8e4m3⟩
  | .hbm, ⟨3, _⟩ => ⟨S8x4096x256, .fp8e4m3⟩
  | .hbm, ⟨4, _⟩ => ⟨S8x4096x512, .fp8e4m3⟩
  | .hbm, ⟨5, _⟩ => ⟨S8x4096x512, .fp8e4m3⟩
  | .hbm, ⟨6, _⟩ => ⟨S8x1x256, .f32⟩
  | .hbm, ⟨7, _⟩ => ⟨S8x1x256, .f32⟩
  | .hbm, ⟨8, _⟩ => ⟨S8x1x512, .f32⟩
  | .hbm, ⟨9, _⟩ => ⟨S8x1x512, .f32⟩
  | .hbm, ⟨10, _⟩ => ⟨S8x4x3x128, .f32⟩
  | .hbm, ⟨11, _⟩ => ⟨S8x4x3x128, .f32⟩
  | .hbm, ⟨12, _⟩ => ⟨S8x1x512, .f32⟩
  | .hbm, ⟨13, _⟩ => ⟨S4x8x256x512, .fp8e4m3⟩
  | .hbm, ⟨14, _⟩ => ⟨S4x8x1x256, .f32⟩
  | .hbm, ⟨15, _⟩ => ⟨S4x8x1x256, .f32⟩
  | .hbm, ⟨16, _⟩ => ⟨S4x8x1x1, .f32⟩
  | .hbm, ⟨17, _⟩ => ⟨S8x1536x256, .fp8e4m3⟩
  | .hbm, ⟨18, _⟩ => ⟨S8x4x3x128, .f32⟩
  | .hbm, ⟨19, _⟩ => ⟨S8x1536x256, .fp8e4m3⟩
  | .hbm, ⟨20, _⟩ => ⟨S8x4x3x128, .f32⟩
  | .hbm, ⟨21, _⟩ => ⟨S8x1536x512, .fp8e4m3⟩
  | .hbm, ⟨22, _⟩ => ⟨S8x4x3x128, .f32⟩
  | .local _ .vmem, ⟨0, _⟩ => ⟨S1536x4096, .fp8e4m3⟩
  | .local _ .vmem, ⟨1, _⟩ => ⟨S1536x1, .f32⟩
  | .local _ .vmem, ⟨2, _⟩ => ⟨S8x4096x256, .fp8e4m3⟩
  | .local _ .vmem, ⟨3, _⟩ => ⟨S8x4096x256, .fp8e4m3⟩
  | .local _ .vmem, ⟨4, _⟩ => ⟨S8x4096x512, .fp8e4m3⟩
  | .local _ .vmem, ⟨5, _⟩ => ⟨S8x1x256, .f32⟩
  | .local _ .vmem, ⟨6, _⟩ => ⟨S8x1x256, .f32⟩
  | .local _ .vmem, ⟨7, _⟩ => ⟨S8x1x512, .f32⟩
  | .local _ .vmem, ⟨8, _⟩ => ⟨S8x1536x256, .fp8e4m3⟩
  | .local _ .vmem, ⟨9, _⟩ => ⟨S8x4x3x128, .f32⟩
  | .local _ .vmem, ⟨10, _⟩ => ⟨S8x1536x256, .fp8e4m3⟩
  | .local _ .vmem, ⟨11, _⟩ => ⟨S8x4x3x128, .f32⟩
  | .local _ .vmem, ⟨12, _⟩ => ⟨S8x1536x512, .fp8e4m3⟩
  | .local _ .vmem, ⟨13, _⟩ => ⟨S8x4x3x128, .f32⟩
  | _, _ => ⟨S1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev main_v0_4 : Ref sig .tc := ⟨.hbm, 21, rfl⟩
abbrev main_v0_5 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1536x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1536x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x4x3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1536x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x4x3x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x1536x512 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x4x3x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Rows.lean ====
/-
  Hand-written, untrusted. The row vocabulary the value proofs share, at the reals and at any extents: a row's maximum and sum,
  a column and a row broadcast over a matrix, and the quantiser of one row (the scale its largest magnitude gives, the codes).
-/
module

public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.ValueIdxCoords
public import Idealize.ShloMosaic.PureOps.Ideal.Laws

@[expose] public section

set_option maxRecDepth 16384

noncomputable section

namespace Cert.Proof.Rows

open Idealize.ShloMosaic Idealize.ShloMosaic.ValueIdx

/-- The kept row with a column put back is that element of the row. -/
theorem lift_row {n k : ℕ} (h : (⟨2, ![n, k]⟩ : Shape).Reduces [1] ⟨1, ![n]⟩) (r : Fin n) (c : Fin k) :
    h.lift (ix1 r) c = (ix2 r c : (⟨2, ![n, k]⟩ : Shape).Idx) := by
  funext a
  match a with
  | ⟨0, _⟩ => exact Fin.ext rfl
  | ⟨1, _⟩ => exact Fin.ext rfl

/-- A row's maximum, from the accumulator's value. -/
theorem rowMax_apply {n k : ℕ} {φ : FTy} (v : FVec Ideal ⟨2, ![n, k]⟩ φ) (acc : BitVec φ.bits)
    (h : (⟨2, ![n, k]⟩ : Shape).Reduces [1] ⟨1, ![n]⟩) (hφ : FKind.Formats φ) (hacc : acc = FKind.maximumf.neutral φ hφ) (r : Fin n) :
    multiReduction .maximumf [1] ⟨1, ![n]⟩ v acc h hφ hacc (ix1 r)
      = (Finset.univ : Finset (Fin k)).fold max (Ideal.ofBits φ acc) (fun c => v (ix2 r c)) := by
  rw [Ideal.multiReduction_maximumf_single]
  refine congrArg (Finset.fold max (Ideal.ofBits φ acc) · Finset.univ) (funext fun c => ?_)
  exact congrArg v (lift_row h r c)

/-- A row's sum. -/
theorem rowSum_apply {n k : ℕ} {φ : FTy} (v : FVec Ideal ⟨2, ![n, k]⟩ φ) (acc : BitVec φ.bits)
    (h : (⟨2, ![n, k]⟩ : Shape).Reduces [1] ⟨1, ![n]⟩) (hφ : FKind.Formats φ) (hacc : acc = FKind.add.neutral φ hφ) (r : Fin n) :
    multiReduction .add [1] ⟨1, ![n]⟩ v acc h hφ hacc (ix1 r) = ∑ c : Fin k, v (ix2 r c) := by
  rw [Ideal.multiReduction_add_single]
  exact Finset.sum_congr rfl fun c _ => congrArg v (lift_row h r c)

/-- A column broadcast over a matrix. -/
theorem bcol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem absf_apply {s : Shape} {φ : FTy} (a : FVec Ideal s φ) (i : s.Idx) : absf a i = FloatOps.absf (a i) := rfl
theorem sqrt_apply {s : Shape} {φ : FTy} (a : FVec Ideal s φ) (i : s.Idx) : sqrt a i = FloatOps.sqrt (a i) := rfl

/-- The largest magnitude of a row. -/
def amax {k : ℕ} (f : Fin k → EReal) : EReal :=
  (Finset.univ : Finset (Fin k)).fold max (Ideal.ofBits .f32 0xFF800000#32) (fun c => FloatOps.absf (F := Ideal) (φ := .f32) (f c))

theorem rowAmax_apply {n k : ℕ} (v : FVec Ideal ⟨2, ![n, k]⟩ .f32) (h : (⟨2, ![n, k]⟩ : Shape).Reduces [1] ⟨1, ![n]⟩)
    (hφ : FKind.Formats .f32) (hacc : (0xFF800000#32 : BitVec 32) = FKind.maximumf.neutral .f32 hφ) (r : Fin n) :
    multiReduction .maximumf [1] ⟨1, ![n]⟩ (absf v) 0xFF800000#32 h hφ hacc (ix1 r) = amax fun c => v (ix2 r c) :=
  rowMax_apply _ _ h hφ hacc r

/-- A row's sum at its printed accumulator. -/
theorem rowSum32_apply {n k : ℕ} (v : FVec Ideal ⟨2, ![n, k]⟩ .f32) (h : (⟨2, ![n, k]⟩ : Shape).Reduces [1] ⟨1, ![n]⟩)
    (hφ : FKind.Formats .f32) (hacc : (0x00000000#32 : BitVec 32) = FKind.add.neutral .f32 hφ) (r : Fin n) :
    multiReduction .add [1] ⟨1, ![n]⟩ v 0x00000000#32 h hφ hacc (ix1 r) = ∑ c : Fin k, v (ix2 r c) :=
  rowSum_apply _ _ h hφ hacc r

/-- The scale a largest magnitude gives. -/
def scale (a : EReal) : EReal :=
  Scalar.select (FloatOps.cmpf (F := Ideal) (φ := .f32) .oeq a (Scalar.ofBits (F := Ideal) .f32 0x00000000#32)) (Scalar.ofBits (F := Ideal) .f32 0x3F800000#32)
    (Ideal.div a (Scalar.ofBits (F := Ideal) .f32 0x43E00000#32))

/-- The code of a value under a scale. -/
def code (s x : EReal) : EReal :=
  min (Scalar.ofBits (F := Ideal) .f32 0x43E00000#32) (max (Scalar.ofBits (F := Ideal) .f32 0xC3E00000#32) (Ideal.div x s))

end Cert.Proof.Rows

end
-- ==== Proof.OutRows.lean ====
/-
  Hand-written, untrusted. The output projection's payloads, of the kernel (a block of 256 rows) and of the reference (all 1536
  rows), each read at a row: every one is a function of that row of its operands, the same on both sides.
-/
module

public import proofs.«01_k».proof.Proof.Rows
public import proofs.«01_k».proof.Proof.Gen.OutIdeal.Skeleton
public import proofs.«01_k».proof.Proof.Gen.OutRefIdeal.Skeleton

@[expose] public section

set_option maxRecDepth 16384

noncomputable section

namespace Cert.Proof.OutRows

open Idealize.ShloMosaic Idealize.ShloMosaic.ValueIdx Cert.Proof.Rows

/-- A row of the projection with the residual and the scales. -/
def x1 (f x : Fin 4096 → EReal) (w : (⟨2, ![4096, 4096]⟩ : Shape).Idx → EReal) (so : Fin 4096 → EReal) (c : Fin 4096) : EReal :=
  x c + (∑ k : Fin 4096, code (scale (amax f)) (f k) * w (ix2 k c)) * scale (amax f) * so c

/-- The root mean square of a row of 4096 values whose squares sum to `q`. -/
def rms (q : EReal) : EReal :=
  FloatOps.sqrt (F := Ideal) (φ := .f32) (Ideal.div q (Scalar.ofBits (F := Ideal) .f32 0x45800000#32) + Scalar.ofBits (F := Ideal) .f32 0x358637BD#32)

/-- A row over its root mean square, times the gain. -/
def norm (f g : Fin 4096 → EReal) (c : Fin 4096) : EReal :=
  Ideal.div (f c) (rms (∑ k : Fin 4096, f k * f k)) * g c

namespace K
open Cert.OutIdeal Cert.OutIdeal.Gen

theorem scale_row (X : Vec Ideal S256x4096 .f32) (r : Fin 256) (u : Fin 1) :
    k0_pay4 (F := Ideal) X (ix2 r u) = scale (amax fun c => X (ix2 r c)) := by
  unfold k0_pay4
  simp -implicitDefEqProofs only [select_apply, cmpf_apply, divf_apply, broadcast_apply, shapeCast_a_a1_apply]
  exact congrArg scale (rowAmax_apply X _ _ _ r)

theorem codes_row (X : Vec Ideal S256x4096 .f32) (r : Fin 256) (c : Fin 4096) :
    k0_pay5 (F := Ideal) X (ix2 r c) = code (scale (amax fun c => X (ix2 r c))) (X (ix2 r c)) := by
  unfold k0_pay5 code
  simp -implicitDefEqProofs only [truncf_apply, minimumf_apply, maximumf_apply, divf_apply, broadcast_apply, bcol_apply, scale_row]

theorem x1_row (X : Vec Ideal S256x4096 .f32) (X1 : Vec Ideal S256x4096 .bf16) (W : Vec Ideal S4096x4096 .fp8e4m3) (s : Vec Ideal S1x4096 .f32)
    (r : Fin 256) (c : Fin 4096) :
    k0_pay6 (F := Ideal) X X1 W s (ix2 r c)
      = x1 (fun c => X (ix2 r c)) (fun c => X1 (ix2 r c)) W (fun c => s (ix2 0 c)) c := by
  have hd : dot_S256x4096_S4096x4096_S256x4096_1_0_0_1_n_n = DotDims.plain 256 4096 4096 := rfl
  unfold k0_pay6 x1
  simp -implicitDefEqProofs only [addf_apply, mulf_apply, extf_apply, bcol_apply, broadcastTo_1b_ab_apply, scale_row, codes_row, hd, matmul,
    Ideal.matmul_plain_apply, constant_apply, Ideal.ofBits_zero_f32, zero_add]

theorem norm_row (P V : FVec Ideal S256x4096 .f32) (g : Vec Ideal S1x4096 .f32) (hV : V = mulf P P) (r : Fin 256) (c : Fin 4096) :
    k0_pay1 (F := Ideal) P g V (ix2 r c) = norm (fun c => P (ix2 r c)) (fun c => g (ix2 0 c)) c := by
  subst hV
  unfold k0_pay1
  simp -implicitDefEqProofs only [addf_apply, mulf_apply, divf_apply, sqrt_apply, bcol_apply, broadcastTo_1b_ab_apply, shapeCast_a_a1_apply,
    broadcast_apply]
  exact congrArg (fun q => Ideal.div (P (ix2 r c)) (rms q) * g (ix2 0 c)) (rowSum32_apply (mulf P P) _ _ _ r)

theorem scale2_row (P V : FVec Ideal S256x4096 .f32) (g : Vec Ideal S1x4096 .f32) (hV : V = mulf P P) (r : Fin 256) (u : Fin 1) :
    k0_pay2 (F := Ideal) P g V (ix2 r u) = scale (amax (norm (fun c => P (ix2 r c)) (fun c => g (ix2 0 c)))) := by
  unfold k0_pay2
  simp -implicitDefEqProofs only [select_apply, cmpf_apply, divf_apply, broadcast_apply, shapeCast_a_a1_apply]
  exact congrArg scale ((rowAmax_apply (k0_pay1 (F := Ideal) P g V) _ _ _ r).trans (congrArg amax (funext fun c => norm_row P V g hV r c)))

theorem codes2_row (P V : FVec Ideal S256x4096 .f32) (g : Vec Ideal S1x4096 .f32) (hV : V = mulf P P) (r : Fin 256) (c : Fin 4096) :
    k0_pay3 (F := Ideal) P g V (ix2 r c)
      = code (scale (amax (norm (fun c => P (ix2 r c)) (fun c => g (ix2 0 c))))) (norm (fun c => P (ix2 r c)) (fun c => g (ix2 0 c)) c) := by
  unfold k0_pay3 code
  simp -implicitDefEqProofs only [truncf_apply, minimumf_apply, maximumf_apply, divf_apply, broadcast_apply, bcol_apply, scale2_row _ _ _ hV, norm_row _ _ _ hV]

end K

namespace R
open Cert.OutRefIdeal Cert.OutRefIdeal.Gen

theorem scale_row (X : Vec Ideal S1536x4096 .f32) (r : Fin 1536) :
    k0_pay5 (F := Ideal) X (ix1 r) = scale (amax fun c => X (ix2 r c)) := by
  unfold k0_pay5
  simp -implicitDefEqProofs only [select_apply, cmpf_apply, divf_apply, broadcast_apply]
  exact congrArg scale (rowAmax_apply X _ _ _ r)

theorem scales_row (X : Vec Ideal S1536x4096 .f32) (r : Fin 1536) (u : Fin 1) :
    k0_pay7 (F := Ideal) X (ix2 r u) = scale (amax fun c => X (ix2 r c)) := by
  unfold k0_pay7
  simp -implicitDefEqProofs only [shapeCast_a_a1_apply, scale_row]

theorem codes_row (X : Vec Ideal S1536x4096 .f32) (r : Fin 1536) (c : Fin 4096) :
    k0_pay6 (F := Ideal) X (ix2 r c) = code (scale (amax fun c => X (ix2 r c))) (X (ix2 r c)) := by
  unfold k0_pay6 code
  simp -implicitDefEqProofs only [truncf_apply, minimumf_apply, maximumf_apply, divf_apply, broadcast_apply, bcol_apply, shapeCast_a_a1_apply, scale_row]

theorem x1_row (X : Vec Ideal S1536x4096 .f32) (X1 : Vec Ideal S1536x4096 .bf16) (W : Vec Ideal S4096x4096 .fp8e4m3) (s : Vec Ideal S1x4096 .f32)
    (r : Fin 1536) (c : Fin 4096) :
    k0_pay8 (F := Ideal) X X1 W s (ix2 r c)
      = x1 (fun c => X (ix2 r c)) (fun c => X1 (ix2 r c)) W (fun c => s (ix2 0 c)) c := by
  have hd : dot_S1536x4096_S4096x4096_S1536x4096_1_0_0_1_n_n = DotDims.plain 1536 4096 4096 := rfl
  unfold k0_pay8 x1
  simp -implicitDefEqProofs only [addf_apply, mulf_apply, extf_apply, bcol_apply, broadcastTo_1b_ab_apply, scales_row, codes_row, hd, matmul,
    Ideal.matmul_plain_apply, constant_apply, Ideal.ofBits_zero_f32, zero_add]

theorem norm_row (P V : FVec Ideal S1536x4096 .f32) (g : Vec Ideal S1x4096 .f32) (hV : V = mulf P P) (r : Fin 1536) (c : Fin 4096) :
    k0_pay1 (F := Ideal) P g V (ix2 r c) = norm (fun c => P (ix2 r c)) (fun c => g (ix2 0 c)) c := by
  subst hV
  unfold k0_pay1
  simp -implicitDefEqProofs only [addf_apply, mulf_apply, divf_apply, sqrt_apply, bcol_apply, broadcastTo_1b_ab_apply, shapeCast_a_a1_apply,
    broadcast_apply]
  exact congrArg (fun q => Ideal.div (P (ix2 r c)) (rms q) * g (ix2 0 c)) (rowSum32_apply (mulf P P) _ _ _ r)

theorem scale2_row (P V : FVec Ideal S1536x4096 .f32) (g : Vec Ideal S1x4096 .f32) (hV : V = mulf P P) (r : Fin 1536) :
    k0_pay2 (F := Ideal) P g V (ix1 r) = scale (amax (norm (fun c => P (ix2 r c)) (fun c => g (ix2 0 c)))) := by
  unfold k0_pay2
  simp -implicitDefEqProofs only [select_apply, cmpf_apply, divf_apply, broadcast_apply]
  exact congrArg scale ((rowAmax_apply (k0_pay1 (F := Ideal) P g V) _ _ _ r).trans (congrArg amax (funext fun c => norm_row P V g hV r c)))

theorem scales2_row (P V : FVec Ideal S1536x4096 .f32) (g : Vec Ideal S1x4096 .f32) (hV : V = mulf P P) (r : Fin 1536) (u : Fin 1) :
    k0_pay4 (F := Ideal) P g V (ix2 r u) = scale (amax (norm (fun c => P (ix2 r c)) (fun c => g (ix2 0 c)))) := by
  unfold k0_pay4
  simp -implicitDefEqProofs only [shapeCast_a_a1_apply, scale2_row _ _ _ hV]

theorem codes2_row (P V : FVec Ideal S1536x4096 .f32) (g : Vec Ideal S1x4096 .f32) (hV : V = mulf P P) (r : Fin 1536) (c : Fin 4096) :
    k0_pay3 (F := Ideal) P g V (ix2 r c)
      = code (scale (amax (norm (fun c => P (ix2 r c)) (fun c => g (ix2 0 c))))) (norm (fun c => P (ix2 r c)) (fun c => g (ix2 0 c)) c) := by
  unfold k0_pay3 code
  simp -implicitDefEqProofs only [truncf_apply, minimumf_apply, maximumf_apply, divf_apply, broadcast_apply, bcol_apply, shapeCast_a_a1_apply, scale2_row _ _ _ hV, norm_row _ _ _ hV]

end R

/-! ## Both sides at rows that agree -/

theorem codes_agree (P : Vec Ideal Cert.OutIdeal.S256x4096 .f32) (Q : Vec Ideal Cert.OutRefIdeal.S1536x4096 .f32) (r : Fin 256) (s : Fin 1536)
    (hrow : ∀ k : Fin 4096, P (ix2 r k) = Q (ix2 s k)) (c : Fin 4096) :
    Cert.OutIdeal.Gen.k0_pay5 (F := Ideal) P (ix2 r c) = Cert.OutRefIdeal.Gen.k0_pay6 (F := Ideal) Q (ix2 s c) :=
  (K.codes_row P r c).trans (by rw [hrow, show (fun k : Fin 4096 => P (ix2 r k)) = fun k => Q (ix2 s k) from funext hrow]; exact (R.codes_row Q s c).symm)

theorem scale_agree (P : Vec Ideal Cert.OutIdeal.S256x4096 .f32) (Q : Vec Ideal Cert.OutRefIdeal.S1536x4096 .f32) (r : Fin 256) (s : Fin 1536)
    (hrow : ∀ k : Fin 4096, P (ix2 r k) = Q (ix2 s k)) (c : Fin 1) :
    Cert.OutIdeal.Gen.k0_pay4 (F := Ideal) P (ix2 r c) = Cert.OutRefIdeal.Gen.k0_pay7 (F := Ideal) Q (ix2 s c) :=
  (K.scale_row P r c).trans (by rw [show (fun k : Fin 4096 => P (ix2 r k)) = fun k => Q (ix2 s k) from funext hrow]; exact (R.scales_row Q s c).symm)

theorem codes2_agree (P V : FVec Ideal Cert.OutIdeal.S256x4096 .f32) (Q W : FVec Ideal Cert.OutRefIdeal.S1536x4096 .f32)
    (g : Vec Ideal Cert.OutIdeal.S1x4096 .f32) (hV : V = mulf P P) (hW : W = mulf Q Q) (r : Fin 256) (s : Fin 1536)
    (hrow : ∀ k : Fin 4096, P (ix2 r k) = Q (ix2 s k)) (c : Fin 4096) :
    Cert.OutIdeal.Gen.k0_pay3 (F := Ideal) P g V (ix2 r c) = Cert.OutRefIdeal.Gen.k0_pay3 (F := Ideal) Q g W (ix2 s c) :=
  (K.codes2_row P V g hV r c).trans (by rw [show (fun k : Fin 4096 => P (ix2 r k)) = fun k => Q (ix2 s k) from funext hrow]; exact (R.codes2_row Q W g hW s c).symm)

theorem scale2_agree (P V : FVec Ideal Cert.OutIdeal.S256x4096 .f32) (Q W : FVec Ideal Cert.OutRefIdeal.S1536x4096 .f32)
    (g : Vec Ideal Cert.OutIdeal.S1x4096 .f32) (hV : V = mulf P P) (hW : W = mulf Q Q) (r : Fin 256) (s : Fin 1536)
    (hrow : ∀ k : Fin 4096, P (ix2 r k) = Q (ix2 s k)) (c : Fin 1) :
    Cert.OutIdeal.Gen.k0_pay2 (F := Ideal) P g V (ix2 r c) = Cert.OutRefIdeal.Gen.k0_pay4 (F := Ideal) Q g W (ix2 s c) :=
  (K.scale2_row P V g hV r c).trans (by rw [show (fun k : Fin 4096 => P (ix2 r k)) = fun k => Q (ix2 s k) from funext hrow]; exact (R.scales2_row Q W g hW s c).symm)

theorem K.pay7_eq (X : Vec Ideal Cert.OutIdeal.S256x4096 .f32) (Y : Vec Ideal Cert.OutIdeal.S256x4096 .bf16) (W : Vec Ideal Cert.OutIdeal.S4096x4096 .fp8e4m3)
    (u : Vec Ideal Cert.OutIdeal.S1x4096 .f32) : Cert.OutIdeal.Gen.k0_pay7 (F := Ideal) X Y W u
      = mulf (Cert.OutIdeal.Gen.k0_pay6 (F := Ideal) X Y W u) (Cert.OutIdeal.Gen.k0_pay6 (F := Ideal) X Y W u) := by
  unfold Cert.OutIdeal.Gen.k0_pay7; rfl

theorem R.pay9_eq (X : Vec Ideal Cert.OutRefIdeal.S1536x4096 .f32) (Y : Vec Ideal Cert.OutRefIdeal.S1536x4096 .bf16)
    (W : Vec Ideal Cert.OutRefIdeal.S4096x4096 .fp8e4m3) (u : Vec Ideal Cert.OutRefIdeal.S1x4096 .f32) : Cert.OutRefIdeal.Gen.k0_pay9 (F := Ideal) X Y W u
      = mulf (Cert.OutRefIdeal.Gen.k0_pay8 (F := Ideal) X Y W u) (Cert.OutRefIdeal.Gen.k0_pay8 (F := Ideal) X Y W u) := by
  unfold Cert.OutRefIdeal.Gen.k0_pay9; rfl

end Cert.Proof.OutRows

end
-- ==== Proof.OutValue.lean ====
/-
  Hand-written, untrusted. The output projection's arrays after the run: each is the reference's payload of the argument arrays.
  A grid point writes back the block's 256 rows; each row of the block is the same function of the row of the arguments it stages
  as the reference's row (Proof/OutRows.lean), and the six blocks cover the array.
-/
module

public import proofs.«01_k».proof.Proof.OutRows
public import proofs.«01_k».proof.Proof.Gen.OutIdeal.Value
public import proofs.«01_k».proof.Proof.Gen.OutRefIdeal.Value

@[expose] public section

set_option maxRecDepth 16384

noncomputable section

namespace Cert.Proof.OutValue

open Idealize.ShloMosaic Idealize.ShloMosaic.TcCoe Idealize.SL.Sem Idealize.ShloMosaic.ValueIdx Cert.Proof.Rows Cert.OutIdeal Cert.OutIdeal.Gen

variable (m : (ℓ : Loc nD τ sig) → Buf (Elt Ideal) ℓ)

theorem hz : (![0, 0] : Fin 2 → ℕ) = fun _ => 0 := funext fun a => by fin_cases a <;> rfl

/-- The array row that row `r` of point `t`'s block is. -/
def row (t : Fin cfg0.N) (r : Fin 256) : Fin 1536 :=
  ⟨t.val * 256 + r.val, by have h : t.val < 6 := t.isLt; have := r.isLt; omega⟩

/-- Every row is in one block. -/
theorem row_surj (i : Fin 1536) : ∃ t r, row t r = i :=
  ⟨⟨i.val / 256, by show _ < 6; have := i.isLt; omega⟩, ⟨i.val % 256, Nat.mod_lt _ (by decide)⟩,
    Fin.ext (by show i.val / 256 * 256 + i.val % 256 = i.val; omega)⟩

theorem idx : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ (win0_8.index t (0 : Fin 2) = t.val ∧ win0_8.index t (1 : Fin 2) = 0) ∧ (win0_9.index t (0 : Fin 2) = t.val ∧ win0_9.index t (1 : Fin 2) = 0) :=
  (by decide +kernel : ∀ t : Fin grid0.N, _)

/-! ## The input blocks -/

theorem iblk0_row (c : Dev nD) (t : Fin cfg0.N) (r : Fin 256) (k : Fin 4096) :
    iblk (F := Ideal) m c 0 t (ix2 r k) = m ((c : Thread nD τ).loc main_arg0) (ix2 (row t r) k) := by
  obtain ⟨e0, e1⟩ := (idx t).1
  show V m c main_arg0 (((cfg0.win 0).blk t).view.emb (ix2 r k)) = _
  rw [V_main_arg0]
  refine congrArg _ (funext fun a => Fin.ext ?_)
  match a with
  | ⟨0, _⟩ => show win0_0.index t (0 : Fin 2) * 256 + 1 * r.val = t.val * 256 + r.val; omega
  | ⟨1, _⟩ => show win0_0.index t (1 : Fin 2) * 4096 + 1 * k.val = k.val; omega

theorem iblk1_row (c : Dev nD) (t : Fin cfg0.N) (r : Fin 256) (k : Fin 4096) :
    iblk (F := Ideal) m c 1 t (ix2 r k) = m ((c : Thread nD τ).loc main_arg1) (ix2 (row t r) k) := by
  obtain ⟨e0, e1⟩ := (idx t).2.1
  show V m c main_arg1 (((cfg0.win 1).blk t).view.emb (ix2 r k)) = _
  rw [V_main_arg1]
  refine congrArg _ (funext fun a => Fin.ext ?_)
  match a with
  | ⟨0, _⟩ => show win0_1.index t (0 : Fin 2) * 256 + 1 * r.val = t.val * 256 + r.val; omega
  | ⟨1, _⟩ => show win0_1.index t (1 : Fin 2) * 4096 + 1 * k.val = k.val; omega

theorem iblk2_eq (c : Dev nD) (t : Fin cfg0.N) :
    iblk (F := Ideal) m c 2 t = (m ((c : Thread nD τ).loc main_arg2) : Vec Ideal S4096x4096 .fp8e4m3) := by
  obtain ⟨e0, e1⟩ := (idx t).2.2.1
  funext j
  show V m c main_arg2 (((cfg0.win 2).blk t).view.emb j) = _
  rw [V_main_arg2]
  refine congrArg _ (funext fun a => Fin.ext ?_)
  match a with
  | ⟨0, _⟩ => show win0_2.index t (0 : Fin 2) * 4096 + 1 * (j 0).val = (j 0).val; omega
  | ⟨1, _⟩ => show win0_2.index t (1 : Fin 2) * 4096 + 1 * (j 1).val = (j 1).val; omega

theorem iblk3_eq (c : Dev nD) (t : Fin cfg0.N) :
    iblk (F := Ideal) m c 3 t = (m ((c : Thread nD τ).loc main_arg3) : Vec Ideal S1x4096 .f32) := by
  obtain ⟨e0, e1⟩ := (idx t).2.2.2.1
  funext j
  show V m c main_arg3 (((cfg0.win 3).blk t).view.emb j) = _
  rw [V_main_arg3]
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 4096 + 1 * (j 1).val = (j 1).val; omega

theorem iblk4_eq (c : Dev nD) (t : Fin cfg0.N) :
    iblk (F := Ideal) m c 4 t = (m ((c : Thread nD τ).loc main_arg4) : Vec Ideal S1x4096 .f32) := by
  obtain ⟨e0, e1⟩ := (idx t).2.2.2.2.1
  funext j
  show V m c main_arg4 (((cfg0.win 4).blk t).view.emb j) = _
  rw [V_main_arg4]
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 4096 + 1 * (j 1).val = (j 1).val; omega

/-! ## The argument arrays, and the residual row both sides compute -/

abbrev a0 (c : Dev nD) : Vec Ideal S1536x4096 .f32 := m ((c : Thread nD τ).loc main_arg0)
abbrev a1 (c : Dev nD) : Vec Ideal S1536x4096 .bf16 := m ((c : Thread nD τ).loc main_arg1)
abbrev a2 (c : Dev nD) : Vec Ideal S4096x4096 .fp8e4m3 := m ((c : Thread nD τ).loc main_arg2)
abbrev a3 (c : Dev nD) : Vec Ideal S1x4096 .f32 := m ((c : Thread nD τ).loc main_arg3)
abbrev a4 (c : Dev nD) : Vec Ideal S1x4096 .f32 := m ((c : Thread nD τ).loc main_arg4)

theorem mix_row (c : Dev nD) (t : Fin cfg0.N) (r : Fin 256) :
    (fun k : Fin 4096 => iblk (F := Ideal) m c 0 t (ix2 r k)) = fun k => a0 m c (ix2 (row t r) k) :=
  funext fun k => iblk0_row m c t r k

theorem x1_block (c : Dev nD) (t : Fin cfg0.N) (r : Fin 256) (k : Fin 4096) :
    k0_pay6 (F := Ideal) (iblk m c 0 t) (iblk m c 1 t) (iblk m c 2 t) (iblk m c 3 t) (ix2 r k)
      = Cert.OutRefIdeal.Gen.k0_pay8 (F := Ideal) (a0 m c) (a1 m c) (a2 m c) (a3 m c) (ix2 (row t r) k) := by
  rw [OutRows.K.x1_row, OutRows.R.x1_row, iblk2_eq, iblk3_eq, mix_row,
    (funext fun k => iblk1_row m c t r k : (fun k : Fin 4096 => iblk (F := Ideal) m c 1 t (ix2 r k)) = fun k => a1 m c (ix2 (row t r) k))]

theorem pay10_eq (c : Dev nD) : Cert.OutRefIdeal.Gen.k0_pay10 (F := Ideal) (a0 m c) (a1 m c) (a2 m c) (a3 m c) (a4 m c)
    = Cert.OutRefIdeal.Gen.k0_pay8 (F := Ideal) (a0 m c) (a1 m c) (a2 m c) (a3 m c) := by
  unfold Cert.OutRefIdeal.Gen.k0_pay10
  rw [View.ld_unit_zero (S := S1536x4096) hz, View.ld_unit_zero (S := S1536x4096) hz, View.ld_unit_zero (S := S4096x4096) hz, View.ld_unit_zero (S := S1x4096) hz]

theorem pay11_eq (c : Dev nD) : Cert.OutRefIdeal.Gen.k0_pay11 (F := Ideal) (a0 m c) (a1 m c) (a2 m c) (a3 m c) (a4 m c)
    = Cert.OutRefIdeal.Gen.k0_pay9 (F := Ideal) (a0 m c) (a1 m c) (a2 m c) (a3 m c) := by
  unfold Cert.OutRefIdeal.Gen.k0_pay11
  rw [View.ld_unit_zero (S := S1536x4096) hz, View.ld_unit_zero (S := S1536x4096) hz, View.ld_unit_zero (S := S4096x4096) hz, View.ld_unit_zero (S := S1x4096) hz]

/-! ## Output window 5 -/

theorem emb5 (t : Fin cfg0.N) (r : Fin 256) (k : Fin 4096) : ((cfg0.win 5).blk t).view.emb (ix2 r k) = ix2 (row t r) k := by
  obtain ⟨e0, e1⟩ := (idx t).2.2.2.2.2.1
  refine funext fun a => Fin.ext ?_
  match a with
  | ⟨0, _⟩ => show win0_5.index t (0 : Fin 2) * 256 + 1 * r.val = t.val * 256 + r.val; omega
  | ⟨1, _⟩ => show win0_5.index t (1 : Fin 2) * 4096 + 1 * k.val = k.val; omega

/-- The body's block, its whole-block loads and its one covering store read away. -/
theorem out5 (c : Dev nD) (t : Fin cfg0.N) :
    out0_5 (F := Ideal) (iblk m c 0 t) (iblk m c 1 t) (iblk m c 2 t) (iblk m c 3 t) (iblk m c 4 t)
      = k0_pay5 (iblk m c 0 t) := by
  unfold_out out0_5
  rw [View.canon_unit_zero hz]
  simp only [View.ld_unit_zero (S := S256x4096) hz, View.ld_unit_zero (S := S4096x4096) hz, View.ld_unit_zero (S := S1x4096) hz]

theorem cut5 (P : Vec Ideal S256x4096 .fp8e4m3) (t : Fin cfg0.N) (r : Fin 256) (k : Fin 4096) :
    (cfg0.win 5).cut (grid0.coords t) P (ix2 r k) = P (ix2 r k) := rfl

theorem read5 (G : Vec Ideal S1536x4096 .fp8e4m3) (t : Fin cfg0.N) (r : Fin 256) (k : Fin 4096) :
    ((cfg0.win 5).blk t).view.read (Elt Ideal) G (ix2 r k) = G (ix2 (row t r) k) := congrArg G (emb5 t r k)

theorem flushed5 (c : Dev nD) (t : Fin cfg0.N) :
    (dats (F := Ideal) m 0 c).flushed 5 t = ((cfg0.win 5).blk t).view.read (Elt Ideal) (Cert.OutRefIdeal.Value.G5 (F := Ideal) (a0 m c) (a1 m c) (a2 m c) (a3 m c) (a4 m c)) := by
  rw [Cert.OutIdeal.Value.flushed5, out5]
  funext j
  obtain ⟨r, k, rfl⟩ : ∃ (r : Fin 256) (k : Fin 4096), j = ix2 r k := ⟨j 0, j 1, eq_ix2 j⟩
  refine (cut5 _ t r k).trans (Eq.trans ?_ (read5 _ t r k).symm)
  exact OutRows.codes_agree (iblk m c 0 t) (a0 m c) r (row t r) (iblk0_row m c t r) k

theorem covered5 (i : S1536x4096.Idx) :
    ∃ t : Fin cfg0.N, (cfg0.win 5).flush t = true ∧ i ∈ ((cfg0.win 5).blk t).view.set := by
  obtain ⟨p, k, rfl⟩ : ∃ (p : Fin 1536) (k : Fin 4096), i = ix2 p k := ⟨i 0, i 1, eq_ix2 i⟩
  obtain ⟨t, r, rfl⟩ := row_surj p
  exact ⟨t, flush0_5 t, emb5 t r k ▸ ((cfg0.win 5).blk t).view.emb_mem_set (ix2 r k)⟩

/-- The array after the run is the reference's. -/
theorem final5 (c : Dev nD) : (dats (F := Ideal) m 0 c).arrAt 5 cfg0.N = (Cert.OutRefIdeal.Value.G5 (F := Ideal) (a0 m c) (a1 m c) (a2 m c) (a3 m c) (a4 m c)) :=
  (dats (F := Ideal) m 0 c).arrAt_eq_of_cover 5 (Cert.OutRefIdeal.Value.G5 (F := Ideal) (a0 m c) (a1 m c) (a2 m c) (a3 m c) (a4 m c)) (fun t _ => flushed5 m c t) covered5

/-! ## Output window 6 -/

theorem emb6 (t : Fin cfg0.N) (r : Fin 256) (k : Fin 1) : ((cfg0.win 6).blk t).view.emb (ix2 r k) = ix2 (row t r) k := by
  obtain ⟨e0, e1⟩ := (idx t).2.2.2.2.2.2.1
  refine funext fun a => Fin.ext ?_
  match a with
  | ⟨0, _⟩ => show win0_6.index t (0 : Fin 2) * 256 + 1 * r.val = t.val * 256 + r.val; omega
  | ⟨1, _⟩ => show win0_6.index t (1 : Fin 2) * 1 + 1 * k.val = k.val; omega

/-- The body's block, its whole-block loads and its one covering store read away. -/
theorem out6 (c : Dev nD) (t : Fin cfg0.N) :
    out0_6 (F := Ideal) (iblk m c 0 t) (iblk m c 1 t) (iblk m c 2 t) (iblk m c 3 t) (iblk m c 4 t)
      = k0_pay4 (iblk m c 0 t) := by
  unfold_out out0_6
  rw [View.canon_unit_zero hz]
  simp only [View.ld_unit_zero (S := S256x4096) hz, View.ld_unit_zero (S := S4096x4096) hz, View.ld_unit_zero (S := S1x4096) hz]

theorem cut6 (P : Vec Ideal S256x1 .f32) (t : Fin cfg0.N) (r : Fin 256) (k : Fin 1) :
    (cfg0.win 6).cut (grid0.coords t) P (ix2 r k) = P (ix2 r k) := rfl

theorem read6 (G : Vec Ideal S1536x1 .f32) (t : Fin cfg0.N) (r : Fin 256) (k : Fin 1) :
    ((cfg0.win 6).blk t).view.read (Elt Ideal) G (ix2 r k) = G (ix2 (row t r) k) := congrArg G (emb6 t r k)

theorem flushed6 (c : Dev nD) (t : Fin cfg0.N) :
    (dats (F := Ideal) m 0 c).flushed 6 t = ((cfg0.win 6).blk t).view.read (Elt Ideal) (Cert.OutRefIdeal.Value.G6 (F := Ideal) (a0 m c) (a1 m c) (a2 m c) (a3 m c) (a4 m c)) := by
  rw [Cert.OutIdeal.Value.flushed6, out6]
  funext j
  obtain ⟨r, k, rfl⟩ : ∃ (r : Fin 256) (k : Fin 1), j = ix2 r k := ⟨j 0, j 1, eq_ix2 j⟩
  refine (cut6 _ t r k).trans (Eq.trans ?_ (read6 _ t r k).symm)
  exact OutRows.scale_agree (iblk m c 0 t) (a0 m c) r (row t r) (iblk0_row m c t r) k

theorem covered6 (i : S1536x1.Idx) :
    ∃ t : Fin cfg0.N, (cfg0.win 6).flush t = true ∧ i ∈ ((cfg0.win 6).blk t).view.set := by
  obtain ⟨p, k, rfl⟩ : ∃ (p : Fin 1536) (k : Fin 1), i = ix2 p k := ⟨i 0, i 1, eq_ix2 i⟩
  obtain ⟨t, r, rfl⟩ := row_surj p
  exact ⟨t, flush0_6 t, emb6 t r k ▸ ((cfg0.win 6).blk t).view.emb_mem_set (ix2 r k)⟩

/-- The array after the run is the reference's. -/
theorem final6 (c : Dev nD) : (dats (F := Ideal) m 0 c).arrAt 6 cfg0.N = (Cert.OutRefIdeal.Value.G6 (F := Ideal) (a0 m c) (a1 m c) (a2 m c) (a3 m c) (a4 m c)) :=
  (dats (F := Ideal) m 0 c).arrAt_eq_of_cover 6 (Cert.OutRefIdeal.Value.G6 (F := Ideal) (a0 m c) (a1 m c) (a2 m c) (a3 m c) (a4 m c)) (fun t _ => flushed6 m c t) covered6

/-! ## Output window 7 -/

theorem emb7 (t : Fin cfg0.N) (r : Fin 256) (k : Fin 4096) : ((cfg0.win 7).blk t).view.emb (ix2 r k) = ix2 (row t r) k := by
  obtain ⟨e0, e1⟩ := (idx t).2.2.2.2.2.2.2.1
  refine funext fun a => Fin.ext ?_
  match a with
  | ⟨0, _⟩ => show win0_7.index t (0 : Fin 2) * 256 + 1 * r.val = t.val * 256 + r.val; omega
  | ⟨1, _⟩ => show win0_7.index t (1 : Fin 2) * 4096 + 1 * k.val = k.val; omega

/-- The body's block, its whole-block loads and its one covering store read away. -/
theorem out7 (c : Dev nD) (t : Fin cfg0.N) :
    out0_7 (F := Ideal) (iblk m c 0 t) (iblk m c 1 t) (iblk m c 2 t) (iblk m c 3 t) (iblk m c 4 t)
      = k0_pay6 (iblk m c 0 t) (iblk m c 1 t) (iblk m c 2 t) (iblk m c 3 t) := by
  unfold_out out0_7
  rw [View.canon_unit_zero hz]
  simp only [View.ld_unit_zero (S := S256x4096) hz, View.ld_unit_zero (S := S4096x4096) hz, View.ld_unit_zero (S := S1x4096) hz]

theorem cut7 (P : Vec Ideal S256x4096 .f32) (t : Fin cfg0.N) (r : Fin 256) (k : Fin 4096) :
    (cfg0.win 7).cut (grid0.coords t) P (ix2 r k) = P (ix2 r k) := rfl

theorem read7 (G : Vec Ideal S1536x4096 .f32) (t : Fin cfg0.N) (r : Fin 256) (k : Fin 4096) :
    ((cfg0.win 7).blk t).view.read (Elt Ideal) G (ix2 r k) = G (ix2 (row t r) k) := congrArg G (emb7 t r k)

theorem flushed7 (c : Dev nD) (t : Fin cfg0.N) :
    (dats (F := Ideal) m 0 c).flushed 7 t = ((cfg0.win 7).blk t).view.read (Elt Ideal) (Cert.OutRefIdeal.Value.G7 (F := Ideal) (a0 m c) (a1 m c) (a2 m c) (a3 m c) (a4 m c)) := by
  rw [Cert.OutIdeal.Value.flushed7, out7]
  funext j
  obtain ⟨r, k, rfl⟩ : ∃ (r : Fin 256) (k : Fin 4096), j = ix2 r k := ⟨j 0, j 1, eq_ix2 j⟩
  refine (cut7 _ t r k).trans (Eq.trans ?_ (read7 _ t r k).symm)
  exact x1_block m c t r k

theorem covered7 (i : S1536x4096.Idx) :
    ∃ t : Fin cfg0.N, (cfg0.win 7).flush t = true ∧ i ∈ ((cfg0.win 7).blk t).view.set := by
  obtain ⟨p, k, rfl⟩ : ∃ (p : Fin 1536) (k : Fin 4096), i = ix2 p k := ⟨i 0, i 1, eq_ix2 i⟩
  obtain ⟨t, r, rfl⟩ := row_surj p
  exact ⟨t, flush0_7 t, emb7 t r k ▸ ((cfg0.win 7).blk t).view.emb_mem_set (ix2 r k)⟩

/-- The array after the run is the reference's. -/
theorem final7 (c : Dev nD) : (dats (F := Ideal) m 0 c).arrAt 7 cfg0.N = (Cert.OutRefIdeal.Value.G7 (F := Ideal) (a0 m c) (a1 m c) (a2 m c) (a3 m c) (a4 m c)) :=
  (dats (F := Ideal) m 0 c).arrAt_eq_of_cover 7 (Cert.OutRefIdeal.Value.G7 (F := Ideal) (a0 m c) (a1 m c) (a2 m c) (a3 m c) (a4 m c)) (fun t _ => flushed7 m c t) covered7

/-! ## Output window 8 -/

theorem emb8 (t : Fin cfg0.N) (r : Fin 256) (k : Fin 4096) : ((cfg0.win 8).blk t).view.emb (ix2 r k) = ix2 (row t r) k := by
  obtain ⟨e0, e1⟩ := (idx t).2.2.2.2.2.2.2.2.1
  refine funext fun a => Fin.ext ?_
  match a with
  | ⟨0, _⟩ => show win0_8.index t (0 : Fin 2) * 256 + 1 * r.val = t.val * 256 + r.val; omega
  | ⟨1, _⟩ => show win0_8.index t (1 : Fin 2) * 4096 + 1 * k.val = k.val; omega

/-- The body's block, its whole-block loads and its one covering store read away. -/
theorem out8 (c : Dev nD) (t : Fin cfg0.N) :
    out0_8 (F := Ideal) (iblk m c 0 t) (iblk m c 1 t) (iblk m c 2 t) (iblk m c 3 t) (iblk m c 4 t)
      = k0_pay3 (k0_pay6 (iblk m c 0 t) (iblk m c 1 t) (iblk m c 2 t) (iblk m c 3 t)) (iblk m c 4 t) (k0_pay7 (iblk m c 0 t) (iblk m c 1 t) (iblk m c 2 t) (iblk m c 3 t)) := by
  unfold_out out0_8
  rw [View.canon_unit_zero hz]
  simp only [View.ld_unit_zero (S := S256x4096) hz, View.ld_unit_zero (S := S4096x4096) hz, View.ld_unit_zero (S := S1x4096) hz]

theorem cut8 (P : Vec Ideal S256x4096 .fp8e4m3) (t : Fin cfg0.N) (r : Fin 256) (k : Fin 4096) :
    (cfg0.win 8).cut (grid0.coords t) P (ix2 r k) = P (ix2 r k) := rfl

theorem read8 (G : Vec Ideal S1536x4096 .fp8e4m3) (t : Fin cfg0.N) (r : Fin 256) (k : Fin 4096) :
    ((cfg0.win 8).blk t).view.read (Elt Ideal) G (ix2 r k) = G (ix2 (row t r) k) := congrArg G (emb8 t r k)

theorem flushed8 (c : Dev nD) (t : Fin cfg0.N) :
    (dats (F := Ideal) m 0 c).flushed 8 t = ((cfg0.win 8).blk t).view.read (Elt Ideal) (Cert.OutRefIdeal.Value.G8 (F := Ideal) (a0 m c) (a1 m c) (a2 m c) (a3 m c) (a4 m c)) := by
  rw [Cert.OutIdeal.Value.flushed8, out8]
  funext j
  obtain ⟨r, k, rfl⟩ : ∃ (r : Fin 256) (k : Fin 4096), j = ix2 r k := ⟨j 0, j 1, eq_ix2 j⟩
  refine (cut8 _ t r k).trans (Eq.trans ?_ (read8 _ t r k).symm)
  unfold Cert.OutRefIdeal.Value.G8
  rw [pay10_eq, pay11_eq, iblk4_eq]
  exact OutRows.codes2_agree _ _ _ _ (a4 m c) (OutRows.K.pay7_eq _ _ _ _) (OutRows.R.pay9_eq _ _ _ _) r (row t r) (x1_block m c t r) k

theorem covered8 (i : S1536x4096.Idx) :
    ∃ t : Fin cfg0.N, (cfg0.win 8).flush t = true ∧ i ∈ ((cfg0.win 8).blk t).view.set := by
  obtain ⟨p, k, rfl⟩ : ∃ (p : Fin 1536) (k : Fin 4096), i = ix2 p k := ⟨i 0, i 1, eq_ix2 i⟩
  obtain ⟨t, r, rfl⟩ := row_surj p
  exact ⟨t, flush0_8 t, emb8 t r k ▸ ((cfg0.win 8).blk t).view.emb_mem_set (ix2 r k)⟩

/-- The array after the run is the reference's. -/
theorem final8 (c : Dev nD) : (dats (F := Ideal) m 0 c).arrAt 8 cfg0.N = (Cert.OutRefIdeal.Value.G8 (F := Ideal) (a0 m c) (a1 m c) (a2 m c) (a3 m c) (a4 m c)) :=
  (dats (F := Ideal) m 0 c).arrAt_eq_of_cover 8 (Cert.OutRefIdeal.Value.G8 (F := Ideal) (a0 m c) (a1 m c) (a2 m c) (a3 m c) (a4 m c)) (fun t _ => flushed8 m c t) covered8

/-! ## Output window 9 -/

theorem emb9 (t : Fin cfg0.N) (r : Fin 256) (k : Fin 1) : ((cfg0.win 9).blk t).view.emb (ix2 r k) = ix2 (row t r) k := by
  obtain ⟨e0, e1⟩ := (idx t).2.2.2.2.2.2.2.2.2
  refine funext fun a => Fin.ext ?_
  match a with
  | ⟨0, _⟩ => show win0_9.index t (0 : Fin 2) * 256 + 1 * r.val = t.val * 256 + r.val; omega
  | ⟨1, _⟩ => show win0_9.index t (1 : Fin 2) * 1 + 1 * k.val = k.val; omega

/-- The body's block, its whole-block loads and its one covering store read away. -/
theorem out9 (c : Dev nD) (t : Fin cfg0.N) :
    out0_9 (F := Ideal) (iblk m c 0 t) (iblk m c 1 t) (iblk m c 2 t) (iblk m c 3 t) (iblk m c 4 t)
      = k0_pay2 (k0_pay6 (iblk m c 0 t) (iblk m c 1 t) (iblk m c 2 t) (iblk m c 3 t)) (iblk m c 4 t) (k0_pay7 (iblk m c 0 t) (iblk m c 1 t) (iblk m c 2 t) (iblk m c 3 t)) := by
  unfold_out out0_9
  rw [View.canon_unit_zero hz]
  simp only [View.ld_unit_zero (S := S256x4096) hz, View.ld_unit_zero (S := S4096x4096) hz, View.ld_unit_zero (S := S1x4096) hz]

theorem cut9 (P : Vec Ideal S256x1 .f32) (t : Fin cfg0.N) (r : Fin 256) (k : Fin 1) :
    (cfg0.win 9).cut (grid0.coords t) P (ix2 r k) = P (ix2 r k) := rfl

theorem read9 (G : Vec Ideal S1536x1 .f32) (t : Fin cfg0.N) (r : Fin 256) (k : Fin 1) :
    ((cfg0.win 9).blk t).view.read (Elt Ideal) G (ix2 r k) = G (ix2 (row t r) k) := congrArg G (emb9 t r k)

theorem flushed9 (c : Dev nD) (t : Fin cfg0.N) :
    (dats (F := Ideal) m 0 c).flushed 9 t = ((cfg0.win 9).blk t).view.read (Elt Ideal) (Cert.OutRefIdeal.Value.G9 (F := Ideal) (a0 m c) (a1 m c) (a2 m c) (a3 m c) (a4 m c)) := by
  rw [Cert.OutIdeal.Value.flushed9, out9]
  funext j
  obtain ⟨r, k, rfl⟩ : ∃ (r : Fin 256) (k : Fin 1), j = ix2 r k := ⟨j 0, j 1, eq_ix2 j⟩
  refine (cut9 _ t r k).trans (Eq.trans ?_ (read9 _ t r k).symm)
  unfold Cert.OutRefIdeal.Value.G9
  rw [pay10_eq, pay11_eq, iblk4_eq]
  exact OutRows.scale2_agree _ _ _ _ (a4 m c) (OutRows.K.pay7_eq _ _ _ _) (OutRows.R.pay9_eq _ _ _ _) r (row t r) (x1_block m c t r) k

theorem covered9 (i : S1536x1.Idx) :
    ∃ t : Fin cfg0.N, (cfg0.win 9).flush t = true ∧ i ∈ ((cfg0.win 9).blk t).view.set := by
  obtain ⟨p, k, rfl⟩ : ∃ (p : Fin 1536) (k : Fin 1), i = ix2 p k := ⟨i 0, i 1, eq_ix2 i⟩
  obtain ⟨t, r, rfl⟩ := row_surj p
  exact ⟨t, flush0_9 t, emb9 t r k ▸ ((cfg0.win 9).blk t).view.emb_mem_set (ix2 r k)⟩

/-- The array after the run is the reference's. -/
theorem final9 (c : Dev nD) : (dats (F := Ideal) m 0 c).arrAt 9 cfg0.N = (Cert.OutRefIdeal.Value.G9 (F := Ideal) (a0 m c) (a1 m c) (a2 m c) (a3 m c) (a4 m c)) :=
  (dats (F := Ideal) m 0 c).arrAt_eq_of_cover 9 (Cert.OutRefIdeal.Value.G9 (F := Ideal) (a0 m c) (a1 m c) (a2 m c) (a3 m c) (a4 m c)) (fun t _ => flushed9 m c t) covered9

end Cert.Proof.OutValue

end
-- ==== Proof.OutAlg.lean ====
/-
  Hand-written, untrusted. The output projection's algebraic claim: the kernel's arrays are the reference's payloads of the
  arguments (Proof/OutValue.lean), and the reference's run writes exactly those.
-/
module

public import proofs.«01_k».proof.Defs
public import proofs.«01_k».proof.Proof.OutValue

@[expose] public section

set_option maxRecDepth 16384

noncomputable section

namespace Cert.Proof.OutAlg

open Idealize.ShloMosaic Idealize.ShloMosaic.TcCoe Idealize.SL.Sem Cert.Proof.OutValue

theorem algebraic : Cert.algebraic_OutIdeal_OutRefIdeal (hOutIdeal := Cert.OutIdeal.Gen.facts) (hOutRefIdeal := Cert.OutRefIdeal.Gen.facts) := by
  intro m g m' g' _ hargs
  refine ⟨fun c => Cert.OutRefIdeal.Value.G5 (F := Ideal) (a0 m c) (a1 m c) (a2 m c) (a3 m c) (a4 m c),
    fun c => Cert.OutRefIdeal.Value.G6 (F := Ideal) (a0 m c) (a1 m c) (a2 m c) (a3 m c) (a4 m c),
    fun c => Cert.OutRefIdeal.Value.G7 (F := Ideal) (a0 m c) (a1 m c) (a2 m c) (a3 m c) (a4 m c),
    fun c => Cert.OutRefIdeal.Value.G8 (F := Ideal) (a0 m c) (a1 m c) (a2 m c) (a3 m c) (a4 m c),
    fun c => Cert.OutRefIdeal.Value.G9 (F := Ideal) (a0 m c) (a1 m c) (a2 m c) (a3 m c) (a4 m c), ?_, ?_⟩
  · refine (θ_run (Cert.OutIdeal.defs (F := Ideal)) _ _).mono (fun r h c => ?_) (Cert.OutIdeal.Value.run_blocks (F := Ideal) m g)
    obtain ⟨h5, h6, h7, h8, h9, h⟩ := h c
    exact ⟨h5.trans (final5 m c), h6.trans (final6 m c), h7.trans (final7 m c), h8.trans (final8 m c), h9.trans (final9 m c), h⟩
  · refine (θ_run (Cert.OutRefIdeal.defs (F := Ideal)) _ _).mono (fun r h c => ?_) (Cert.OutRefIdeal.Value.run (F := Ideal) m' g')
    obtain ⟨h5, h6, h7, h8, h9, h⟩ := h c
    obtain ⟨e0, e1, e2, e3, e4⟩ := hargs c
    refine ⟨h5.trans ?_, h6.trans ?_, h7.trans ?_, h8.trans ?_, h9.trans ?_, h⟩ <;> rw [e0, e1, e2, e3, e4]

end Cert.Proof.OutAlg

end
-- ==== Proof.FfnRun.lean ====
/-
  The feed-forward kernel's body, run once in each of its three kinds of grid step: a step that computes one block of
  hidden columns, the step that quantises the hidden rows, and a step that only multiplies by the down projection.
-/
module

public import proofs.«01_k».proof.Proof.Gen.FfnIdeal.Frame
public import proofs.«01_k».proof.Proof.Gen.FfnIdeal.Skeleton
public import Idealize.ShloMosaic.Lib.Pipeline.Frame
public import Idealize.ShloMosaic.Lib.Tactic
public import Idealize.ShloMosaic.Lib.Writes
public import Idealize.ShloMosaic.Lib.WritesUnit
public import Idealize.ShloMosaic.Lib.Pipeline.Value
public import Idealize.ShloMosaic.Lib.ValueIdx

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx

variable {F : FTy → Type} [FloatOps F]

local notation "𝕄" => MT nD τ sig Unit (Elt F) ℕ (UR sig nD τ) ℕ

/-! ## What a step leaves -/

theorem hz : (![0, 0] : Fin 2 → ℕ) = fun _ => 0 := funext fun a => by fin_cases a <;> rfl

/-- The hidden scratch with slot `j` replaced by the block `P`. -/
def hidSet (j : ℕ) (P : Vec F S1x512x512 .f32) (S : Vec F S22x512x512 .f32) : Vec F S22x512x512 .f32 :=
  fun y => if (y 0).val = j then P (ix3 (0 : Fin 1) (y 1) (y 2)) else S y

theorem slot_inb (j : Fin 22) : ∀ a, (![j.val, 0, 0] : Fin 3 → ℕ) a + S1x512x512.size a ≤ S22x512x512.size a := by
  intro a
  have := j.isLt
  match a with
  | ⟨0, _⟩ => show j.val + 1 ≤ 22; omega
  | ⟨1, _⟩ => show 0 + 512 ≤ 512; omega
  | ⟨2, _⟩ => show 0 + 512 ≤ 512; omega

/-- Slot `j` of the hidden scratch, as a block. -/
def slot (S : Vec F S22x512x512 .f32) (j : Fin 22) : Vec F S1x512x512 .f32 :=
  View.ld S (Rect.unit (s := S22x512x512) ![j.val, 0, 0] S1x512x512.size (slot_inb j))

theorem slot_apply (S : Vec F S22x512x512 .f32) (j : Fin 22) (y : S1x512x512.Idx) : slot S j y = S (ix3 j (y 1) (y 2)) := by
  refine congrArg S (funext fun a => Fin.ext ?_)
  match a with
  | ⟨0, _⟩ => show j.val + 1 * (y 0).val = j.val; have := (y 0).isLt; change (y 0).val < 1 at this; omega
  | ⟨1, _⟩ => show 0 + 1 * (y 1).val = (y 1).val; omega
  | ⟨2, _⟩ => show 0 + 1 * (y 2).val = (y 2).val; omega

/-- The first part of the code scratch and the rest of it, as the two products read them. -/
def codesA (S : Vec F S512x11520 .fp8e4m3) : Vec F S512x10752 .fp8e4m3 :=
  View.ld S (Rect.unit (s := S512x11520) ![0, 0] S512x10752.size inb_S512x11520_S512x10752_0_0)
def codesB (S : Vec F S512x11520 .fp8e4m3) : Vec F S512x192 .fp8e4m3 :=
  View.ld S (Rect.unit (s := S512x11520) ![0, 10752] S512x192.size inb_S512x11520_S512x192_0_10752)
/-- The rows of the down projection that the two products read. -/
def downA (X : Vec F S10944x256 .fp8e4m3) : Vec F S10752x256 .fp8e4m3 :=
  View.ld X (Rect.unit (s := S10944x256) ![0, 0] S10752x256.size inb_S10944x256_S10752x256_0_0)
def downB (X : Vec F S10944x256 .fp8e4m3) : Vec F S192x256 .fp8e4m3 :=
  View.ld X (Rect.unit (s := S10944x256) ![10752, 0] S192x256.size inb_S10944x256_S192x256_10752_0)
/-- The block of codes a step hands out. -/
def hcOut (i : grid0.Coords) (h3 : k0_cond3 i = 1#1) (S : Vec F S512x11520 .fp8e4m3) : Vec F S512x768 .fp8e4m3 :=
  View.ld S (Rect.unit (s := S512x11520) (k0_off2 i) S512x768.size (k0_off2_inb i h3))
/-- The block of the result a step hands out. -/
def yOut (S : Vec F S512x11520 .fp8e4m3) (x8 : Vec F S10944x256 .fp8e4m3) (x9 : Vec F S1x256 .f32) (x10 : Vec F S512x256 .f32)
    (s : Vec F S512x1 .f32) : Vec F S512x256 .bf16 :=
  k0_pay4 (codesA S) (downA x8) (codesB S) (downB x8) x10 s x9

/-- The code scratch holds the codes of the hidden scratch `S` at the scale `s`, in the columns the slots fill. -/
def CodesOf (s : Vec F S512x1 .f32) (S : Vec F S22x512x512 .f32) (X : Vec F S512x11520 .fp8e4m3) : Prop :=
  ∀ (r : Fin 512) (j : Fin 22) (k : Fin 512), X (ix2 r ⟨j.val * 512 + k.val, by omega⟩) = k0_pay2 s (slot S j) (ix2 r k)

/-- A store through the hidden scratch's slot rectangle replaces that slot. -/
theorem read_hidSet {κ : Kind} {sp : Space} (v : View sig κ sp S22x512x512 .f32) (f : v.ty.Contents (Elt F)) (i : grid0.Coords)
    (inb : ∀ a, (k0_off1 i) a + S1x512x512.size a ≤ S22x512x512.size a) (P : Vec F S1x512x512 .f32) :
    v.read (Elt F) (v.writes (Elt F) f [⟨Rect.unit (s := S22x512x512) (k0_off1 i) S1x512x512.size inb, P⟩])
      = hidSet (i 1).val P (v.read (Elt F) f) := by
  funext y
  unfold hidSet
  split
  · next h =>
    refine View.read_writes_cons_unit_of_mem v f inb P [] y (ix3 (0 : Fin 1) (y 1) (y 2)) (k0_off1_eq i) fun a => ?_
    match a with
    | ⟨0, _⟩ => exact h.trans (Nat.add_zero _).symm
    | ⟨1, _⟩ => exact (Nat.zero_add _).symm
    | ⟨2, _⟩ => exact (Nat.zero_add _).symm
  · next h =>
    refine (View.read_writes_cons_unit_of_not_mem v f inb P [] y (k0_off1_eq i) (0 : Fin 3) ?_).trans rfl
    show (y 0).val < (i 1).val ∨ (i 1).val + 1 ≤ (y 0).val
    omega

/-- A store through the whole of a view leaves its payload. -/
theorem read_whole_store {κ : Kind} {sp : Space} {S : Shape} {e : EltTy} (v : View sig κ sp S e) (f : v.ty.Contents (Elt F))
    {off : Fin S.rank → ℕ} (hoff : off = fun _ => 0) (inb : ∀ a, off a + S.size a ≤ S.size a) (P : Vec F S e) :
    v.read (Elt F) (v.writes (Elt F) f [⟨Rect.unit (s := S) off S.size inb, P⟩]) = P := by
  funext y
  exact View.read_writes_cons_unit_of_mem v f inb P [] y y hoff fun a => (Nat.zero_add _).symm

/-- A step that computes a block of hidden columns: the block goes into its slot of the hidden scratch and the running
    maximum of each lane is raised. -/
theorem runHid (c : Dev nD) (i : grid0.Coords) (arg2 : Memref sig .tc .vmem S512x4096 .fp8e4m3) (harg2 : arg2.IsWhole) (arg3 : Memref sig .tc .vmem S512x1 .f32) (harg3 : arg3.IsWhole) (arg4 : Memref sig .tc .vmem S512x4096 .fp8e4m3) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S10944x256 .fp8e4m3) (harg8 : arg8.IsWhole) (arg9 : Memref sig .tc .vmem S1x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x768 .fp8e4m3) (harg12 : arg12.IsWhole) (arg13 : Memref sig .tc .vmem S512x1 .f32) (harg13 : arg13.IsWhole) (arg14 : Memref sig .tc .vmem S22x512x512 .f32) (harg14 : arg14.IsWhole) (arg15 : Memref sig .tc .vmem S512x11520 .fp8e4m3) (harg15 : arg15.IsWhole) (arg16 : Memref sig .tc .vmem S512x128 .f32) (harg16 : arg16.IsWhole)
    (h1 : k0_cond1 i = 1#1) (h2 : ¬ k0_cond2 i = 1#1) (h3 : ¬ k0_cond3 i = 1#1)
    (x2 : Vec F S512x4096 .fp8e4m3) (x3 : Vec F S512x1 .f32) (x4 x5 : Vec F S512x4096 .fp8e4m3) (x6 x7 : Vec F S1x512 .f32)
    (s14 : Vec F S22x512x512 .f32) (s16 : Vec F S512x128 .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg14 fullShare s14
        ∗ owns (c : Thread nD τ) arg16 fullShare s16
        ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg14 fullShare (hidSet (i 1).val (k0_pay6 (BitVec.ofNat 32 (i 1).val) x2 x3 x4 x6 x5 x7) s14)
            ∗ owns (c : Thread nD τ) arg16 fullShare (k0_pay1 i (k0_pay8 (BitVec.ofNat 32 (i 1).val) x2 x3 x4 x6 x5 x7) (k0_pay9 (BitVec.ofNat 32 (i 1).val) x2 x3 x4 x6 x5 x7) s16)) -∗ K ⟨⟩))
      ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_eq_skeleton]; unfold cc0_ffn_skel
  simp only [dif_pos h1, dif_neg h2, dif_neg h3, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f14, %hf14, H14⟩, ⟨%f16, %hf16, H16⟩, Hk⟩
  subst hf2 hf3 hf4 hf5 hf6 hf7 hf14 hf16
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H14]
  · iexists _; isplitr
    swap; · iexact H14
    ipureintro
    simp only [View.readAt_eq_ld]
    rw [View.ld_unit_zero (S := S512x4096) hz, View.ld_unit_zero (S := S512x1) hz, View.ld_unit_zero (S := S512x4096) hz,
      View.ld_unit_zero (S := S1x512) hz, View.ld_unit_zero (S := S512x4096) hz, View.ld_unit_zero (S := S1x512) hz]
    exact read_hidSet arg14.view f14 i (k0_off1_inb i h1) _
  iexists _; isplitr
  swap; · iexact H16
  ipureintro
  refine (read_whole_store arg16.view f16 hz _ _).trans ?_
  unfold runHid.sl.r runHid.sl.r_1
  simp only [View.readAt_eq_ld]
  rw [View.ld_unit_zero (S := S512x4096) hz, View.ld_unit_zero (S := S512x1) hz, View.ld_unit_zero (S := S512x4096) hz,
      View.ld_unit_zero (S := S1x512) hz, View.ld_unit_zero (S := S512x4096) hz, View.ld_unit_zero (S := S1x512) hz]
  rw [View.ld_unit_zero (S := S512x128) hz]

/-- A step that only multiplies by the down projection and hands out codes. -/
theorem runDown (c : Dev nD) (i : grid0.Coords) (arg2 : Memref sig .tc .vmem S512x4096 .fp8e4m3) (harg2 : arg2.IsWhole) (arg3 : Memref sig .tc .vmem S512x1 .f32) (harg3 : arg3.IsWhole) (arg4 : Memref sig .tc .vmem S512x4096 .fp8e4m3) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S10944x256 .fp8e4m3) (harg8 : arg8.IsWhole) (arg9 : Memref sig .tc .vmem S1x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x768 .fp8e4m3) (harg12 : arg12.IsWhole) (arg13 : Memref sig .tc .vmem S512x1 .f32) (harg13 : arg13.IsWhole) (arg14 : Memref sig .tc .vmem S22x512x512 .f32) (harg14 : arg14.IsWhole) (arg15 : Memref sig .tc .vmem S512x11520 .fp8e4m3) (harg15 : arg15.IsWhole) (arg16 : Memref sig .tc .vmem S512x128 .f32) (harg16 : arg16.IsWhole)
    (h1 : ¬ k0_cond1 i = 1#1) (h2 : ¬ k0_cond2 i = 1#1) (h3 : k0_cond3 i = 1#1)
    (x8 : Vec F S10944x256 .fp8e4m3) (x9 : Vec F S1x256 .f32) (x10 : Vec F S512x256 .f32) (s13 : Vec F S512x1 .f32)
    (s15 : Vec F S512x11520 .fp8e4m3) (K : PUnit → sProp 𝕄) :
    iprop(owns (c : Thread nD τ) arg8 fullShare x8
        ∗ owns (c : Thread nD τ) arg9 fullShare x9
        ∗ owns (c : Thread nD τ) arg10 fullShare x10
        ∗ (∃ d, owns (c : Thread nD τ) arg11 fullShare d)
        ∗ (∃ d, owns (c : Thread nD τ) arg12 fullShare d)
        ∗ owns (c : Thread nD τ) arg13 fullShare s13
        ∗ owns (c : Thread nD τ) arg15 fullShare s15
        ∗ (iprop(owns (c : Thread nD τ) arg8 fullShare x8
            ∗ owns (c : Thread nD τ) arg9 fullShare x9
            ∗ owns (c : Thread nD τ) arg10 fullShare x10
            ∗ owns (c : Thread nD τ) arg11 fullShare (yOut s15 x8 x9 x10 s13)
            ∗ owns (c : Thread nD τ) arg12 fullShare (hcOut i h3 s15)
            ∗ owns (c : Thread nD τ) arg13 fullShare s13
            ∗ owns (c : Thread nD τ) arg15 fullShare s15) -∗ K ⟨⟩))
      ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_eq_skeleton]; unfold cc0_ffn_skel
  simp only [dif_neg h1, dif_neg h2, dif_pos h3]
  unfold owns
  iintro ⟨⟨%f8, %hf8, H8⟩, ⟨%f9, %hf9, H9⟩, ⟨%f10, %hf10, H10⟩, ⟨%d11, %f11, -, H11⟩, ⟨%d12, %f12, -, H12⟩, ⟨%f13, %hf13, H13⟩, ⟨%f15, %hf15, H15⟩, Hk⟩
  subst hf8 hf9 hf10 hf13 hf15
  sl_exec
  sl_step
  iapply Hk
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (read_whole_store arg11.view f11 hz _ _).trans ?_
    simp only [View.readAt_eq_ld]
    rw [View.ld_unit_zero (S := S512x256) hz, View.ld_unit_zero (S := S512x1) hz, View.ld_unit_zero (S := S1x256) hz]
    rfl
  isplitl [H12]
  · iexists _; isplitr
    swap; · iexact H12
    ipureintro
    refine (read_whole_store arg12.view f12 hz _ _).trans ?_
    rfl
  isplitl [H13]
  · iexists f13; isplitr; · ipureintro; rfl
    iexact H13
  iexists f15; isplitr; · ipureintro; rfl
  iexact H15

end Cert.FfnIdeal.Hand

end
-- ==== Proof.FfnQuant.lean ====
/-
  The feed-forward kernel's body at the step that quantises the hidden rows.
-/
module

public import proofs.«01_k».proof.Proof.Gen.FfnIdeal.Frame
public import proofs.«01_k».proof.Proof.Gen.FfnIdeal.Skeleton
public import Idealize.ShloMosaic.Lib.Pipeline.Frame
public import Idealize.ShloMosaic.Lib.Tactic
public import Idealize.ShloMosaic.Lib.Writes
public import Idealize.ShloMosaic.Lib.WritesUnit
public import proofs.«01_k».proof.Proof.FfnRun
public import Idealize.ShloMosaic.Lib.Pipeline.Value
public import Idealize.ShloMosaic.Lib.ValueIdx

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx

variable {F : FTy → Type} [FloatOps F]

local notation "𝕄" => MT nD τ sig Unit (Elt F) ℕ (UR sig nD τ) ℕ

/-- At the quantising step the block of codes handed out is the first one. -/
theorem off2_quant : ∀ i : grid0.Coords, k0_cond2 i = 1#1 → k0_off2 i = ![0, 0] := by decide +kernel

theorem hcOut_quant (i : grid0.Coords) (h2 : k0_cond2 i = 1#1) (h3 : k0_cond3 i = 1#1)
    (inb : ∀ a, (![0, 0] : Fin 2 → ℕ) a + S512x768.size a ≤ S512x11520.size a) (S : Vec F S512x11520 .fp8e4m3) :
    View.ld S (Rect.unit (s := S512x11520) ![0, 0] S512x768.size inb) = hcOut i h3 S := by
  unfold hcOut
  generalize k0_off2_inb i h3 = inb'
  have hO := off2_quant i h2
  generalize k0_off2 i = O at hO inb'
  subst hO
  rfl

theorem piece_inb {n : ℕ} (h : n < 22) : ∀ a, (![0, 512 * n] : Fin 2 → ℕ) a + S512x512.size a ≤ S512x11520.size a := by
  intro a
  match a with
  | ⟨0, _⟩ => show 0 + 512 ≤ 512; omega
  | ⟨1, _⟩ => show 512 * n + 512 ≤ 11520; omega

/-- The stores of the codes of the first `n` slots, the last one first. -/
def pieces (s : FVec F S512x1 .f32) (S : Vec F S22x512x512 .f32) : (n : ℕ) → n ≤ 22 → List (View.Piece (Elt F) S512x11520 .fp8e4m3)
  | 0, _ => []
  | n + 1, h => ⟨Rect.unit (s := S512x11520) ![0, 512 * n] S512x512.size (piece_inb h), k0_pay2 s (slot S ⟨n, h⟩)⟩ :: pieces s S n (by omega)

/-- After them a column below `512 n` holds the code its slot gives it. -/
theorem read_pieces {κ : Kind} {sp : Space} (v : View sig κ sp S512x11520 .fp8e4m3) (f : v.ty.Contents (Elt F))
    (s : FVec F S512x1 .f32) (S : Vec F S22x512x512 .f32) (n : ℕ) (hn : n ≤ 22) (y : S512x11520.Idx) (j : Fin 22) (k : Fin 512)
    (hj : j.val < n) (hy : (y 1).val = 512 * j.val + k.val) :
    v.read (Elt F) (v.writes (Elt F) f (pieces s S n hn)) y = k0_pay2 s (slot S j) (ix2 (y 0) k) := by
  induction n with
  | zero => omega
  | succ n ih =>
    unfold pieces
    by_cases h : j.val = n
    · subst h
      refine View.read_writes_cons_unit_of_mem v f (piece_inb hn) _ _ y (ix2 (y 0) k) rfl fun a => ?_
      match a with
      | ⟨0, _⟩ => exact (Nat.zero_add _).symm
      | ⟨1, _⟩ => exact hy
    · refine (View.read_writes_cons_unit_of_not_mem v f (piece_inb hn) _ _ y rfl (1 : Fin 2) ?_).trans (ih (by omega) (by omega))
      show (y 1).val < 512 * n ∨ 512 * n + 512 ≤ (y 1).val
      omega

theorem read_pieces_any {κ : Kind} {sp : Space} (v : View sig κ sp S512x11520 .fp8e4m3) (f g : v.ty.Contents (Elt F))
    (s : FVec F S512x1 .f32) (S : Vec F S22x512x512 .f32) (y : S512x11520.Idx) (hy : (y 1).val < 11264) :
    v.read (Elt F) (v.writes (Elt F) f (pieces s S 22 le_rfl)) y = v.read (Elt F) (v.writes (Elt F) g (pieces s S 22 le_rfl)) y :=
  (read_pieces v f s S 22 le_rfl y ⟨(y 1).val / 512, by omega⟩ ⟨(y 1).val % 512, by omega⟩ (by show (y 1).val / 512 < 22; omega)
    (by show (y 1).val = 512 * ((y 1).val / 512) + (y 1).val % 512; omega)).trans
  (read_pieces v g s S 22 le_rfl y ⟨(y 1).val / 512, by omega⟩ ⟨(y 1).val % 512, by omega⟩ (by show (y 1).val / 512 < 22; omega)
    (by show (y 1).val = 512 * ((y 1).val / 512) + (y 1).val % 512; omega)).symm

/-- So a load of columns the slots fill reads the same whatever the scratch held before. -/
theorem readCov_pieces {κ : Kind} {sp : Space} (v : View sig κ sp S512x11520 .fp8e4m3) (f : v.ty.Contents (Elt F))
    (s : FVec F S512x1 .f32) (S : Vec F S22x512x512 .f32) (B : LoadRect S512x11520) (hB : ∀ j, (B.idx j 1).val < 11264) :
    v.readCov (pieces s S 22 le_rfl) B = v.readAt (Elt F) B (v.writes (Elt F) f (pieces s S 22 le_rfl)) :=
  funext fun j => read_pieces_any v v.junk f s S (B.idx j) (hB j)

/-- The step that quantises the hidden rows: their scale and codes, then the first block of the down projection. -/
theorem runQuant (c : Dev nD) (i : grid0.Coords) (arg2 : Memref sig .tc .vmem S512x4096 .fp8e4m3) (harg2 : arg2.IsWhole) (arg3 : Memref sig .tc .vmem S512x1 .f32) (harg3 : arg3.IsWhole) (arg4 : Memref sig .tc .vmem S512x4096 .fp8e4m3) (harg4 : arg4.IsWhole) (arg5 : Memref sig .tc .vmem S512x4096 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S10944x256 .fp8e4m3) (harg8 : arg8.IsWhole) (arg9 : Memref sig .tc .vmem S1x256 .f32) (harg9 : arg9.IsWhole) (arg10 : Memref sig .tc .vmem S512x256 .f32) (harg10 : arg10.IsWhole) (arg11 : Memref sig .tc .vmem S512x256 .bf16) (harg11 : arg11.IsWhole) (arg12 : Memref sig .tc .vmem S512x768 .fp8e4m3) (harg12 : arg12.IsWhole) (arg13 : Memref sig .tc .vmem S512x1 .f32) (harg13 : arg13.IsWhole) (arg14 : Memref sig .tc .vmem S22x512x512 .f32) (harg14 : arg14.IsWhole) (arg15 : Memref sig .tc .vmem S512x11520 .fp8e4m3) (harg15 : arg15.IsWhole) (arg16 : Memref sig .tc .vmem S512x128 .f32) (harg16 : arg16.IsWhole)
    (h1 : ¬ k0_cond1 i = 1#1) (h2 : k0_cond2 i = 1#1) (h3 : k0_cond3 i = 1#1)
    (x8 : Vec F S10944x256 .fp8e4m3) (x9 : Vec F S1x256 .f32) (x10 : Vec F S512x256 .f32) (s14 : Vec F S22x512x512 .f32)
    (s16 : Vec F S512x128 .f32) (K : PUnit → sProp 𝕄) :
    iprop(owns (c : Thread nD τ) arg8 fullShare x8
        ∗ owns (c : Thread nD τ) arg9 fullShare x9
        ∗ owns (c : Thread nD τ) arg10 fullShare x10
        ∗ (∃ d, owns (c : Thread nD τ) arg11 fullShare d)
        ∗ (∃ d, owns (c : Thread nD τ) arg12 fullShare d)
        ∗ (∃ d, owns (c : Thread nD τ) arg13 fullShare d)
        ∗ owns (c : Thread nD τ) arg14 fullShare s14
        ∗ (∃ d, owns (c : Thread nD τ) arg15 fullShare d)
        ∗ owns (c : Thread nD τ) arg16 fullShare s16
        ∗ (iprop(owns (c : Thread nD τ) arg8 fullShare x8
            ∗ owns (c : Thread nD τ) arg9 fullShare x9
            ∗ owns (c : Thread nD τ) arg10 fullShare x10
            ∗ (∃ s15, ⌜CodesOf (k0_pay10 s16) s14 s15⌝ ∗ owns (c : Thread nD τ) arg11 fullShare (yOut s15 x8 x9 x10 (k0_pay10 s16)) ∗ owns (c : Thread nD τ) arg12 fullShare (hcOut i h3 s15) ∗ owns (c : Thread nD τ) arg15 fullShare s15)
            ∗ owns (c : Thread nD τ) arg13 fullShare (k0_pay10 s16)
            ∗ owns (c : Thread nD τ) arg14 fullShare s14
            ∗ owns (c : Thread nD τ) arg16 fullShare s16) -∗ K ⟨⟩))
      ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_eq_skeleton]; unfold cc0_ffn_skel
  simp only [dif_neg h1, dif_pos h2, dif_pos h3, k0_part2_eq_skeleton, k0_part3_eq_skeleton, k0_part4_eq_skeleton, k0_part5_eq_skeleton, k0_part6_eq_skeleton, k0_part7_eq_skeleton, k0_part8_eq_skeleton]
  unfold owns
  iintro ⟨⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%d15, %f15, -, H15⟩, ⟨%f16, %hf16, H16⟩, Hk⟩
  subst hf8 hf9 hf10 hf14 hf16
  have hO : k0_off2 i = ![0, 0] := off2_quant i h2
  generalize k0_off2_inb i h3 = inb
  generalize k0_off2 i = O at hO inb ⊢
  subst hO
  sl_exec
  sl_step
  iapply Hk
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11 H12 H15]
  · iexists (arg15.view.read (Elt F) (arg15.view.writes (Elt F) f15 (runQuant.sl.H15_22 c arg14 arg16 f14 f16)))
    have hL : runQuant.sl.H15_22 c arg14 arg16 f14 f16
        = pieces (k0_pay10 (arg16.view.read (Elt F) f16)) (arg14.view.read (Elt F) f14) 22 le_rfl := by
      have e16 : View.readAt (Elt F) arg16.view (Rect.unit ![0, 0] S512x128.size inb_S512x128_S512x128_0_0).toLoadRect f16
          = arg16.view.read (Elt F) f16 := by
        rw [View.readAt_eq_ld, View.ld_unit_zero (S := S512x128) hz]
      rw [← e16]
      rfl
    rw [hL]
    isplitr
    · ipureintro
      intro r j k
      exact read_pieces arg15.view f15 _ _ 22 le_rfl _ j k j.isLt (by show j.val * 512 + k.val = 512 * j.val + k.val; omega)
    isplitl [H11]
    · iexists _; isplitr
      swap; · iexact H11
      ipureintro
      refine (read_whole_store arg11.view f11 hz _ _).trans ?_
      have e16 : runQuant.sl.v16 c arg14 arg15 arg16 f14 f16 = codesA (arg15.view.read (Elt F) (arg15.view.writes (Elt F) f15
          (pieces (k0_pay10 (arg16.view.read (Elt F) f16)) (arg14.view.read (Elt F) f14) 22 le_rfl))) := by
        unfold runQuant.sl.v16; rw [hL]
        refine (readCov_pieces arg15.view f15 _ _ _ fun j => ?_).trans rfl
        have := (j 1).isLt; change (j 1).val < 10752 at this
        show 0 + 1 * (j 1).val < 11264; omega
      have e19 : runQuant.sl.v19 c arg14 arg15 arg16 f14 f16 = codesB (arg15.view.read (Elt F) (arg15.view.writes (Elt F) f15
          (pieces (k0_pay10 (arg16.view.read (Elt F) f16)) (arg14.view.read (Elt F) f14) 22 le_rfl))) := by
        unfold runQuant.sl.v19; rw [hL]
        refine (readCov_pieces arg15.view f15 _ _ _ fun j => ?_).trans rfl
        have := (j 1).isLt; change (j 1).val < 192 at this
        show 10752 + 1 * (j 1).val < 11264; omega
      have e24 : runQuant.sl.v24 c arg13 arg16 f16 = k0_pay10 (arg16.view.read (Elt F) f16) := by
        unfold runQuant.sl.v24
        refine (View.readCov_unit_zero arg13.view hz _ _).trans ?_
        rw [View.readAt_eq_ld, View.ld_unit_zero (S := S512x128) hz]
      rw [e16, e19, e24]
      simp only [View.readAt_eq_ld]
      rw [View.ld_unit_zero (S := S512x256) hz, View.ld_unit_zero (S := S1x256) hz]
      rfl
    isplitl [H12]
    · iexists _; isplitr
      swap; · iexact H12
      ipureintro
      refine (read_whole_store arg12.view f12 hz _ _).trans ?_
      unfold runQuant.sl.v14; rw [hL]
      refine (readCov_pieces arg15.view f15 _ _ _ fun j => ?_).trans ?_
      · have := (j 1).isLt; change (j 1).val < 768 at this
        show 0 + 1 * (j 1).val < 11264; omega
      · exact hcOut_quant i h2 h3 inb _
    iexists _; isplitr
    swap; · iexact H15
    ipureintro; rfl
  isplitl [H13]
  · iexists _; isplitr
    swap; · iexact H13
    ipureintro
    refine (read_whole_store arg13.view f13 hz _ _).trans ?_
    rw [View.readAt_eq_ld, View.ld_unit_zero (S := S512x128) hz]
  isplitl [H14]
  · iexists f14; isplitr; · ipureintro; rfl
    iexact H14
  iexists f16; isplitr; · ipureintro; rfl
  iexact H16

end Cert.FfnIdeal.Hand

end
-- ==== Proof.FfnData.lean ====
/-
  The feed-forward kernel's run, point by point, for any three properties of what a step leaves in the result blocks and
  any property of the scratch kept from step to step; and the frame, which asks nothing of them.
-/
module

public import proofs.«01_k».proof.Proof.FfnQuant
public import Idealize.ShloMosaic.Lib.Pipeline.ArrRel

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A step is of exactly one of the three kinds. -/
theorem kinds : ∀ t : Fin grid0.N,
    (k0_cond1 (grid0.coords t) = 1#1 ∧ ¬ k0_cond2 (grid0.coords t) = 1#1 ∧ ¬ k0_cond3 (grid0.coords t) = 1#1 ∧ t.val % 38 < 22)
      ∨ (¬ k0_cond1 (grid0.coords t) = 1#1 ∧ k0_cond2 (grid0.coords t) = 1#1 ∧ k0_cond3 (grid0.coords t) = 1#1 ∧ t.val % 38 = 22)
      ∨ (¬ k0_cond1 (grid0.coords t) = 1#1 ∧ ¬ k0_cond2 (grid0.coords t) = 1#1 ∧ k0_cond3 (grid0.coords t) = 1#1 ∧ 22 < t.val % 38) := by
  decide +kernel

/-- What is said of the scratch before each step, and of the three result blocks after it. -/
structure Says (F : FTy → Type) where
  J : ℕ → Vec F S22x512x512 .f32 → Vec F S512x11520 .fp8e4m3 → Vec F S512x128 .f32 → Prop
  P9 : Fin cfg0.N → Vec F S512x256 .bf16 → Prop
  P10 : Fin cfg0.N → Vec F S512x768 .fp8e4m3 → Prop
  P11 : Fin cfg0.N → Vec F S512x1 .f32 → Prop

/-- The proof data: a step leaves the input blocks as found, the result blocks and the scratch as said. -/
def rdat (sp : (c : Dev nD) → Says F) (c : Dev nD) : RDat τ (Elt F) Unit ℕ (UR sig nD τ) ℕ cfg0 c where
  A w := V m c (Pipeline.arrRef spec0 w)
  after w t := match w with
    | ⟨9, _⟩ => fun _ X => (sp c).P9 t X
    | ⟨10, _⟩ => fun _ X => (sp c).P10 t X
    | ⟨11, _⟩ => fun _ X => (sp c).P11 t X
    | ⟨_, _⟩ => fun Y X => X = Y
  Φ t := iprop(∃ s14 s15 s16, ⌜(sp c).J t.val s14 s15 s16⌝ ∗ owns (c : Thread nD τ) (Memref.whole cc0_scratch0) fullShare s14
      ∗ owns (c : Thread nD τ) (Memref.whole cc0_scratch1) fullShare s15 ∗ owns (c : Thread nD τ) (Memref.whole cc0_scratch2) fullShare s16 ∗ ∃ r, prngReg c r)
  q _ := fullShare
  owed _ := 0

theorem A_eq (sp : (c : Dev nD) → Says F) (c : Dev nD) (w : Fin cfg0.W) : (rdat m sp c).A w = V m c (Pipeline.arrRef spec0 w) := by
  dsimp only [rdat]

abbrev Blocks (F : FTy → Type) := (w : Fin cfg0.W) → (cfg0.win w).block.Idx → Elt F (cfg0.win w).elt

/-- The three kinds of step keep what is said. -/
structure Keeps (sp : (c : Dev nD) → Says F) : Prop where
  hid : ∀ c (t : Fin cfg0.N) (Y : Blocks F), (∀ w, (rdat m sp c).Finds w t (Y w)) → t.val % 38 < 22 →
    ∀ s14 s15 s16, (sp c).J t.val s14 s15 s16 →
      (sp c).J (t.val + 1) (hidSet (grid0.coords t 1).val (k0_pay6 (BitVec.ofNat 32 (grid0.coords t 1).val) (Y 0) (Y 1) (Y 2) (Y 4) (Y 3) (Y 5)) s14) s15
          (k0_pay1 (grid0.coords t) (k0_pay8 (BitVec.ofNat 32 (grid0.coords t 1).val) (Y 0) (Y 1) (Y 2) (Y 4) (Y 3) (Y 5)) (k0_pay9 (BitVec.ofNat 32 (grid0.coords t 1).val) (Y 0) (Y 1) (Y 2) (Y 4) (Y 3) (Y 5)) s16)
        ∧ (sp c).P9 t (Y 9) ∧ (sp c).P10 t (Y 10) ∧ (sp c).P11 t (Y 11)
  quant : ∀ c (t : Fin cfg0.N) (Y : Blocks F) (h3 : k0_cond3 (grid0.coords t) = 1#1), (∀ w, (rdat m sp c).Finds w t (Y w)) → t.val % 38 = 22 →
    ∀ s14 s15 s15' s16, (sp c).J t.val s14 s15 s16 → CodesOf (k0_pay10 s16) s14 s15' →
      (sp c).J (t.val + 1) s14 s15' s16 ∧ (sp c).P9 t (yOut s15' (Y 6) (Y 7) (Y 8) (k0_pay10 s16)) ∧ (sp c).P10 t (hcOut (grid0.coords t) h3 s15')
        ∧ (sp c).P11 t (k0_pay10 s16)
  down : ∀ c (t : Fin cfg0.N) (Y : Blocks F) (h3 : k0_cond3 (grid0.coords t) = 1#1), (∀ w, (rdat m sp c).Finds w t (Y w)) → 22 < t.val % 38 →
    ∀ s14 s15 s16, (sp c).J t.val s14 s15 s16 →
      (sp c).J (t.val + 1) s14 s15 s16 ∧ (sp c).P9 t (yOut s15 (Y 6) (Y 7) (Y 8) (Y 11)) ∧ (sp c).P10 t (hcOut (grid0.coords t) h3 s15)
        ∧ (sp c).P11 t (Y 11)

theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (sp : (c : Dev nD) → Says F) (K : Keeps m sp) (c : Dev nD) :
    (rdat m sp c).BodyObligation (defs₀ (F := F)) Variants.none () Set.univ := fun t Y hY => by
  rw [bigSep_W0, bigSep_W0, defs₀_row]
  unfold bodyAt0
  rw [show (rdat m sp c).owesAt () t.succ = (rdat m sp c).owesAt () t.castSucc from rfl]
  dsimp only [rdat]
  iintro ⟨⟨%s14, %s15, %s16, %hJ, H14, H15, H16, Hp⟩, Ho, H0, H1, H2, H3, H4, H5, H6, H7, H8, H9, H10, H11⟩
  rcases kinds t with ⟨h1, h2, h3, ht⟩ | ⟨h1, h2, h3, ht⟩ | ⟨h1, h2, h3, ht⟩
  · obtain ⟨hJ', h9, h10, h11⟩ := K.hid c t Y hY ht s14 s15 s16 hJ
    iapply (runHid c (grid0.coords t) _ _ _ _ _ _ _ _ _ _ _ _ _ _ _ _ _ _ _ _ _ _ _ _ _ _ _ _ _ _ h1 h2 h3 (Y 0) (Y 1) (Y 2) (Y 3) (Y 4) (Y 5) s14 s16 _)
    isplitl [H0]; · iexact H0
    isplitl [H1]; · iexact H1
    isplitl [H2]; · iexact H2
    isplitl [H3]; · iexact H3
    isplitl [H4]; · iexact H4
    isplitl [H5]; · iexact H5
    isplitl [H14]; · iexact H14
    isplitl [H16]; · iexact H16
    iintro ⟨H0, H1, H2, H3, H4, H5, H14, H16⟩
    isplitl [H14 H15 H16 Hp]
    · iexists _, _, _
      isplitr
      · ipureintro; exact hJ'
      isplitl [H14]; · iexact H14
      isplitl [H15]; · iexact H15
      isplitl [H16]; · iexact H16
      iexact Hp
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    isplitl [H7]; · iexists _; isplitr; · ipureintro; rfl
                    iexact H7
    isplitl [H8]; · iexists _; isplitr; · ipureintro; rfl
                    iexact H8
    isplitl [H9]; · iexists _; isplitr; · ipureintro; exact h9
                    iexact H9
    isplitl [H10]; · iexists _; isplitr; · ipureintro; exact h10
                     iexact H10
    iexists _; isplitr; · ipureintro; exact h11
    iexact H11
  · iapply (runQuant c (grid0.coords t) _ _ _ _ _ _ _ _ _ _ _ _ _ _ _ _ _ _ _ _ _ _ _ _ _ _ _ _ _ _ h1 h2 h3 (Y 6) (Y 7) (Y 8) s14 s16 _)
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H14]; · iexact H14
    isplitl [H15]; · iexists _; iexact H15
    isplitl [H16]; · iexact H16
    iintro ⟨H6, H7, H8, ⟨%s15', %hc, H9, H10, H15⟩, H11, H14, H16⟩
    obtain ⟨hJ', h9, h10, h11⟩ := K.quant c t Y h3 hY ht s14 s15 s15' s16 hJ hc
    isplitl [H14 H15 H16 Hp]
    · iexists _, _, _
      isplitr
      · ipureintro; exact hJ'
      isplitl [H14]; · iexact H14
      isplitl [H15]; · iexact H15
      isplitl [H16]; · iexact H16
      iexact Hp
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    isplitl [H7]; · iexists _; isplitr; · ipureintro; rfl
                    iexact H7
    isplitl [H8]; · iexists _; isplitr; · ipureintro; rfl
                    iexact H8
    isplitl [H9]; · iexists _; isplitr; · ipureintro; exact h9
                    iexact H9
    isplitl [H10]; · iexists _; isplitr; · ipureintro; exact h10
                     iexact H10
    iexists _; isplitr; · ipureintro; exact h11
    iexact H11
  · obtain ⟨hJ', h9, h10, h11⟩ := K.down c t Y h3 hY ht s14 s15 s16 hJ
    iapply (runDown c (grid0.coords t) _ _ _ _ _ _ _ _ _ _ _ _ _ _ _ _ _ _ _ _ _ _ _ _ _ _ _ _ _ _ h1 h2 h3 (Y 6) (Y 7) (Y 8) (Y 11) s15 _)
    isplitl [H6]; · iexact H6
    isplitl [H7]; · iexact H7
    isplitl [H8]; · iexact H8
    isplitl [H9]; · iexists _; iexact H9
    isplitl [H10]; · iexists _; iexact H10
    isplitl [H11]; · iexact H11
    isplitl [H15]; · iexact H15
    iintro ⟨H6, H7, H8, H9, H10, H11, H15⟩
    isplitl [H14 H15 H16 Hp]
    · iexists _, _, _
      isplitr
      · ipureintro; exact hJ'
      isplitl [H14]; · iexact H14
      isplitl [H15]; · iexact H15
      isplitl [H16]; · iexact H16
      iexact Hp
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    isplitl [H7]; · iexists _; isplitr; · ipureintro; rfl
                    iexact H7
    isplitl [H8]; · iexists _; isplitr; · ipureintro; rfl
                    iexact H8
    isplitl [H9]; · iexists _; isplitr; · ipureintro; exact h9
                    iexact H9
    isplitl [H10]; · iexists _; isplitr; · ipureintro; exact h10
                     iexact H10
    iexists _; isplitr; · ipureintro; exact h11
    iexact H11

set_option backward.isDefEq.respectTransparency.types false in
set_option maxHeartbeats 800000 in
/-- The run: every array at what the proof data allow, every semaphore at zero. -/
theorem run_main (sp : (c : Dev nD) → Says F) (K : Keeps m sp) (hJ0 : ∀ c s14 s15 s16, (sp c).J 0 s14 s15 s16) :
    θ_run defs (onTc (τ := τ) (main (F := F))) (s₀ m ρ) (fun r => RDat.FramePost cfg0 (rdat m sp) (V m) r ∧ r.2.sem = fun _ => 0) :=
  RDat.θ_run_frame_track (Q' := _) cfgs (0 : Fin 1) launch0 defs₀ Variants.none (rdat m sp) m ρ main
    (hbody := body_obligation m sp K) (hshare := fun c w => by unfold RDat.share; split <;> rfl)
    (howed := fun _ _ => rfl) (V := V m) (hmain := hmain m Variants.none) (hA := A_eq m sp)
    (hin := fun c => by
      unfold Pipeline.ΦA; rw [scopedRest0_eq]
      dsimp only [rdat]
      simp only [owns_whole]
      iintro ⟨⟨⟨%f0, H0⟩, ⟨%f1, H1⟩, ⟨%f2, H2⟩⟩, Hp⟩
      iexists f0, f1, f2
      isplitr
      · ipureintro; exact hJ0 c _ _ _
      isplitl [H0]; · iexact H0
      isplitl [H1]; · iexact H1
      isplitl [H2]; · iexact H2
      iexact Hp)
    (hout := fun c => by
      unfold Pipeline.ΦA; rw [scopedRest0_eq]
      dsimp only [rdat]
      simp only [owns_whole]
      iintro ⟨%s14, %s15, %s16, -, H0, H1, H2, Hp⟩
      isplitl [H0 H1 H2]
      · isplitl [H0]; · iexists _; iexact H0
        isplitl [H1]; · iexists _; iexact H1
        iexists _; iexact H2
      iexact Hp)

/-- Nothing is asked. -/
def anything (c : Dev nD) : Says F := ⟨fun _ _ _ _ => True, fun _ _ => True, fun _ _ => True, fun _ _ => True⟩

theorem keeps_anything : Keeps m (anything (F := F)) :=
  ⟨fun _ _ _ _ _ _ _ _ _ => ⟨trivial, trivial, trivial, trivial⟩, fun _ _ _ _ _ _ _ _ _ _ _ _ => ⟨trivial, trivial, trivial, trivial⟩,
    fun _ _ _ _ _ _ _ _ _ _ => ⟨trivial, trivial, trivial, trivial⟩⟩

/-- The frame from a run: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c =>
      ⟨(h.1.arr_in c 0 rfl).trans ((A_eq m anything c 0).trans (V_main_arg0 m c)),
      (h.1.arr_in c 1 rfl).trans ((A_eq m anything c 1).trans (V_main_arg1 m c)),
      (h.1.arr_in c 2 rfl).trans ((A_eq m anything c 2).trans (V_main_arg2 m c)),
      (h.1.arr_in c 3 rfl).trans ((A_eq m anything c 3).trans (V_main_arg3 m c)),
      (h.1.arr_in c 4 rfl).trans ((A_eq m anything c 4).trans (V_main_arg4 m c)),
      (h.1.arr_in c 5 rfl).trans ((A_eq m anything c 5).trans (V_main_arg5 m c)),
      (h.1.arr_in c 6 rfl).trans ((A_eq m anything c 6).trans (V_main_arg6 m c)),
      (h.1.arr_in c 7 rfl).trans ((A_eq m anything c 7).trans (V_main_arg7 m c)),
      (h.1.arr_in c 8 rfl).trans ((A_eq m anything c 8).trans (V_main_arg8 m c))⟩, h.2⟩)
    (run_main m ρ anything (keeps_anything m) fun _ _ _ _ => trivial)

end Cert.FfnIdeal.Hand

end
-- ==== Proof.FfnFrame.lean ====
/-
  The feed-forward kernel as printed has the same bodies, windows and host program as its idealised reading, so its frame is
  that one's at the floats of the printed program.
-/
module

public import proofs.«01_k».proof.Defs
public import proofs.«01_k».proof.Proof.FfnData
public import proofs.«01_k».proof.Proof.Gen.Ffn.Frame

@[expose] public section

set_option maxRecDepth 16384

noncomputable section

namespace Cert.Proof.FfnFrame

open Idealize.ShloMosaic Idealize.SL.Sem

variable {F : FTy → Type} [FloatOps F]

set_option maxHeartbeats 0 in
/-- The two programs' tables of pipeline bodies are one table. -/
theorem bodies_eq : HEq (Cert.Ffn.defs₀ (F := F)) (Cert.FfnIdeal.defs₀ (F := F)) := by
  unfold Cert.Ffn.defs₀ Cert.FfnIdeal.defs₀
  refine heq_of_eq (congrArg (Defs.onTc (nD := Cert.FfnIdeal.nD) (τ := Cert.FfnIdeal.τ)) ?_)
  refine funext fun l => funext fun a => ?_
  revert a
  match l with
  | ⟨0, _⟩ => exact fun a => rfl

set_option maxHeartbeats 0 in
/-- So their tables of bodies and pipelines are one table too. -/
theorem defs_eq : HEq (Cert.Ffn.defs (F := F)) (Cert.FfnIdeal.defs (F := F)) := by
  unfold Cert.Ffn.defs Cert.FfnIdeal.defs
  exact heq_of_eq (congrArg (Pipeline.defs (Cert.FfnIdeal.pcfgs (F := F))) (eq_of_heq bodies_eq))

set_option maxHeartbeats 0 in
theorem frame : Cert.quiescent_Ffn (hFfn := Cert.Ffn.Gen.facts) := by
  intro m g _
  have h := Cert.FfnIdeal.Hand.frame (F := Bits) m g
  rw [← eq_of_heq (defs_eq (F := Bits))] at h
  exact h

end Cert.Proof.FfnFrame

end
-- ==== Proof.FfnIn.lean ====
/-
  Hand-written, untrusted. The feed-forward kernel's blocks: where each lies in its array, and what a step finds in the blocks of
  the arguments.
-/
module

public import proofs.«01_k».proof.Proof.FfnData
public import proofs.«01_k».proof.Proof.Rows

@[expose] public section

set_option maxRecDepth 16384

noncomputable section

namespace Cert.Proof.FfnIn

open Cert.FfnIdeal Cert.FfnIdeal.Gen Cert.FfnIdeal.Hand
open Idealize.ShloMosaic Idealize.ShloMosaic.TcCoe Idealize.ShloMosaic.ValueIdx
open Idealize.ShloMosaic.Pipeline (RDat Cfg Window)

variable (m : (ℓ : Loc nD τ sig) → Buf (Elt Ideal) ℓ)

/-- The hidden block a step stages, the last one after all are done. -/
def hb (t : ℕ) : ℕ := min (t % 38) 21

/-- The down-projection block a step stages, the first one before any is due. -/
def yb (t : ℕ) : ℕ := t % 38 - 22

/-- The block of codes a step stages. -/
def cb (t : ℕ) : ℕ := min (t % 38 - 22) 14

/-- The blocks each step stages, two axes each. -/
theorem idx : ∀ t : Fin cfg0.N,
    (win0_0.index t (0 : Fin 2) = t.val / 38 ∧ win0_0.index t (1 : Fin 2) = 0) ∧ (win0_1.index t (0 : Fin 2) = t.val / 38 ∧ win0_1.index t (1 : Fin 2) = 0)
    ∧ (win0_2.index t (0 : Fin 2) = hb t.val ∧ win0_2.index t (1 : Fin 2) = 0) ∧ (win0_3.index t (0 : Fin 2) = hb t.val ∧ win0_3.index t (1 : Fin 2) = 0)
    ∧ (win0_4.index t (0 : Fin 2) = 0 ∧ win0_4.index t (1 : Fin 2) = hb t.val) ∧ (win0_5.index t (0 : Fin 2) = 0 ∧ win0_5.index t (1 : Fin 2) = hb t.val)
    ∧ (win0_6.index t (0 : Fin 2) = 0 ∧ win0_6.index t (1 : Fin 2) = yb t.val) ∧ (win0_7.index t (0 : Fin 2) = 0 ∧ win0_7.index t (1 : Fin 2) = yb t.val)
    ∧ (win0_8.index t (0 : Fin 2) = t.val / 38 ∧ win0_8.index t (1 : Fin 2) = yb t.val) ∧ (win0_9.index t (0 : Fin 2) = t.val / 38 ∧ win0_9.index t (1 : Fin 2) = yb t.val)
    ∧ (win0_10.index t (0 : Fin 2) = t.val / 38 ∧ win0_10.index t (1 : Fin 2) = cb t.val) ∧ (win0_11.index t (0 : Fin 2) = t.val / 38 ∧ win0_11.index t (1 : Fin 2) = 0) :=
  (by decide +kernel : ∀ t : Fin grid0.N, _)

/-- The sizes of the blocks cut at their arrays' ends. -/
theorem sizes : ∀ t : Fin cfg0.N,
    (win0_2.xsize (grid0.coords t) (0 : Fin 2) = min 512 (10944 - hb t.val * 512) ∧ win0_2.xsize (grid0.coords t) (1 : Fin 2) = 4096)
    ∧ (win0_3.xsize (grid0.coords t) (0 : Fin 2) = min 512 (10944 - hb t.val * 512) ∧ win0_3.xsize (grid0.coords t) (1 : Fin 2) = 4096)
    ∧ (win0_4.xsize (grid0.coords t) (0 : Fin 2) = 1 ∧ win0_4.xsize (grid0.coords t) (1 : Fin 2) = min 512 (10944 - hb t.val * 512))
    ∧ (win0_5.xsize (grid0.coords t) (0 : Fin 2) = 1 ∧ win0_5.xsize (grid0.coords t) (1 : Fin 2) = min 512 (10944 - hb t.val * 512))
    ∧ (win0_10.xsize (grid0.coords t) (0 : Fin 2) = 512 ∧ win0_10.xsize (grid0.coords t) (1 : Fin 2) = min 768 (10944 - cb t.val * 768)) :=
  (by decide +kernel : ∀ t : Fin grid0.N, _)

/-- The step's row block is one of three. -/
theorem rb_lt (t : Fin cfg0.N) : t.val / 38 < 3 := by have h : t.val < 114 := t.isLt; omega

/-- Row `r` of the step's row block, in the array. -/
def row (t : Fin cfg0.N) (r : Fin 512) : Fin 1536 := ⟨t.val / 38 * 512 + r.val, by have := rb_lt t; have := r.isLt; omega⟩

/-- Column `k` of the step's down-projection block, in the array. -/
def col (t : Fin cfg0.N) (k : Fin 256) : Fin 4096 := ⟨yb t.val * 256 + k.val, by unfold yb; have := k.isLt; omega⟩

abbrev a0 (c : Dev nD) : Vec Ideal S1536x4096 .fp8e4m3 := m ((c : Thread nD τ).loc main_arg0)
abbrev a1 (c : Dev nD) : Vec Ideal S1536x1 .f32 := m ((c : Thread nD τ).loc main_arg1)
abbrev a2 (c : Dev nD) : Vec Ideal S10944x4096 .fp8e4m3 := m ((c : Thread nD τ).loc main_arg2)
abbrev a3 (c : Dev nD) : Vec Ideal S10944x4096 .fp8e4m3 := m ((c : Thread nD τ).loc main_arg3)
abbrev a4 (c : Dev nD) : Vec Ideal S1x10944 .f32 := m ((c : Thread nD τ).loc main_arg4)
abbrev a5 (c : Dev nD) : Vec Ideal S1x10944 .f32 := m ((c : Thread nD τ).loc main_arg5)
abbrev a6 (c : Dev nD) : Vec Ideal S10944x4096 .fp8e4m3 := m ((c : Thread nD τ).loc main_arg6)
abbrev a7 (c : Dev nD) : Vec Ideal S1x4096 .f32 := m ((c : Thread nD τ).loc main_arg7)
abbrev a8 (c : Dev nD) : Vec Ideal S1536x4096 .f32 := m ((c : Thread nD τ).loc main_arg8)

variable (sp : (c : Dev nD) → Says Ideal) (c : Dev nD)

/-- An argument's block, found by any step, holds the array's elements where the block lies inside the array. -/
theorem found (w : Fin cfg0.W) (hw : (cfg0.win w).isOut = false)
    (hclip : ∀ t t' : Fin cfg0.N, (cfg0.win w).index t = (cfg0.win w).index t' → (cfg0.win w).clip (cfg0.grid.coords t) = (cfg0.win w).clip (cfg0.grid.coords t'))
    (hkeep : ∀ t Y X, (rdat m sp c).after w t Y X → X = Y)
    (t : Fin cfg0.N) (Y : (cfg0.win w).block.Idx → Elt Ideal (cfg0.win w).elt) (hY : (rdat m sp c).Finds w t Y)
    (y : ((cfg0.win w).xblock (cfg0.grid.coords t)).Idx) :
    Y ((cfg0.win w).xinj (cfg0.grid.coords t) y) = ((cfg0.win w).blk t).view.read (Elt Ideal) (V m c (Pipeline.arrRef spec0 w)) y := by
  obtain ⟨d, rfl⟩ := RDat.finds_in_eq_fetched (rdat m sp c) w hw hclip hkeep t Y hY
  unfold RDat.fetched
  rw [Window.fill_xinj]
  unfold RDat.blockOf
  rw [A_eq]

/-- The same at an index of the block that lies inside the array. -/
theorem found_at (w : Fin cfg0.W) (hw : (cfg0.win w).isOut = false)
    (hclip : ∀ t t' : Fin cfg0.N, (cfg0.win w).index t = (cfg0.win w).index t' → (cfg0.win w).clip (cfg0.grid.coords t) = (cfg0.win w).clip (cfg0.grid.coords t'))
    (hkeep : ∀ t Y X, (rdat m sp c).after w t Y X → X = Y)
    (t : Fin cfg0.N) (Y : (cfg0.win w).block.Idx → Elt Ideal (cfg0.win w).elt) (hY : (rdat m sp c).Finds w t Y)
    (j : (cfg0.win w).block.Idx) (hj : ∀ a, (j a).val < (cfg0.win w).xsize (cfg0.grid.coords t) a) :
    Y j = ((cfg0.win w).blk t).view.read (Elt Ideal) (V m c (Pipeline.arrRef spec0 w)) fun a => ⟨(j a).val, hj a⟩ :=
  found m sp c w hw hclip hkeep t Y hY fun a => ⟨(j a).val, hj a⟩

theorem in0 (t : Fin cfg0.N) (Y : Vec Ideal S512x4096 .fp8e4m3) (hY : (rdat m sp c).Finds 0 t Y) (r : Fin 512) (k : Fin 4096) :
    Y (ix2 r k) = a0 m c (ix2 (row t r) k) := by
  obtain ⟨e0, e1⟩ := (idx t).1
  refine (found m sp c 0 rfl (fun _ _ _ => rfl) (fun _ _ _ h => h) t Y hY (ix2 r k)).trans ?_
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = t.val / 38 * 512 + r.val; omega
  | ⟨1, _⟩ => show win0_0.index t (1 : Fin 2) * 4096 + 1 * k.val = k.val; omega

theorem in1 (t : Fin cfg0.N) (Y : Vec Ideal S512x1 .f32) (hY : (rdat m sp c).Finds 1 t Y) (r : Fin 512) :
    Y (ix2 r 0) = a1 m c (ix2 (row t r) 0) := by
  obtain ⟨e0, e1⟩ := (idx t).2.1
  refine (found m sp c 1 rfl (fun _ _ _ => rfl) (fun _ _ _ h => h) t Y hY (ix2 r 0)).trans ?_
  show V m c main_arg1 (((cfg0.win 1).blk t).view.emb (ix2 r 0)) = _
  rw [V_main_arg1]
  refine congrArg _ (funext fun a => Fin.ext ?_)
  match a with
  | ⟨0, _⟩ => show win0_1.index t (0 : Fin 2) * 512 + 1 * r.val = t.val / 38 * 512 + r.val; omega
  | ⟨1, _⟩ => show win0_1.index t (1 : Fin 2) * 1 + 1 * 0 = 0; omega

theorem in2 (t : Fin cfg0.N) (Y : Vec Ideal S512x4096 .fp8e4m3) (hY : (rdat m sp c).Finds 2 t Y) (r : Fin 512) (k : Fin 4096)
    (h : hb t.val * 512 + r.val < 10944) : Y (ix2 r k) = a2 m c (ix2 ⟨hb t.val * 512 + r.val, h⟩ k) := by
  obtain ⟨e0, e1⟩ := (idx t).2.2.1
  obtain ⟨z0, z1⟩ := (sizes t).1
  have hr := r.isLt
  have hin : ∀ a, ((ix2 r k : (cfg0.win 2).block.Idx) a).val < (cfg0.win 2).xsize (cfg0.grid.coords t) a := fun a => by
    match a with
    | ⟨0, _⟩ => show r.val < win0_2.xsize (grid0.coords t) (0 : Fin 2); omega
    | ⟨1, _⟩ => show k.val < win0_2.xsize (grid0.coords t) (1 : Fin 2); have := k.isLt; omega
  refine (found_at m sp c 2 rfl (fun t t' e => funext fun a => congrArg (fun x => Pipeline.Clip.of (x a) (S512x4096.size a) (S10944x4096.size a)) e) (fun _ _ _ h => h) t Y hY _ hin).trans ?_
  show V m c main_arg2 (((cfg0.win 2).blk t).view.emb fun a => ⟨((ix2 r k : (cfg0.win 2).block.Idx) a).val, hin a⟩) = _
  rw [V_main_arg2]
  refine congrArg _ (funext fun a => Fin.ext ?_)
  match a with
  | ⟨0, _⟩ => show win0_2.index t (0 : Fin 2) * 512 + 1 * r.val = hb t.val * 512 + r.val; omega
  | ⟨1, _⟩ => show win0_2.index t (1 : Fin 2) * 4096 + 1 * k.val = k.val; omega

theorem in3 (t : Fin cfg0.N) (Y : Vec Ideal S512x4096 .fp8e4m3) (hY : (rdat m sp c).Finds 3 t Y) (r : Fin 512) (k : Fin 4096)
    (h : hb t.val * 512 + r.val < 10944) : Y (ix2 r k) = a3 m c (ix2 ⟨hb t.val * 512 + r.val, h⟩ k) := by
  obtain ⟨e0, e1⟩ := (idx t).2.2.2.1
  obtain ⟨z0, z1⟩ := (sizes t).2.1
  have hr := r.isLt
  have hin : ∀ a, ((ix2 r k : (cfg0.win 3).block.Idx) a).val < (cfg0.win 3).xsize (cfg0.grid.coords t) a := fun a => by
    match a with
    | ⟨0, _⟩ => show r.val < win0_3.xsize (grid0.coords t) (0 : Fin 2); omega
    | ⟨1, _⟩ => show k.val < win0_3.xsize (grid0.coords t) (1 : Fin 2); have := k.isLt; omega
  refine (found_at m sp c 3 rfl (fun t t' e => funext fun a => congrArg (fun x => Pipeline.Clip.of (x a) (S512x4096.size a) (S10944x4096.size a)) e) (fun _ _ _ h => h) t Y hY _ hin).trans ?_
  show V m c main_arg3 (((cfg0.win 3).blk t).view.emb fun a => ⟨((ix2 r k : (cfg0.win 3).block.Idx) a).val, hin a⟩) = _
  rw [V_main_arg3]
  refine congrArg _ (funext fun a => Fin.ext ?_)
  match a with
  | ⟨0, _⟩ => show win0_3.index t (0 : Fin 2) * 512 + 1 * r.val = hb t.val * 512 + r.val; omega
  | ⟨1, _⟩ => show win0_3.index t (1 : Fin 2) * 4096 + 1 * k.val = k.val; omega

theorem in4 (t : Fin cfg0.N) (Y : Vec Ideal S1x512 .f32) (hY : (rdat m sp c).Finds 4 t Y) (k : Fin 512)
    (h : hb t.val * 512 + k.val < 10944) : Y (ix2 0 k) = a4 m c (ix2 0 ⟨hb t.val * 512 + k.val, h⟩) := by
  obtain ⟨e0, e1⟩ := (idx t).2.2.2.2.1
  obtain ⟨z0, z1⟩ := (sizes t).2.2.1
  have hk := k.isLt
  have hin : ∀ a, ((ix2 0 k : (cfg0.win 4).block.Idx) a).val < (cfg0.win 4).xsize (cfg0.grid.coords t) a := fun a => by
    match a with
    | ⟨0, _⟩ => show 0 < win0_4.xsize (grid0.coords t) (0 : Fin 2); omega
    | ⟨1, _⟩ => show k.val < win0_4.xsize (grid0.coords t) (1 : Fin 2); have := k.isLt; omega
  refine (found_at m sp c 4 rfl (fun t t' e => funext fun a => congrArg (fun x => Pipeline.Clip.of (x a) (S1x512.size a) (S1x10944.size a)) e) (fun _ _ _ h => h) t Y hY _ hin).trans ?_
  show V m c main_arg4 (((cfg0.win 4).blk t).view.emb fun a => ⟨((ix2 0 k : (cfg0.win 4).block.Idx) a).val, hin a⟩) = _
  rw [V_main_arg4]
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * k.val = hb t.val * 512 + k.val; omega

theorem in5 (t : Fin cfg0.N) (Y : Vec Ideal S1x512 .f32) (hY : (rdat m sp c).Finds 5 t Y) (k : Fin 512)
    (h : hb t.val * 512 + k.val < 10944) : Y (ix2 0 k) = a5 m c (ix2 0 ⟨hb t.val * 512 + k.val, h⟩) := by
  obtain ⟨e0, e1⟩ := (idx t).2.2.2.2.2.1
  obtain ⟨z0, z1⟩ := (sizes t).2.2.2.1
  have hk := k.isLt
  have hin : ∀ a, ((ix2 0 k : (cfg0.win 5).block.Idx) a).val < (cfg0.win 5).xsize (cfg0.grid.coords t) a := fun a => by
    match a with
    | ⟨0, _⟩ => show 0 < win0_5.xsize (grid0.coords t) (0 : Fin 2); omega
    | ⟨1, _⟩ => show k.val < win0_5.xsize (grid0.coords t) (1 : Fin 2); have := k.isLt; omega
  refine (found_at m sp c 5 rfl (fun t t' e => funext fun a => congrArg (fun x => Pipeline.Clip.of (x a) (S1x512.size a) (S1x10944.size a)) e) (fun _ _ _ h => h) t Y hY _ hin).trans ?_
  show V m c main_arg5 (((cfg0.win 5).blk t).view.emb fun a => ⟨((ix2 0 k : (cfg0.win 5).block.Idx) a).val, hin a⟩) = _
  rw [V_main_arg5]
  refine congrArg _ (funext fun a => Fin.ext ?_)
  match a with
  | ⟨0, _⟩ => show win0_5.index t (0 : Fin 2) * 1 + 1 * 0 = 0; omega
  | ⟨1, _⟩ => show win0_5.index t (1 : Fin 2) * 512 + 1 * k.val = hb t.val * 512 + k.val; omega

theorem in6 (t : Fin cfg0.N) (Y : Vec Ideal S10944x256 .fp8e4m3) (hY : (rdat m sp c).Finds 6 t Y) (n : Fin 10944) (k : Fin 256) :
    Y (ix2 n k) = a6 m c (ix2 n (col t k)) := by
  obtain ⟨e0, e1⟩ := (idx t).2.2.2.2.2.2.1
  refine (found m sp c 6 rfl (fun _ _ _ => rfl) (fun _ _ _ h => h) t Y hY (ix2 n k)).trans ?_
  show V m c main_arg6 (((cfg0.win 6).blk t).view.emb (ix2 n k)) = _
  rw [V_main_arg6]
  refine congrArg _ (funext fun a => Fin.ext ?_)
  match a with
  | ⟨0, _⟩ => show win0_6.index t (0 : Fin 2) * 10944 + 1 * n.val = n.val; omega
  | ⟨1, _⟩ => show win0_6.index t (1 : Fin 2) * 256 + 1 * k.val = yb t.val * 256 + k.val; omega

theorem in7 (t : Fin cfg0.N) (Y : Vec Ideal S1x256 .f32) (hY : (rdat m sp c).Finds 7 t Y) (k : Fin 256) :
    Y (ix2 0 k) = a7 m c (ix2 0 (col t k)) := by
  obtain ⟨e0, e1⟩ := (idx t).2.2.2.2.2.2.2.1
  refine (found m sp c 7 rfl (fun _ _ _ => rfl) (fun _ _ _ h => h) t Y hY (ix2 0 k)).trans ?_
  show V m c main_arg7 (((cfg0.win 7).blk t).view.emb (ix2 0 k)) = _
  rw [V_main_arg7]
  refine congrArg _ (funext fun a => Fin.ext ?_)
  match a with
  | ⟨0, _⟩ => show win0_7.index t (0 : Fin 2) * 1 + 1 * 0 = 0; omega
  | ⟨1, _⟩ => show win0_7.index t (1 : Fin 2) * 256 + 1 * k.val = yb t.val * 256 + k.val; omega

theorem in8 (t : Fin cfg0.N) (Y : Vec Ideal S512x256 .f32) (hY : (rdat m sp c).Finds 8 t Y) (r : Fin 512) (k : Fin 256) :
    Y (ix2 r k) = a8 m c (ix2 (row t r) (col t k)) := by
  obtain ⟨e0, e1⟩ := (idx t).2.2.2.2.2.2.2.2.1
  refine (found m sp c 8 rfl (fun _ _ _ => rfl) (fun _ _ _ h => h) t Y hY (ix2 r k)).trans ?_
  show V m c main_arg8 (((cfg0.win 8).blk t).view.emb (ix2 r k)) = _
  rw [V_main_arg8]
  refine congrArg _ (funext fun a => Fin.ext ?_)
  match a with
  | ⟨0, _⟩ => show win0_8.index t (0 : Fin 2) * 512 + 1 * r.val = t.val / 38 * 512 + r.val; omega
  | ⟨1, _⟩ => show win0_8.index t (1 : Fin 2) * 256 + 1 * k.val = yb t.val * 256 + k.val; omega

end Cert.Proof.FfnIn

end
-- ==== Proof.FfnRows.lean ====
/-
  Hand-written, untrusted. The feed-forward call's payloads, of the kernel (a block of 512 rows, blocks of columns) and of the
  reference (all 1536 rows), each read at one element, in one vocabulary.
-/
module

public import proofs.«01_k».proof.Proof.Rows
public import proofs.«01_k».proof.Proof.FfnQuant
public import proofs.«01_k».proof.Proof.Gen.FfnRefIdeal.Value

@[expose] public section

set_option maxRecDepth 16384

noncomputable section

namespace Cert.Proof.FfnRows

open Idealize.ShloMosaic Idealize.ShloMosaic.ValueIdx Cert.Proof.Rows

/-- One hidden value: the gated product of a row with a row of each of the two weight matrices. -/
def hid (x : Fin 4096 → EReal) (s : EReal) (wg wu : Fin 4096 → EReal) (sg su : EReal) : EReal :=
  (∑ k : Fin 4096, x k * wg k) * s * sg * FloatOps.logistic (F := Ideal) (φ := .f32) ((∑ k : Fin 4096, x k * wg k) * s * sg)
    * ((∑ k : Fin 4096, x k * wu k) * s * su)

/-- The magnitude of a value. -/
def mag (x : EReal) : EReal := FloatOps.absf (F := Ideal) (φ := .f32) x

theorem mag_nonneg (x : EReal) : 0 ≤ mag x := by
  show (0 : EReal) ≤ max x (-x)
  rcases le_total 0 x with h | h
  · exact h.trans (le_max_left _ _)
  · exact (EReal.neg_nonneg.mpr h).trans (le_max_right _ _)

theorem mag_zero : mag 0 = 0 := by
  show max (0 : EReal) (-0) = 0
  simp

theorem mag_of_nonneg {x : EReal} (h : 0 ≤ x) : mag x = x :=
  max_eq_left ((EReal.neg_le_neg_iff.mpr h).trans (by simpa using h))

theorem negInf : Ideal.ofBits .f32 0xFF800000#32 = (⊥ : EReal) := by
  first | exact Ideal.ofBits_neg_inf_f32 | decide | rfl

/-- A row's largest magnitude lies below a bound exactly when every magnitude does. -/
theorem amax_le {k : ℕ} (f : Fin k → EReal) (b : EReal) : amax f ≤ b ↔ ∀ c, mag (f c) ≤ b := by
  unfold amax
  rw [Finset.fold_max_le, negInf]
  exact ⟨fun h c => h.2 c (Finset.mem_univ c), fun h => ⟨bot_le, fun c _ => h c⟩⟩

theorem logistic_apply {s : Shape} {φ : FTy} (a : FVec Ideal s φ) (i : s.Idx) : logistic a i = FloatOps.logistic (a i) := rfl

namespace K
open Cert.FfnIdeal Cert.FfnIdeal.Gen Cert.FfnIdeal.Hand

theorem quant (s : FVec Ideal S512x1 .f32) (v : Vec Ideal S1x512x512 .f32) (r k : Fin 512) :
    k0_pay2 (F := Ideal) s v (ix2 r k) = code (s (ix2 r 0)) (v (ix3 0 r k)) := by
  unfold k0_pay2 code
  simp -implicitDefEqProofs only [shapeCast_self, truncf_apply, minimumf_apply, maximumf_apply, divf_apply, broadcast_apply, bcol_apply, shapeCast_1ab_ab_apply]

/-- The mask of a block's columns: those inside the array. -/
theorem mask : ∀ (j : Fin 22) (k : Fin 512),
    IntOp.cmpi .slt (BitVec.ofNat 32 (0 * 512 + k.val) + BitVec.ofNat 32 j.val * 512#32) 10944#32 = if j.val * 512 + k.val < 10944 then 1#1 else 0#1 := by
  decide +kernel

theorem hidden (j : ℕ) (hj : j < 22) (x : Vec Ideal S512x4096 .fp8e4m3) (s : Vec Ideal S512x1 .f32) (wg : Vec Ideal S512x4096 .fp8e4m3)
    (sg : Vec Ideal S1x512 .f32) (wu : Vec Ideal S512x4096 .fp8e4m3) (su : Vec Ideal S1x512 .f32) (r k : Fin 512) :
    k0_pay5 (F := Ideal) (BitVec.ofNat 32 j) x s wg sg wu su (ix2 r k)
      = if j * 512 + k.val < 10944 then hid (fun i => x (ix2 r i)) (s (ix2 r 0)) (fun i => wg (ix2 k i)) (fun i => wu (ix2 k i)) (sg (ix2 0 k)) (su (ix2 0 k)) else 0 := by
  have hd : dot_S512x4096_S512x4096_S512x512_1_1_0_0_n_n = DotDims.transposedRhs 512 4096 512 := rfl
  unfold k0_pay5 hid
  simp -implicitDefEqProofs only [select_apply, addf_apply, mulf_apply, logistic_apply, bcol_apply, broadcastTo_1b_ab_apply, broadcast_apply, hd, matmul,
    Ideal.matmul_transposedRhs_apply, constant_apply, Ideal.ofBits_zero_f32, zero_add, shapeCast_self]
  have hc := mask ⟨j, hj⟩ k
  refine (congrArg (fun b => Scalar.select b _ _) hc).trans ?_
  show (if (if j * 512 + k.val < 10944 then 1#1 else 0#1) = 1 then _ else Ideal.ofBits .f32 0x00000000#32) = _
  rw [Ideal.ofBits_zero_f32]
  by_cases h : j * 512 + k.val < 10944
  · simp only [if_pos h]; rfl
  · simp only [if_neg h]; rfl

theorem scale_row (X : Vec Ideal S512x128 .f32) (r : Fin 512) (hX : ∀ c, 0 ≤ X (ix2 r c)) (u : Fin 1) :
    k0_pay10 (F := Ideal) X (ix2 r u) = scale (amax fun c => X (ix2 r c)) := by
  unfold k0_pay10
  simp -implicitDefEqProofs only [select_apply, cmpf_apply, divf_apply, broadcast_apply, shapeCast_a_a1_apply]
  refine congrArg scale ((rowMax_apply X _ _ _ _ r).trans (congrArg (Finset.fold max _ · Finset.univ) (funext fun c => ?_)))
  exact (mag_of_nonneg (hX _)).symm

theorem down (a : Vec Ideal S512x10752 .fp8e4m3) (w : Vec Ideal S10752x256 .fp8e4m3) (b : Vec Ideal S512x192 .fp8e4m3) (v : Vec Ideal S192x256 .fp8e4m3)
    (x : Vec Ideal S512x256 .f32) (s : Vec Ideal S512x1 .f32) (sd : Vec Ideal S1x256 .f32) (r : Fin 512) (k : Fin 256) :
    k0_pay4 (F := Ideal) a w b v x s sd (ix2 r k)
      = x (ix2 r k) + (∑ i : Fin 10752, a (ix2 r i) * w (ix2 i k) + ∑ i : Fin 192, b (ix2 r i) * v (ix2 i k)) * s (ix2 r 0) * sd (ix2 0 k) := by
  have hd : dot_S512x10752_S10752x256_S512x256_1_0_0_1_n_n = DotDims.plain 512 10752 256 := rfl
  have hd' : dot_S512x192_S192x256_S512x256_1_0_0_1_n_n = DotDims.plain 512 192 256 := rfl
  unfold k0_pay4
  simp -implicitDefEqProofs only [truncf_apply, addf_apply, mulf_apply, bcol_apply, broadcastTo_1b_ab_apply, hd, hd', matmul,
    Ideal.matmul_plain_apply, constant_apply, Ideal.ofBits_zero_f32, zero_add, shapeCast_self]

end K

namespace R
open Cert.FfnRefIdeal Cert.FfnRefIdeal.Gen

variable (x : Vec Ideal S1536x4096 .fp8e4m3) (s : Vec Ideal S1536x1 .f32) (wg : Vec Ideal S10944x4096 .fp8e4m3)
    (sg : Vec Ideal S1x10944 .f32) (wu : Vec Ideal S10944x4096 .fp8e4m3) (su : Vec Ideal S1x10944 .f32)

/-- The reference's hidden value at a row and a column. -/
def hrow (r : Fin 1536) (c : Fin 10944) : EReal :=
  hid (fun i => x (ix2 r i)) (s (ix2 r 0)) (fun i => wg (ix2 c i)) (fun i => wu (ix2 c i)) (sg (ix2 0 c)) (su (ix2 0 c))

theorem hidden (r : Fin 1536) (c : Fin 10944) : k0_pay2 (F := Ideal) x s wg sg wu su (ix2 r c) = hrow x s wg sg wu su r c := by
  have hd : dot_S1536x4096_S4096x10944_S1536x10944_1_0_0_1_n_n = DotDims.plain 1536 4096 10944 := rfl
  unfold k0_pay2 hrow hid
  simp -implicitDefEqProofs only [mulf_apply, logistic_apply, bcol_apply, broadcastTo_1b_ab_apply, hd, matmul,
    Ideal.matmul_plain_apply, constant_apply, Ideal.ofBits_zero_f32, zero_add]
  have ht : ∀ (w : Vec Ideal S10944x4096 .fp8e4m3) (i : Fin 4096), transpose S4096x10944 [1, 0] w transposes_S10944x4096_p1_0_S4096x10944 (ix2 i c) = w (ix2 c i) :=
    fun w i => transpose_ix2_apply (a := 10944) (b := 4096) w _ i c
  simp only [ht]

/-- The reference's scale of a row. -/
def hscale (r : Fin 1536) : EReal := scale (amax (hrow x s wg sg wu su r))

theorem scale_row (r : Fin 1536) : k0_pay3 (F := Ideal) x s wg sg wu su (ix1 r) = hscale x s wg sg wu su r := by
  unfold k0_pay3 hscale
  simp -implicitDefEqProofs only [select_apply, cmpf_apply, divf_apply, broadcast_apply]
  exact congrArg scale ((rowAmax_apply _ _ _ _ r).trans (congrArg amax (funext fun c => hidden x s wg sg wu su r c)))

theorem scales_row (r : Fin 1536) (u : Fin 1) : k0_pay5 (F := Ideal) x s wg sg wu su (ix2 r u) = hscale x s wg sg wu su r := by
  unfold k0_pay5
  simp -implicitDefEqProofs only [shapeCast_a_a1_apply, scale_row]

theorem codes_row (r : Fin 1536) (c : Fin 10944) :
    k0_pay4 (F := Ideal) x s wg sg wu su (ix2 r c) = code (hscale x s wg sg wu su r) (hrow x s wg sg wu su r c) := by
  unfold k0_pay4 code
  simp -implicitDefEqProofs only [truncf_apply, minimumf_apply, maximumf_apply, divf_apply, broadcast_apply, bcol_apply, shapeCast_a_a1_apply, scale_row, hidden]

theorem down (a : FVec Ideal S1536x10944 .fp8e4m3) (t : FVec Ideal S1536x1 .f32) (w : Vec Ideal S10944x4096 .fp8e4m3) (sd : Vec Ideal S1x4096 .f32)
    (x1 : Vec Ideal S1536x4096 .f32) (r : Fin 1536) (k : Fin 4096) :
    k0_pay1 (F := Ideal) a t w sd x1 (ix2 r k) = x1 (ix2 r k) + (∑ i : Fin 10944, a (ix2 r i) * w (ix2 i k)) * t (ix2 r 0) * sd (ix2 0 k) := by
  have hd : dot_S1536x10944_S10944x4096_S1536x4096_1_0_0_1_n_n = DotDims.plain 1536 10944 4096 := rfl
  unfold k0_pay1
  simp -implicitDefEqProofs only [truncf_apply, addf_apply, mulf_apply, bcol_apply, broadcastTo_1b_ab_apply, hd, matmul,
    Ideal.matmul_plain_apply, constant_apply, Ideal.ofBits_zero_f32, zero_add]

end R

end Cert.Proof.FfnRows

end
-- ==== Proof.FfnLanes.lean ====
/-
  Hand-written, untrusted. The feed-forward kernel's lane maxima: a row's magnitudes are kept as 128 running maxima, each over every
  128th column; the row's scale read from them is the scale of the whole row.
-/
module

public import proofs.«01_k».proof.Proof.FfnRows

@[expose] public section

set_option maxRecDepth 16384

noncomputable section

namespace Cert.Proof.FfnLanes

open Idealize.ShloMosaic Idealize.ShloMosaic.ValueIdx Cert.Proof.Rows Cert.Proof.FfnRows Cert.FfnIdeal Cert.FfnIdeal.Gen

/-- Column `q * 128 + l` of a block. -/
def lane (q : Fin 4) (l : Fin 128) : Fin 512 := ⟨q.val * 128 + l.val, by have := q.isLt; have := l.isLt; omega⟩

/-- Only the first block's step starts the maxima. -/
theorem first : ∀ i : Fin 38, Scalar.cmpi .eq (BitVec.ofNat 32 i.val) 0#32 = if i.val = 0 then 1#1 else 0#1 := by decide +kernel

section
variable (v : BitVec 32) (x : Vec Ideal S512x4096 .fp8e4m3) (s : Vec Ideal S512x1 .f32) (wg : Vec Ideal S512x4096 .fp8e4m3)
    (sg : Vec Ideal S1x512 .f32) (wu : Vec Ideal S512x4096 .fp8e4m3) (su : Vec Ideal S1x512 .f32)

theorem pay6_apply (u : Fin 1) (r k : Fin 512) :
    k0_pay6 (F := Ideal) v x s wg sg wu su (ix3 u r k) = k0_pay5 v x s wg sg wu su (ix2 r k) := by
  unfold k0_pay6
  exact shapeCast_ab_1ab_apply _ _ u r k

theorem pay8_apply (r : Fin 512) (l : Fin 128) :
    k0_pay8 (F := Ideal) v x s wg sg wu su (ix2 r l) = mag (k0_pay5 v x s wg sg wu su (ix2 r (lane 3 l))) := by
  unfold k0_pay8
  exact slice2_axis1_apply 384 _ slices_S512x512_o0_384_S512x128 r l (lane 3 l) rfl

theorem pay9_apply (r : Fin 512) (l : Fin 128) :
    k0_pay9 (F := Ideal) v x s wg sg wu su (ix2 r l)
      = max (max (mag (k0_pay5 v x s wg sg wu su (ix2 r (lane 0 l)))) (mag (k0_pay5 v x s wg sg wu su (ix2 r (lane 1 l)))))
          (mag (k0_pay5 v x s wg sg wu su (ix2 r (lane 2 l)))) := by
  unfold k0_pay9
  exact congrArg₂ max (congrArg₂ max (slice2_axis1_apply 0 _ slices_S512x512_o0_0_S512x128 r l (lane 0 l) rfl)
      (slice2_axis1_apply 128 _ slices_S512x512_o0_128_S512x128 r l (lane 1 l) rfl))
    (slice2_axis1_apply 256 _ slices_S512x512_o0_256_S512x128 r l (lane 2 l) rfl)

/-- A lane's maximum after a block's step lies below a bound exactly when the block's four magnitudes do and, past the first block,
    the maximum before it does. -/
theorem lanes (i : grid0.Coords) (S : Vec Ideal S512x128 .f32) (r : Fin 512) (l : Fin 128) (b : EReal) :
    k0_pay1 (F := Ideal) i (k0_pay8 v x s wg sg wu su) (k0_pay9 v x s wg sg wu su) S (ix2 r l) ≤ b
      ↔ ((i 1).val ≠ 0 → S (ix2 r l) ≤ b) ∧ ∀ q, mag (k0_pay5 v x s wg sg wu su (ix2 r (lane q l))) ≤ b := by
  have hq : (∀ q, mag (k0_pay5 (F := Ideal) v x s wg sg wu su (ix2 r (lane q l))) ≤ b)
      ↔ max (k0_pay9 v x s wg sg wu su (ix2 r l)) (k0_pay8 v x s wg sg wu su (ix2 r l)) ≤ b := by
    rw [pay9_apply, pay8_apply]
    simp only [Fin.forall_fin_succ, max_le_iff, and_assoc]
    simp
  rw [hq]
  unfold k0_pay1
  simp -implicitDefEqProofs only [shapeCast_self]
  rw [first (i 1)]
  by_cases h : (i 1).val = 0
  · rw [if_pos h]
    simp only [h, ne_eq, not_true_eq_false, false_imp_iff, true_and]
    exact Iff.rfl
  · rw [if_neg h]
    simp only [h, ne_eq, not_false_eq_true, true_imp_iff, ← max_le_iff]
    exact Iff.rfl
end

/-- The scale of a row whose lane maxima bound exactly the row's magnitudes, up to zeros. -/
theorem scale_row (X : Vec Ideal S512x128 .f32) (f : Fin 10944 → EReal) (g : ℕ → EReal)
    (hg : ∀ n (h : n < 10944), g n = f ⟨n, h⟩) (hg0 : ∀ n, 10944 ≤ n → g n = 0) (r : Fin 512)
    (hX : ∀ (l : Fin 128) b, X (ix2 r l) ≤ b ↔ ∀ j < 22, ∀ q, mag (g (j * 512 + (lane q l).val)) ≤ b) (u : Fin 1) :
    k0_pay10 (F := Ideal) X (ix2 r u) = scale (amax f) := by
  have h0 : ∀ l, 0 ≤ X (ix2 r l) := fun l => (mag_nonneg _).trans ((hX l _).mp le_rfl 0 (by decide) 0)
  rw [K.scale_row X r h0 u]
  refine congrArg scale (eq_of_forall_ge_iff fun b => ?_)
  rw [amax_le, amax_le]
  constructor
  · intro h n
    have hl := h ⟨n.val % 128, Nat.mod_lt _ (by decide)⟩
    rw [mag_of_nonneg (h0 _), hX] at hl
    have := hl (n.val / 512) (by have := n.isLt; omega) ⟨n.val % 512 / 128, by omega⟩
    have e : n.val / 512 * 512 + (lane ⟨n.val % 512 / 128, by omega⟩ ⟨n.val % 128, Nat.mod_lt _ (by decide)⟩).val = n.val := by
      show n.val / 512 * 512 + (n.val % 512 / 128 * 128 + n.val % 128) = n.val
      omega
    rw [e, hg _ n.isLt] at this
    exact this
  · intro h l
    rw [mag_of_nonneg (h0 _), hX]
    intro j _ q
    by_cases hn : j * 512 + (lane q l).val < 10944
    · rw [hg _ hn]; exact h _
    · rw [hg0 _ (by omega), mag_zero]
      exact (mag_nonneg _).trans (h 0)

end Cert.Proof.FfnLanes

end
-- ==== Proof.FfnKeeps.lean ====
/-
  Hand-written, untrusted. What the feed-forward kernel's steps keep: the scratch holds the reference's hidden values, lane maxima and
  codes of the blocks done so far, and the result blocks hold the reference's results.
-/
module

public import proofs.«01_k».proof.Proof.FfnIn
public import proofs.«01_k».proof.Proof.FfnLanes

@[expose] public section

set_option maxRecDepth 16384

noncomputable section

namespace Cert.Proof.FfnKeeps

open Cert.FfnIdeal Cert.FfnIdeal.Gen Cert.FfnIdeal.Hand Cert.Proof.FfnIn Cert.Proof.FfnRows Cert.Proof.FfnLanes Cert.Proof.Rows
open Idealize.ShloMosaic Idealize.ShloMosaic.TcCoe Idealize.ShloMosaic.ValueIdx
open Idealize.ShloMosaic.Pipeline (RDat Cfg Window)

variable (m : (ℓ : Loc nD τ sig) → Buf (Elt Ideal) ℓ) (c : Dev nD)

/-! ## The reference's values -/

/-- The reference's hidden value at a row and a column; zero past the array's end. -/
def hv (R : Fin 1536) (n : ℕ) : EReal :=
  if h : n < 10944 then FfnRows.R.hrow (a0 m c) (a1 m c) (a2 m c) (a4 m c) (a3 m c) (a5 m c) R ⟨n, h⟩ else 0

/-- The reference's scale of a row. -/
def sc (R : Fin 1536) : EReal := FfnRows.R.hscale (a0 m c) (a1 m c) (a2 m c) (a4 m c) (a3 m c) (a5 m c) R

/-- The reference's code at a row and a column. -/
def cv (R : Fin 1536) (n : ℕ) : EReal := code (sc m c R) (hv m c R n)

/-- The reference's result at a row and a column. -/
def yv (R : Fin 1536) (k : Fin 4096) : EReal :=
  a8 m c (ix2 R k) + (∑ i : Fin 10944, cv m c R i.val * a6 m c (ix2 i k)) * sc m c R * a7 m c (ix2 0 k)

theorem hv_of_lt (R : Fin 1536) (n : ℕ) (h : n < 10944) :
    hv m c R n = FfnRows.R.hrow (a0 m c) (a1 m c) (a2 m c) (a4 m c) (a3 m c) (a5 m c) R ⟨n, h⟩ := dif_pos h

theorem hv_of_ge (R : Fin 1536) (n : ℕ) (h : 10944 ≤ n) : hv m c R n = 0 := dif_neg (by omega)

abbrev G9 : Vec Ideal S1536x4096 .bf16 :=
  Cert.FfnRefIdeal.Value.G9 (F := Ideal) (a0 m c) (a1 m c) (a2 m c) (a3 m c) (a4 m c) (a5 m c) (a6 m c) (a7 m c) (a8 m c)
abbrev G10 : Vec Ideal S1536x10944 .fp8e4m3 :=
  Cert.FfnRefIdeal.Value.G10 (F := Ideal) (a0 m c) (a1 m c) (a2 m c) (a3 m c) (a4 m c) (a5 m c) (a6 m c) (a7 m c) (a8 m c)
abbrev G11 : Vec Ideal S1536x1 .f32 :=
  Cert.FfnRefIdeal.Value.G11 (F := Ideal) (a0 m c) (a1 m c) (a2 m c) (a3 m c) (a4 m c) (a5 m c) (a6 m c) (a7 m c) (a8 m c)

theorem hz : (![0, 0] : Fin 2 → ℕ) = fun _ => 0 := funext fun a => by fin_cases a <;> rfl

theorem G10_eq : G10 m c = Cert.FfnRefIdeal.Gen.k0_pay4 (a0 m c) (a1 m c) (a2 m c) (a4 m c) (a3 m c) (a5 m c) := by
  unfold G10 Cert.FfnRefIdeal.Value.G10 Cert.FfnRefIdeal.Gen.k0_pay6
  rw [View.ld_unit_zero (S := S1536x4096) hz, View.ld_unit_zero (S := S1536x1) hz, View.ld_unit_zero (S := S10944x4096) hz, View.ld_unit_zero (S := S10944x4096) hz,
    View.ld_unit_zero (S := S1x10944) hz, View.ld_unit_zero (S := S1x10944) hz]

theorem G11_eq : G11 m c = Cert.FfnRefIdeal.Gen.k0_pay5 (a0 m c) (a1 m c) (a2 m c) (a4 m c) (a3 m c) (a5 m c) := by
  unfold G11 Cert.FfnRefIdeal.Value.G11 Cert.FfnRefIdeal.Gen.k0_pay7
  rw [View.ld_unit_zero (S := S1536x4096) hz, View.ld_unit_zero (S := S1536x1) hz, View.ld_unit_zero (S := S10944x4096) hz, View.ld_unit_zero (S := S10944x4096) hz,
    View.ld_unit_zero (S := S1x10944) hz, View.ld_unit_zero (S := S1x10944) hz]

theorem G11_apply (R : Fin 1536) (u : Fin 1) : G11 m c (ix2 R u) = sc m c R := by
  rw [G11_eq]; exact FfnRows.R.scales_row _ _ _ _ _ _ R u

theorem G10_apply (R : Fin 1536) (n : Fin 10944) : G10 m c (ix2 R n) = cv m c R n.val := by
  rw [G10_eq, FfnRows.R.codes_row]; unfold cv; rw [hv_of_lt m c R n.val n.isLt]; rfl

theorem G9_apply (R : Fin 1536) (k : Fin 4096) : G9 m c (ix2 R k) = yv m c R k := by
  refine (FfnRows.R.down (G10 m c) (G11 m c) (a6 m c) (a7 m c) (a8 m c) R k).trans ?_
  unfold yv
  rw [G11_apply]
  simp only [G10_apply]

/-! ## What is said -/

/-- Before a step of a row block: the hidden blocks done, the lane maxima over them, and past the quantising step the codes. -/
structure At (u : Fin cfg0.N) (s14 : Vec Ideal S22x512x512 .f32) (s15 : Vec Ideal S512x11520 .fp8e4m3) (s16 : Vec Ideal S512x128 .f32) : Prop where
  hid : ∀ j : Fin 22, j.val < u.val % 38 → ∀ r k : Fin 512, s14 (ix3 j r k) = hv m c (row u r) (j.val * 512 + k.val)
  max : 0 < u.val % 38 → ∀ (r : Fin 512) (l : Fin 128) (b : EReal),
    s16 (ix2 r l) ≤ b ↔ ∀ j < 22, j < u.val % 38 → ∀ q, mag (hv m c (row u r) (j * 512 + (lane q l).val)) ≤ b
  codes : 22 < u.val % 38 → ∀ (r : Fin 512) (n : Fin 11520), n.val < 11264 → s15 (ix2 r n) = cv m c (row u r) n.val

def said (c : Dev nD) : Says Ideal where
  J t s14 s15 s16 := ∀ h : t < cfg0.N, At m c ⟨t, h⟩ s14 s15 s16
  P9 t X := 22 ≤ t.val % 38 → ∀ (r : Fin 512) (k : Fin 256), X (ix2 r k) = yv m c (row t r) (col t k)
  P10 t X := 22 ≤ t.val % 38 → ∀ (r : Fin 512) (k : Fin 768), cb t.val * 768 + k.val < 10944 → X (ix2 r k) = cv m c (row t r) (cb t.val * 768 + k.val)
  P11 t X := 22 ≤ t.val % 38 → ∀ r : Fin 512, X (ix2 r 0) = sc m c (row t r)

/-! ## The hidden steps -/

theorem coord1 : ∀ t : Fin cfg0.N, (grid0.coords t 1).val = t.val % 38 := (by decide +kernel : ∀ t : Fin grid0.N, _)

/-- A step stays in its row block unless it is the block's last. -/
theorem row_succ (t : Fin cfg0.N) (h : t.val + 1 < cfg0.N) (hj : (t.val + 1) % 38 ≠ 0) (r : Fin 512) : row ⟨t.val + 1, h⟩ r = row t r :=
  Fin.ext (by show (t.val + 1) / 38 * 512 + r.val = t.val / 38 * 512 + r.val; have : (t.val + 1) / 38 = t.val / 38 := by omega
              rw [this])

section
variable (sp : (c : Dev nD) → Says Ideal)

/-- A hidden step computes the reference's hidden values of its block, zero past the array's end. -/
theorem block (t : Fin cfg0.N) (ht : t.val % 38 < 22) (Y : Blocks Ideal) (hY : ∀ w, (rdat m sp c).Finds w t (Y w)) (r k : Fin 512) :
    k0_pay5 (F := Ideal) (BitVec.ofNat 32 (grid0.coords t 1).val) (Y 0) (Y 1) (Y 2) (Y 4) (Y 3) (Y 5) (ix2 r k)
      = hv m c (row t r) (t.val % 38 * 512 + k.val) := by
  rw [coord1]
  refine (K.hidden (t.val % 38) ht (Y 0) (Y 1) (Y 2) (Y 4) (Y 3) (Y 5) r k).trans ?_
  have hhb : hb t.val = t.val % 38 := by unfold hb; omega
  by_cases h : t.val % 38 * 512 + k.val < 10944
  · rw [if_pos h, hv_of_lt m c _ _ h]
    have h' : hb t.val * 512 + k.val < 10944 := by rw [hhb]; exact h
    have e : (⟨hb t.val * 512 + k.val, h'⟩ : Fin 10944) = ⟨t.val % 38 * 512 + k.val, h⟩ := Fin.ext (by show hb t.val * 512 + k.val = _; rw [hhb])
    have x0 := funext fun i => in0 m sp c t (Y 0) (hY 0) r i
    have x1 := in1 m sp c t (Y 1) (hY 1) r
    have x2 := funext fun i => in2 m sp c t (Y 2) (hY 2) k i h'
    have x3 := funext fun i => in3 m sp c t (Y 3) (hY 3) k i h'
    have x4 := in4 m sp c t (Y 4) (hY 4) k h'
    have x5 := in5 m sp c t (Y 5) (hY 5) k h'
    rw [e] at x2 x3 x4 x5
    rw [x0, x1, x2, x3, x4, x5]
    rfl
  · rw [if_neg h, hv_of_ge m c _ _ (by omega)]

theorem keep_hid (t : Fin cfg0.N) (ht : t.val % 38 < 22) (Y : Blocks Ideal) (hY : ∀ w, (rdat m sp c).Finds w t (Y w))
    (s14 : Vec Ideal S22x512x512 .f32) (s15 : Vec Ideal S512x11520 .fp8e4m3) (s16 : Vec Ideal S512x128 .f32) (H : At m c t s14 s15 s16) (h : t.val + 1 < cfg0.N) :
    At m c ⟨t.val + 1, h⟩
      (hidSet (grid0.coords t 1).val (k0_pay6 (BitVec.ofNat 32 (grid0.coords t 1).val) (Y 0) (Y 1) (Y 2) (Y 4) (Y 3) (Y 5)) s14) s15
      (k0_pay1 (grid0.coords t) (k0_pay8 (BitVec.ofNat 32 (grid0.coords t 1).val) (Y 0) (Y 1) (Y 2) (Y 4) (Y 3) (Y 5))
        (k0_pay9 (BitVec.ofNat 32 (grid0.coords t 1).val) (Y 0) (Y 1) (Y 2) (Y 4) (Y 3) (Y 5)) s16) := by
  have hm : (t.val + 1) % 38 = t.val % 38 + 1 := by omega
  have hr : ∀ r, row ⟨t.val + 1, h⟩ r = row t r := row_succ t h (by omega)
  refine ⟨fun j hj r k => ?_, fun _ r l b => ?_, fun h22 => ?_⟩
  · change j.val < (t.val + 1) % 38 at hj
    rw [hr]
    show (if j.val = (grid0.coords t 1).val then _ else s14 (ix3 j r k)) = _
    by_cases e : j.val = t.val % 38
    · rw [if_pos (e.trans (coord1 t).symm), e]
      exact (pay6_apply _ _ _ _ _ _ _ 0 r k).trans (block m c sp t ht Y hY r k)
    · rw [if_neg (fun e' => e (e'.trans (coord1 t)))]
      exact H.hid j (by omega) r k
  · show _ ↔ ∀ j < 22, j < (t.val + 1) % 38 → _
    rw [lanes, hr, coord1]
    have hb := fun q => block m c sp t ht Y hY r (lane q l)
    rw [coord1] at hb
    simp only [hb]
    constructor
    · rintro ⟨h1, h2⟩ j hj hj' q
      by_cases e : j = t.val % 38
      · rw [e]; exact h2 q
      · exact (H.max (by omega) r l b).mp (h1 (by omega)) j hj (by omega) q
    · intro hall
      exact ⟨fun h0 => (H.max (by omega) r l b).mpr fun j hj hj' q => hall j hj (by omega) q, fun q => hall _ ht (by omega) q⟩
  · change 22 < (t.val + 1) % 38 at h22; omega

/-! ## The quantising step and the down-projection steps -/

/-- The scale the quantising step reads from the lane maxima. -/
theorem scale_at (t : Fin cfg0.N) (ht : t.val % 38 = 22) (s14 : Vec Ideal S22x512x512 .f32) (s15 : Vec Ideal S512x11520 .fp8e4m3) (s16 : Vec Ideal S512x128 .f32)
    (H : At m c t s14 s15 s16) (r : Fin 512) (u : Fin 1) : k0_pay10 (F := Ideal) s16 (ix2 r u) = sc m c (row t r) :=
  FfnLanes.scale_row s16 _ (hv m c (row t r)) (fun n h => hv_of_lt m c _ n h) (fun n h => hv_of_ge m c _ n h) r
    (fun l b => (H.max (by omega) r l b).trans ⟨fun h j hj q => h j hj (by omega) q, fun h j hj _ q => h j hj q⟩) u

theorem codes_at (t : Fin cfg0.N) (ht : t.val % 38 = 22) (s14 : Vec Ideal S22x512x512 .f32) (s15 s15' : Vec Ideal S512x11520 .fp8e4m3) (s16 : Vec Ideal S512x128 .f32)
    (H : At m c t s14 s15 s16) (hc : CodesOf (k0_pay10 s16) s14 s15') (r : Fin 512) (n : Fin 11520) (hn : n.val < 11264) :
    s15' (ix2 r n) = cv m c (row t r) n.val := by
  have e : n = ⟨n.val / 512 * 512 + n.val % 512, by omega⟩ := Fin.ext (by show n.val = n.val / 512 * 512 + n.val % 512; omega)
  have := hc r ⟨n.val / 512, by omega⟩ ⟨n.val % 512, Nat.mod_lt _ (by decide)⟩
  rw [K.quant, scale_at m c t ht s14 s15 s16 H, slot_apply] at this
  refine (congrArg (fun n => s15' (ix2 r n)) e).trans (this.trans ?_)
  refine congrArg (code (sc m c (row t r))) ((H.hid ⟨n.val / 512, by omega⟩ (by show n.val / 512 < _; omega) r ⟨n.val % 512, Nat.mod_lt _ (by decide)⟩).trans ?_)
  exact congrArg (hv m c (row t r)) (by show n.val / 512 * 512 + n.val % 512 = n.val; omega)

theorem codesA_apply (S : Vec Ideal S512x11520 .fp8e4m3) (r : Fin 512) (i : Fin 10752) : codesA S (ix2 r i) = S (ix2 r ⟨i.val, by omega⟩) := by
  refine congrArg S (funext fun a => Fin.ext ?_)
  match a with
  | ⟨0, _⟩ => show 0 + 1 * r.val = r.val; omega
  | ⟨1, _⟩ => show 0 + 1 * i.val = i.val; omega

theorem codesB_apply (S : Vec Ideal S512x11520 .fp8e4m3) (r : Fin 512) (i : Fin 192) : codesB S (ix2 r i) = S (ix2 r ⟨10752 + i.val, by omega⟩) := by
  refine congrArg S (funext fun a => Fin.ext ?_)
  match a with
  | ⟨0, _⟩ => show 0 + 1 * r.val = r.val; omega
  | ⟨1, _⟩ => show 10752 + 1 * i.val = 10752 + i.val; omega

theorem downA_apply (X : Vec Ideal S10944x256 .fp8e4m3) (i : Fin 10752) (k : Fin 256) : downA X (ix2 i k) = X (ix2 ⟨i.val, by omega⟩ k) := by
  refine congrArg X (funext fun a => Fin.ext ?_)
  match a with
  | ⟨0, _⟩ => show 0 + 1 * i.val = i.val; omega
  | ⟨1, _⟩ => show 0 + 1 * k.val = k.val; omega

theorem downB_apply (X : Vec Ideal S10944x256 .fp8e4m3) (i : Fin 192) (k : Fin 256) : downB X (ix2 i k) = X (ix2 ⟨10752 + i.val, by omega⟩ k) := by
  refine congrArg X (funext fun a => Fin.ext ?_)
  match a with
  | ⟨0, _⟩ => show 10752 + 1 * i.val = 10752 + i.val; omega
  | ⟨1, _⟩ => show 0 + 1 * k.val = k.val; omega

/-- The long sum is its first 10752 terms and the other 192. -/
theorem sum_split (f : Fin 10944 → EReal) :
    ∑ i : Fin 10944, f i = ∑ i : Fin 10752, f ⟨i.val, by omega⟩ + ∑ i : Fin 192, f ⟨10752 + i.val, by omega⟩ :=
  Fin.sum_univ_add (a := 10752) (b := 192) f

/-- The result block a step computes from the row block's codes and scales is the reference's. -/
theorem y_at (t : Fin cfg0.N) (Y : Blocks Ideal) (hY : ∀ w, (rdat m sp c).Finds w t (Y w)) (S : Vec Ideal S512x11520 .fp8e4m3) (s : Vec Ideal S512x1 .f32)
    (hS : ∀ (r : Fin 512) (n : Fin 11520), n.val < 11264 → S (ix2 r n) = cv m c (row t r) n.val) (hs : ∀ r : Fin 512, s (ix2 r 0) = sc m c (row t r))
    (r : Fin 512) (k : Fin 256) : yOut S (Y 6) (Y 7) (Y 8) s (ix2 r k) = yv m c (row t r) (col t k) := by
  refine (K.down (codesA S) (downA (Y 6)) (codesB S) (downB (Y 6)) (Y 8) s (Y 7) r k).trans ?_
  unfold yv
  have hA : (∑ i : Fin 10752, codesA S (ix2 r i) * downA (Y 6) (ix2 i k) : EReal)
      = ∑ i : Fin 10752, cv m c (row t r) i.val * a6 m c (ix2 ⟨i.val, by omega⟩ (col t k)) :=
    Finset.sum_congr rfl fun i _ => by
      rw [codesA_apply, downA_apply, hS r _ (by show i.val < 11264; omega), in6 m sp c t (Y 6) (hY 6)]
  have hB : (∑ i : Fin 192, codesB S (ix2 r i) * downB (Y 6) (ix2 i k) : EReal)
      = ∑ i : Fin 192, cv m c (row t r) (10752 + i.val) * a6 m c (ix2 ⟨10752 + i.val, by omega⟩ (col t k)) :=
    Finset.sum_congr rfl fun i _ => by
      rw [codesB_apply, downB_apply, hS r _ (by show 10752 + i.val < 11264; omega), in6 m sp c t (Y 6) (hY 6)]
  have x7 := in7 m sp c t (Y 7) (hY 7) k
  have x8 := in8 m sp c t (Y 8) (hY 8) r k
  rw [hA, hB, hs, x7, x8, sum_split]

theorem off2 : ∀ t : Fin cfg0.N, 22 ≤ t.val % 38 → k0_off2 (grid0.coords t) = ![0, cb t.val * 768] := (by decide +kernel : ∀ t : Fin grid0.N, _)

/-- The block of codes a step hands out is the reference's, inside the array. -/
theorem hc_at (t : Fin cfg0.N) (ht : 22 ≤ t.val % 38) (h3 : k0_cond3 (grid0.coords t) = 1#1) (S : Vec Ideal S512x11520 .fp8e4m3)
    (hS : ∀ (r : Fin 512) (n : Fin 11520), n.val < 11264 → S (ix2 r n) = cv m c (row t r) n.val) (r : Fin 512) (k : Fin 768)
    (hk : cb t.val * 768 + k.val < 10944) : hcOut (grid0.coords t) h3 S (ix2 r k) = cv m c (row t r) (cb t.val * 768 + k.val) := by
  refine Eq.trans (congrArg S (funext fun a => Fin.ext ?_)) (hS r ⟨cb t.val * 768 + k.val, by omega⟩ (by show cb t.val * 768 + k.val < 11264; omega))
  match a with
  | ⟨0, _⟩ => show k0_off2 (grid0.coords t) 0 + 1 * r.val = r.val; rw [off2 t ht]; show 0 + 1 * r.val = r.val; omega
  | ⟨1, _⟩ => show k0_off2 (grid0.coords t) 1 + 1 * k.val = cb t.val * 768 + k.val; rw [off2 t ht]; show cb t.val * 768 + 1 * k.val = _; omega

end

/-- The scales' block is not fetched, and written back only after a row block's last step. -/
theorem fetch11 : ∀ t : Fin cfg0.N, (cfg0.win 11).fetch t = false := (by decide +kernel : ∀ t : Fin grid0.N, win0_11.fetch t = false)
theorem flush11 : ∀ t : Fin cfg0.N, t.val % 38 ≠ 37 → ¬ (cfg0.win 11).flush t = true := (by decide +kernel : ∀ t : Fin grid0.N, t.val % 38 ≠ 37 → ¬ win0_11.flush t = true)

/-- Past the quantising step, a step finds the row block's scales in the scales' block. -/
theorem scales_found (t : Fin cfg0.N) (ht : 22 < t.val % 38) (X : Vec Ideal S512x1 .f32) (hX : (rdat m (said m) c).Finds 11 t X) (r : Fin 512) :
    X (ix2 r 0) = sc m c (row t r) := by
  have h0 : t.val ≠ 0 := by omega
  rcases ((rdat m (said m) c).finds_of_pos (fetch11 t) h0 X).mp hX with hf | ⟨Y, -, ha⟩
  · exact absurd hf (flush11 _ (by show (t.val - 1) % 38 ≠ 37; omega))
  · have hP : (said m c).P11 ⟨t.val - 1, by have := t.isLt; omega⟩ X := ha
    refine (hP (by show 22 ≤ (t.val - 1) % 38; omega) r).trans (congrArg (sc m c) (Fin.ext ?_))
    show (t.val - 1) / 38 * 512 + r.val = t.val / 38 * 512 + r.val
    have : (t.val - 1) / 38 = t.val / 38 := by omega
    rw [this]

/-- Every step keeps what is said. -/
theorem keeps : Keeps m (said m) where
  hid c t Y hY ht s14 s15 s16 H :=
    ⟨fun h => keep_hid m c (said m) t ht Y hY s14 s15 s16 (H t.isLt) h, fun h => by omega, fun h => by omega, fun h => by omega⟩
  quant c t Y h3 hY ht s14 s15 s15' s16 H hc := by
    have hA : At m c t s14 s15 s16 := H t.isLt
    have hS := codes_at m c t ht s14 s15 s15' s16 hA hc
    have hs := fun r => scale_at m c t ht s14 s15 s16 hA r 0
    refine ⟨fun h => ?_, fun _ => y_at m c (said m) t Y hY s15' _ hS hs, fun h r k hk => hc_at m c t h h3 s15' hS r k hk, fun _ => hs⟩
    have hr : ∀ r, row ⟨t.val + 1, h⟩ r = row t r := row_succ t h (by omega)
    refine ⟨fun j _ r k => ?_, fun _ r l b => ?_, fun _ r n hn => ?_⟩
    · rw [hr]; exact hA.hid j (by omega) r k
    · rw [hr]
      exact (hA.max (by omega) r l b).trans ⟨fun g j hj _ q => g j hj (by omega) q, fun g j hj _ q => g j hj (by show j < (t.val + 1) % 38; omega) q⟩
    · rw [hr]; exact hS r n hn
  down c t Y h3 hY ht s14 s15 s16 H := by
    have hA : At m c t s14 s15 s16 := H t.isLt
    have hS := hA.codes ht
    have hs := scales_found m c t ht (Y 11) (hY 11)
    refine ⟨fun h => ?_, fun _ => y_at m c (said m) t Y hY s15 _ hS hs, fun h r k hk => hc_at m c t h h3 s15 hS r k hk, fun _ => hs⟩
    by_cases hj : (t.val + 1) % 38 = 0
    · refine ⟨fun j h => ?_, fun h => ?_, fun h => ?_⟩
      · change j.val < (t.val + 1) % 38 at h; omega
      · change 0 < (t.val + 1) % 38 at h; omega
      · change 22 < (t.val + 1) % 38 at h; omega
    · have hr : ∀ r, row ⟨t.val + 1, h⟩ r = row t r := row_succ t h hj
      refine ⟨fun j _ r k => ?_, fun _ r l b => ?_, fun _ r n hn => ?_⟩
      · rw [hr]; exact hA.hid j (by omega) r k
      · rw [hr]
        exact (hA.max (by omega) r l b).trans ⟨fun g j hj _ q => g j hj (by omega) q, fun g j hj _ q => g j hj (by show j < (t.val + 1) % 38; omega) q⟩
      · rw [hr]; exact hS r n hn

/-- Nothing is said before the first step. -/
theorem start (c : Dev nD) (s14 : Vec Ideal S22x512x512 .f32) (s15 : Vec Ideal S512x11520 .fp8e4m3) (s16 : Vec Ideal S512x128 .f32) :
    (said m c).J 0 s14 s15 s16 := fun h =>
  ⟨fun j hj => absurd hj (Nat.not_lt_zero _), fun h => absurd h (Nat.lt_irrefl _), fun h => absurd (show 22 < 0 % 38 from h) (by decide)⟩

end Cert.Proof.FfnKeeps

end
-- ==== Proof.FfnAlg.lean ====
/-
  Hand-written, untrusted. The feed-forward call's algebraic claim: the kernel's arrays end as the reference's payloads of the
  arguments (every element lies in a block some step writes back, and each such block holds the reference's values:
  Proof/FfnKeeps.lean), and the reference's run writes exactly those.
-/
module

public import proofs.«01_k».proof.Defs
public import proofs.«01_k».proof.Proof.FfnKeeps

@[expose] public section

set_option maxRecDepth 16384

noncomputable section

namespace Cert.Proof.FfnAlg

open Cert.FfnIdeal Cert.FfnIdeal.Gen Cert.FfnIdeal.Hand Cert.Proof.FfnIn Cert.Proof.FfnKeeps
open Idealize.ShloMosaic Idealize.ShloMosaic.TcCoe Idealize.ShloMosaic.ValueIdx Idealize.SL.Sem
open Idealize.ShloMosaic.Pipeline (RDat Cfg Window Dat)

variable (m : (ℓ : Loc nD τ sig) → Buf (Elt Ideal) ℓ) (c : Dev nD)

/-- Contents of the result blocks, at every step, that a step may leave. -/
abbrev Left := (w : Fin cfg0.W) → Fin cfg0.N → (cfg0.win w).block.Idx → Elt Ideal (cfg0.win w).elt

theorem flush9 : ∀ t : Fin cfg0.N, (cfg0.win 9).flush t = true → 22 ≤ t.val % 38 := (by decide +kernel : ∀ t : Fin grid0.N, win0_9.flush t = true → 22 ≤ t.val % 38)
theorem flush10 : ∀ t : Fin cfg0.N, (cfg0.win 10).flush t = true → 22 ≤ t.val % 38 := (by decide +kernel : ∀ t : Fin grid0.N, win0_10.flush t = true → 22 ≤ t.val % 38)
theorem flush11' : ∀ t : Fin cfg0.N, (cfg0.win 11).flush t = true → 22 ≤ t.val % 38 := (by decide +kernel : ∀ t : Fin grid0.N, win0_11.flush t = true → 22 ≤ t.val % 38)

theorem covers9 : (cfg0.win 9).Covers := (by decide +kernel : win0_9.Covers)
theorem covers10 : (cfg0.win 10).Covers := (by decide +kernel : win0_10.Covers)
theorem covers11 : (cfg0.win 11).Covers := (by decide +kernel : win0_11.Covers)

theorem final9 (after : Left) (hL : ∀ u : Fin cfg0.N, (cfg0.win 9).flush u = true → (rdat m (said m) c).Leaves 9 u (after 9 u)) :
    ((rdat m (said m) c).withAfter after).arrAt 9 cfg0.N = G9 m c := by
  refine ((rdat m (said m) c).withAfter after).arrAt_eq_of_covers 9 (G9 m c) covers9 fun t hf y => ?_
  obtain ⟨Y, -, h⟩ := hL t hf
  have hP : (said m c).P9 t (after 9 t) := h
  obtain ⟨e0, e1⟩ := (idx t).2.2.2.2.2.2.2.2.2.1
  have he : ((cfg0.win 9).blk t).view.emb y = ix2 (row t (y 0)) (col t (y 1)) := funext fun a => Fin.ext <| match a with
    | ⟨0, _⟩ => by show win0_9.index t (0 : Fin 2) * 512 + 1 * (y 0).val = t.val / 38 * 512 + (y 0).val; omega
    | ⟨1, _⟩ => by show win0_9.index t (1 : Fin 2) * 256 + 1 * (y 1).val = yb t.val * 256 + (y 1).val; omega
  have hy : (cfg0.win 9).xinj (cfg0.grid.coords t) y = ix2 (y 0) (y 1) := funext fun a => Fin.ext <| match a with
    | ⟨0, _⟩ => rfl
    | ⟨1, _⟩ => rfl
  refine Eq.trans ?_ (congrArg (G9 m c) he).symm
  rw [G9_apply]
  show after 9 t ((cfg0.win 9).xinj (cfg0.grid.coords t) y) = _
  rw [hy]
  exact hP (flush9 t hf) (y 0) (y 1)

theorem final10 (after : Left) (hL : ∀ u : Fin cfg0.N, (cfg0.win 10).flush u = true → (rdat m (said m) c).Leaves 10 u (after 10 u)) :
    ((rdat m (said m) c).withAfter after).arrAt 10 cfg0.N = G10 m c := by
  refine ((rdat m (said m) c).withAfter after).arrAt_eq_of_covers 10 (G10 m c) covers10 fun t hf y => ?_
  obtain ⟨Y, -, h⟩ := hL t hf
  have hP : (said m c).P10 t (after 10 t) := h
  obtain ⟨e0, e1⟩ := (idx t).2.2.2.2.2.2.2.2.2.2.1
  obtain ⟨z0, z1⟩ := (sizes t).2.2.2.2
  have y0 : (y 0).val < 512 := by have := (y 0).isLt; change _ < win0_10.xsize (grid0.coords t) (0 : Fin 2) at this; omega
  have y1 : (y 1).val < min 768 (10944 - cb t.val * 768) := by have := (y 1).isLt; change _ < win0_10.xsize (grid0.coords t) (1 : Fin 2) at this; omega
  have hk : cb t.val * 768 + (y 1).val < 10944 := by omega
  have he : ((cfg0.win 10).blk t).view.emb y = ix2 (row t ⟨(y 0).val, y0⟩) ⟨cb t.val * 768 + (y 1).val, hk⟩ := funext fun a => Fin.ext <| match a with
    | ⟨0, _⟩ => by show win0_10.index t (0 : Fin 2) * 512 + 1 * (y 0).val = t.val / 38 * 512 + (y 0).val; omega
    | ⟨1, _⟩ => by show win0_10.index t (1 : Fin 2) * 768 + 1 * (y 1).val = cb t.val * 768 + (y 1).val; omega
  have hy : (cfg0.win 10).xinj (cfg0.grid.coords t) y = ix2 (⟨(y 0).val, y0⟩ : Fin 512) (⟨(y 1).val, by omega⟩ : Fin 768) := funext fun a => Fin.ext <| match a with
    | ⟨0, _⟩ => rfl
    | ⟨1, _⟩ => rfl
  refine Eq.trans ?_ (congrArg (G10 m c) he).symm
  rw [G10_apply]
  show after 10 t ((cfg0.win 10).xinj (cfg0.grid.coords t) y) = _
  rw [hy]
  exact hP (flush10 t hf) ⟨(y 0).val, y0⟩ ⟨(y 1).val, by omega⟩ hk

theorem final11 (after : Left) (hL : ∀ u : Fin cfg0.N, (cfg0.win 11).flush u = true → (rdat m (said m) c).Leaves 11 u (after 11 u)) :
    ((rdat m (said m) c).withAfter after).arrAt 11 cfg0.N = G11 m c := by
  refine ((rdat m (said m) c).withAfter after).arrAt_eq_of_covers 11 (G11 m c) covers11 fun t hf y => ?_
  obtain ⟨Y, -, h⟩ := hL t hf
  have hP : (said m c).P11 t (after 11 t) := h
  obtain ⟨e0, e1⟩ := (idx t).2.2.2.2.2.2.2.2.2.2.2
  have y1 : (y 1).val = 0 := by have := (y 1).isLt; change _ < 1 at this; omega
  have he : ((cfg0.win 11).blk t).view.emb y = ix2 (row t (y 0)) 0 := funext fun a => Fin.ext <| match a with
    | ⟨0, _⟩ => by show win0_11.index t (0 : Fin 2) * 512 + 1 * (y 0).val = t.val / 38 * 512 + (y 0).val; omega
    | ⟨1, _⟩ => by show win0_11.index t (1 : Fin 2) * 1 + 1 * (y 1).val = 0; omega
  have hy : (cfg0.win 11).xinj (cfg0.grid.coords t) y = ix2 (y 0) (0 : Fin 1) := funext fun a => Fin.ext <| match a with
    | ⟨0, _⟩ => rfl
    | ⟨1, _⟩ => y1
  refine Eq.trans ?_ (congrArg (G11 m c) he).symm
  rw [G11_apply]
  show after 11 t ((cfg0.win 11).xinj (cfg0.grid.coords t) y) = _
  rw [hy]
  exact hP (flush11' t hf) (y 0)

/-- The kernel's run ends with the reference's payloads in its three result arrays and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = G9 m c
      ∧ r.2.mem ((c.tc : Thread nD τ).loc main_v0_1) = G10 m c
      ∧ r.2.mem ((c.tc : Thread nD τ).loc main_v0_2) = G11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (run_main m ρ (said m) (keeps m) (start m))
  obtain ⟨after, hL, hA⟩ := h.1.exists_exact c
  exact ⟨(hA 9).trans (final9 m c after (hL 9)), (hA 10).trans (final10 m c after (hL 10)), (hA 11).trans (final11 m c after (hL 11)),
    (h.1.arr_in c 0 rfl).trans ((A_eq m (said m) c 0).trans (V_main_arg0 m c)),
    (h.1.arr_in c 1 rfl).trans ((A_eq m (said m) c 1).trans (V_main_arg1 m c)),
    (h.1.arr_in c 2 rfl).trans ((A_eq m (said m) c 2).trans (V_main_arg2 m c)),
    (h.1.arr_in c 3 rfl).trans ((A_eq m (said m) c 3).trans (V_main_arg3 m c)),
    (h.1.arr_in c 4 rfl).trans ((A_eq m (said m) c 4).trans (V_main_arg4 m c)),
    (h.1.arr_in c 5 rfl).trans ((A_eq m (said m) c 5).trans (V_main_arg5 m c)),
    (h.1.arr_in c 6 rfl).trans ((A_eq m (said m) c 6).trans (V_main_arg6 m c)),
    (h.1.arr_in c 7 rfl).trans ((A_eq m (said m) c 7).trans (V_main_arg7 m c)),
    (h.1.arr_in c 8 rfl).trans ((A_eq m (said m) c 8).trans (V_main_arg8 m c))⟩

theorem algebraic : Cert.algebraic_FfnIdeal_FfnRefIdeal (hFfnIdeal := Cert.FfnIdeal.Gen.facts) (hFfnRefIdeal := Cert.FfnRefIdeal.Gen.facts) := by
  intro m g m' g' _ hargs
  refine ⟨fun c => G9 m c, fun c => G10 m c, fun c => G11 m c, run m g, ?_⟩
  refine (θ_run (Cert.FfnRefIdeal.defs (F := Ideal)) _ _).mono (fun r h c => ?_) (Cert.FfnRefIdeal.Value.run (F := Ideal) m' g')
  obtain ⟨h9, h10, h11, h⟩ := h c
  obtain ⟨e0, e1, e2, e3, e4, e5, e6, e7, e8⟩ := hargs c
  refine ⟨h9.trans ?_, h10.trans ?_, h11.trans ?_, h⟩ <;> rw [e0, e1, e2, e3, e4, e5, e6, e7, e8]

end Cert.Proof.FfnAlg

end
-- ==== Proof.NormRows.lean ====
/-
  Hand-written, untrusted. The first norm's payloads, of the kernel (a block of 128 rows) and of the reference (all 1536 rows), each
  read at a row: the normalised row, its scale and codes, and the sixteen capped gates of a row. The kernel adds a row's squares in
  an order of its own (32 tiles of 128 columns, then 16 groups of 8 lanes, then the 8 lanes of a group); the sum is the same.
-/
module

public import proofs.«01_k».proof.Proof.OutRows
public import proofs.«01_k».proof.Proof.Gen.NormIdeal.Skeleton
public import proofs.«01_k».proof.Proof.Gen.NormRefIdeal.Skeleton

@[expose] public section

set_option maxRecDepth 16384

noncomputable section

namespace Cert.Proof.NormRows

open Idealize.ShloMosaic Idealize.ShloMosaic.ValueIdx Cert.Proof.Rows Cert.Proof.OutRows

/-- A gate of a row: its weights' product with the row and the bias, capped. -/
def gate (w x : Fin 4096 → EReal) (b : EReal) : EReal :=
  Scalar.ofBits (F := Ideal) .f32 0x41700000#32
    * FloatOps.tanh (F := Ideal) (φ := .f32) (Ideal.div ((∑ k : Fin 4096, w k * x k) + b) (Scalar.ofBits (F := Ideal) .f32 0x41700000#32))

theorem tanh_apply {s : Shape} {φ : FTy} (a : FVec Ideal s φ) (i : s.Idx) : tanh a i = FloatOps.tanh (a i) := rfl

/-! ## The kernel's order of the sum of squares -/

/-- Column `o + l`, for a tile of 128 columns that starts at column `o`. -/
def tile (o : ℕ) (l : Fin 128) : Fin 4096 := ⟨(o + l.val) % 4096, Nat.mod_lt _ (by decide)⟩

/-- Lane `o + j`, for a group of 8 lanes that starts at lane `o`. -/
def lane (o : ℕ) (j : Fin 8) : Fin 128 := ⟨(o + j.val) % 128, Nat.mod_lt _ (by decide)⟩

theorem tile_apply {α : Type} (o : ℕ) (X : (⟨2, ![128, 4096]⟩ : Shape).Idx → α)
    (h : (⟨2, ![128, 4096]⟩ : Shape).Slices ![0, o] ⟨2, ![128, 128]⟩) (r l : Fin 128) :
    extractStridedSlice ⟨2, ![128, 128]⟩ ![0, o] X h (ix2 r l) = X (ix2 r (tile o l)) := by
  have hb : o + 128 ≤ 4096 := h.2 1
  exact slice2_axis1_apply o X h r l (tile o l) (Nat.mod_eq_of_lt (by have := l.isLt; omega))

theorem lane_apply {α : Type} (o : ℕ) (X : (⟨2, ![128, 128]⟩ : Shape).Idx → α)
    (h : (⟨2, ![128, 128]⟩ : Shape).Slices ![o, 0] ⟨2, ![8, 128]⟩) (j : Fin 8) (r : Fin 128) :
    extractStridedSlice ⟨2, ![8, 128]⟩ ![o, 0] X h (ix2 j r) = X (ix2 (lane o j) r) := by
  have hb : o + 8 ≤ 128 := h.2 0
  exact slice2_axis0_apply o X h j r (lane o j) (Nat.mod_eq_of_lt (by have := j.isLt; omega))

/-- A sum over `n * k` terms, taken as `n` sums of `k` terms. -/
theorem sum_split (n k : ℕ) (g : Fin (n * k) → EReal) : ∑ i, g i = ∑ a : Fin n, ∑ b : Fin k, g (finProdFinEquiv (a, b)) := by
  rw [← finProdFinEquiv.sum_comp, Fintype.sum_prod_type]

/-- The kernel's order of summation gives the sum. -/
theorem sum_tiles (g : Fin 4096 → EReal) :
    ∑ j : Fin 8, ∑ t ∈ Finset.range 16, ∑ s ∈ Finset.range 32, g (tile (s * 128) (lane (t * 8) j)) = ∑ k, g k := by
  have h1 : ∀ l : Fin 128, ∑ s ∈ Finset.range 32, g (tile (s * 128) l) = ∑ s : Fin 32, g (finProdFinEquiv (m := 32) (n := 128) (s, l)) := fun l => by
    rw [Finset.sum_range]
    refine Finset.sum_congr rfl fun s _ => congrArg g (Fin.ext ?_)
    show (s.val * 128 + l.val) % 4096 = l.val + 128 * s.val
    have := s.isLt; have := l.isLt; omega
  have h2 : ∀ f : Fin 128 → EReal, ∑ j : Fin 8, ∑ t ∈ Finset.range 16, f (lane (t * 8) j) = ∑ l, f l := fun f => by
    rw [sum_split 16 8 f, Finset.sum_comm, Finset.sum_range]
    refine Finset.sum_congr rfl fun t _ => Finset.sum_congr rfl fun j _ => congrArg f (Fin.ext ?_)
    show (t.val * 8 + j.val) % 128 = j.val + 8 * t.val
    have := t.isLt; have := j.isLt; omega
  rw [h2 fun l => ∑ s ∈ Finset.range 32, g (tile (s * 128) l), sum_split 32 128 g]
  exact (Finset.sum_congr rfl fun l _ => h1 l).trans Finset.sum_comm

/-- The sum of a column. -/
theorem colSum_apply {n k : ℕ} (v : FVec Ideal ⟨2, ![n, k]⟩ .f32) (h : (⟨2, ![n, k]⟩ : Shape).Reduces [0] ⟨1, ![k]⟩)
    (hφ : FKind.Formats .f32) (hacc : (0x00000000#32 : BitVec 32) = FKind.add.neutral .f32 hφ) (c : Fin k) :
    multiReduction .add [0] ⟨1, ![k]⟩ v 0x00000000#32 h hφ hacc (ix1 c) = ∑ r : Fin n, v (ix2 r c) := by
  rw [Ideal.multiReduction_add_single]
  refine Finset.sum_congr rfl fun r _ => congrArg v (funext fun a => ?_)
  match a with
  | ⟨0, _⟩ => exact Fin.ext rfl
  | ⟨1, _⟩ => exact Fin.ext rfl

/-- The kernel's mask of a matrix's diagonal. -/
theorem diag : ∀ r c : Fin 128, IntOp.cmpi .eq (BitVec.ofNat 32 (0 * 128 + r.val)) (BitVec.ofNat 32 (0 * 128 + c.val)) = if c = r then 1#1 else 0#1 := by
  decide +kernel

namespace K
open Cert.NormIdeal Cert.NormIdeal.Gen

variable (x : Vec Ideal S128x4096 .bf16) (g : Vec Ideal S1x4096 .f32) (w : Vec Ideal S16x4096 .f32) (b : Vec Ideal S16x1 .f32)

/-- The lanes' sums of a block. -/
def P97 : FVec Ideal S128x128 .f32 := k0_pay6 (k0_pay3 x) (k0_pay4 x) (k0_pay5 x)
/-- The first ten groups' sums. -/
def P116 : FVec Ideal S8x128 .f32 := k0_pay7 (k0_pay3 x) (k0_pay4 x) (k0_pay5 x)

theorem tiles (l r : Fin 128) :
    P97 x (ix2 l r) = ∑ s ∈ Finset.range 32, x (ix2 r (tile (s * 128) l)) * x (ix2 r (tile (s * 128) l)) := by
  unfold P97 k0_pay6
  refine (transpose_ix2_apply (a := 128) (b := 128) _ _ l r).trans ?_
  unfold k0_pay4 k0_pay5 k0_pay3
  simp -implicitDefEqProofs only [addf_apply, mulf_apply, extf_apply, tile_apply, Finset.sum_range_succ, Finset.sum_range_zero, zero_add, Nat.reduceMul, Nat.zero_mul]

theorem groups (j : Fin 8) (r : Fin 128) : P116 x (ix2 j r) = ∑ t ∈ Finset.range 10, P97 x (ix2 (lane (t * 8) j) r) := by
  unfold P116 k0_pay7 P97
  simp -implicitDefEqProofs only [addf_apply, lane_apply, Finset.sum_range_succ, Finset.sum_range_zero, zero_add, Nat.reduceMul, Nat.zero_mul]

/-- The block's rows, normalised. -/
def P149 : FVec Ideal S128x4096 .f32 := k0_pay8 (k0_pay3 x) (P97 x) (P116 x) g

theorem xn_row (r : Fin 128) (c : Fin 4096) :
    P149 x g (ix2 r c) = norm (fun c => x (ix2 r c)) (fun c => g (ix2 0 c)) c := by
  have hs : ∀ v : FVec Ideal S8x128 .f32, (∀ j, v (ix2 j r) = ∑ t ∈ Finset.range 16, P97 x (ix2 (lane (t * 8) j) r)) →
      ∑ j : Fin 8, v (ix2 j r) = ∑ k : Fin 4096, x (ix2 r k) * x (ix2 r k) := fun v hv => by
    rw [← sum_tiles]
    exact Finset.sum_congr rfl fun j _ => (hv j).trans (Finset.sum_congr rfl fun t _ => tiles x _ r)
  unfold P149 k0_pay8
  simp -implicitDefEqProofs only [addf_apply, mulf_apply, divf_apply, sqrt_apply, bcol_apply, broadcastTo_1b_ab_apply, shapeCast_a_a1_apply,
    broadcast_apply]
  refine congrArg (fun q => Ideal.div (x (ix2 r c)) (rms q) * g (ix2 0 c)) ((rowSum32_apply _ _ _ _ r).trans ?_)
  simp -implicitDefEqProofs only [select_apply, broadcast_apply, broadcastTo_1b_ab_apply, shapeCast_self, shapeCast_a_1a_apply]
  refine (Finset.sum_eq_single r (fun c _ hc => ?_) fun h => absurd (Finset.mem_univ _) h).trans ?_
  · refine (congrArg (fun b => Scalar.select b _ _) (diag r c)).trans ?_
    rw [if_neg hc]
    exact Ideal.ofBits_zero_f32
  · refine (congrArg (fun b => Scalar.select b _ _) (diag r r)).trans ?_
    rw [if_pos rfl]
    refine (colSum_apply _ _ (.inl rfl) rfl r).trans (hs _ fun j => ?_)
    simp -implicitDefEqProofs only [addf_apply, lane_apply, groups, Finset.sum_range_succ, Finset.sum_range_zero, zero_add, Nat.reduceMul, Nat.zero_mul]

theorem scale_row (r : Fin 128) (u : Fin 1) :
    k0_pay9 (F := Ideal) (k0_pay3 x) (P97 x) (P116 x) g (ix2 r u) = scale (amax (norm (fun c => x (ix2 r c)) (fun c => g (ix2 0 c)))) := by
  unfold k0_pay9
  simp -implicitDefEqProofs only [select_apply, cmpf_apply, divf_apply, broadcast_apply, shapeCast_a_a1_apply]
  exact congrArg scale ((rowAmax_apply (P149 x g) _ _ _ r).trans (congrArg amax (funext fun c => xn_row x g r c)))

theorem codes_row (r : Fin 128) (c : Fin 4096) :
    k0_pay1 (F := Ideal) (k0_pay10 (k0_pay3 x) (P97 x) (P116 x) g) k0_pay11 (ix2 r c)
      = code (scale (amax (norm (fun c => x (ix2 r c)) (fun c => g (ix2 0 c))))) (norm (fun c => x (ix2 r c)) (fun c => g (ix2 0 c)) c) := by
  have hx := xn_row x g r c
  unfold P149 at hx
  unfold k0_pay1 k0_pay10 k0_pay11 code
  simp -implicitDefEqProofs only [truncf_apply, minimumf_apply, maximumf_apply, divf_apply, broadcast_apply, bcol_apply, scale_row, hx]

theorem gate_row (i : Fin 16) (r : Fin 128) :
    k0_pay2 (F := Ideal) (P149 x g) w b (ix2 i r)
      = gate (fun k => w (ix2 i k)) (norm (fun c => x (ix2 r c)) (fun c => g (ix2 0 c))) (b (ix2 i 0)) := by
  have hd : dot_S16x4096_S128x4096_S16x128_1_1_0_0_n_n = DotDims.transposedRhs 16 4096 128 := rfl
  unfold k0_pay2 gate
  simp -implicitDefEqProofs only [addf_apply, mulf_apply, divf_apply, tanh_apply, bcol_apply, broadcast_apply, hd, matmul,
    Ideal.matmul_transposedRhs_apply, constant_apply, Ideal.ofBits_zero_f32, zero_add, xn_row]

end K

namespace R
open Cert.NormRefIdeal Cert.NormRefIdeal.Gen

variable (x : Vec Ideal S1536x4096 .bf16) (g : Vec Ideal S1x4096 .f32) (w : Vec Ideal S16x4096 .f32) (b : Vec Ideal S16x1 .f32)

theorem xn_row (r : Fin 1536) (c : Fin 4096) :
    k0_pay2 (F := Ideal) x g (ix2 r c) = norm (fun c => x (ix2 r c)) (fun c => g (ix2 0 c)) c := by
  unfold k0_pay2
  simp -implicitDefEqProofs only [addf_apply, mulf_apply, extf_apply, divf_apply, sqrt_apply, bcol_apply, broadcastTo_1b_ab_apply, shapeCast_a_a1_apply,
    broadcast_apply]
  exact congrArg (fun q => Ideal.div (x (ix2 r c)) (rms q) * g (ix2 0 c)) (rowSum32_apply _ _ _ _ r)

theorem scale_row (r : Fin 1536) :
    k0_pay3 (F := Ideal) x g (ix1 r) = scale (amax (norm (fun c => x (ix2 r c)) (fun c => g (ix2 0 c)))) := by
  unfold k0_pay3
  simp -implicitDefEqProofs only [select_apply, cmpf_apply, divf_apply, broadcast_apply]
  exact congrArg scale ((rowAmax_apply _ _ _ _ r).trans (congrArg amax (funext fun c => xn_row x g r c)))

theorem scales_row (r : Fin 1536) (u : Fin 1) :
    k0_pay5 (F := Ideal) x g (ix2 r u) = scale (amax (norm (fun c => x (ix2 r c)) (fun c => g (ix2 0 c)))) := by
  unfold k0_pay5
  simp -implicitDefEqProofs only [shapeCast_a_a1_apply, scale_row]

theorem codes_row (r : Fin 1536) (c : Fin 4096) :
    k0_pay4 (F := Ideal) x g (ix2 r c)
      = code (scale (amax (norm (fun c => x (ix2 r c)) (fun c => g (ix2 0 c))))) (norm (fun c => x (ix2 r c)) (fun c => g (ix2 0 c)) c) := by
  unfold k0_pay4 code
  simp -implicitDefEqProofs only [truncf_apply, minimumf_apply, maximumf_apply, divf_apply, broadcast_apply, bcol_apply, shapeCast_a_a1_apply, scale_row, xn_row]

theorem gate_row (i : Fin 16) (r : Fin 1536) :
    k0_pay1 (F := Ideal) (k0_pay2 x g) (k0_pay6 w) b (ix2 i r)
      = gate (fun k => w (ix2 i k)) (norm (fun c => x (ix2 r c)) (fun c => g (ix2 0 c))) (b (ix2 i 0)) := by
  have hd : dot_S1536x4096_S4096x16_S1536x16_1_0_0_1_n_n = DotDims.plain 1536 4096 16 := rfl
  have hw : ∀ k : Fin 4096, k0_pay6 (F := Ideal) w (ix2 k i) = w (ix2 i k) := fun k => transpose_ix2_apply (a := 16) (b := 4096) w _ k i
  have hb : transpose S1x16 [1, 0] b transposes_S16x1_p1_0_S1x16 (ix2 0 i) = b (ix2 i 0) := transpose_ix2_apply (a := 16) (b := 1) b _ 0 i
  unfold k0_pay1 gate
  refine (transpose_ix2_apply (a := 1536) (b := 16) _ _ i r).trans ?_
  simp -implicitDefEqProofs only [addf_apply, mulf_apply, divf_apply, tanh_apply, broadcastTo_1b_ab_apply, broadcast_apply, hd, matmul,
    Ideal.matmul_plain_apply, constant_apply, Ideal.ofBits_zero_f32, zero_add, xn_row, hw, hb]
  simp only [mul_comm]

end R

end Cert.Proof.NormRows

end
-- ==== Proof.NormValue.lean ====
/-
  Hand-written, untrusted. The first norm's arrays after the run: each is the reference's payload of the argument arrays. A grid point
  writes back the block's 128 rows of codes and scales and 128 columns of gates; each is the same function of the row of the arguments
  it stages as the reference's row (Proof/NormRows.lean), and the twelve blocks cover the array.
-/
module

public import proofs.«01_k».proof.Proof.NormRows
public import proofs.«01_k».proof.Proof.Gen.NormIdeal.Frame
public import proofs.«01_k».proof.Proof.Gen.NormRefIdeal.Value
public import Idealize.ShloMosaic.Lib.Pipeline.Value

@[expose] public section

set_option maxRecDepth 16384

noncomputable section

namespace Cert.Proof.NormValue

open Idealize.ShloMosaic Idealize.ShloMosaic.TcCoe Idealize.SL.Sem Idealize.ShloMosaic.ValueIdx Cert.Proof.Rows Cert.NormIdeal Cert.NormIdeal.Gen

variable (m : (ℓ : Loc nD τ sig) → Buf (Elt Ideal) ℓ)

theorem hz : (![0, 0] : Fin 2 → ℕ) = fun _ => 0 := funext fun a => by fin_cases a <;> rfl

/-- The array row that row `r` of point `t`'s block is. -/
def row (t : Fin cfg0.N) (r : Fin 128) : Fin 1536 :=
  ⟨t.val * 128 + r.val, by have h : t.val < 12 := t.isLt; have := r.isLt; omega⟩

/-- Every row is in one block. -/
theorem row_surj (i : Fin 1536) : ∃ t r, row t r = i :=
  ⟨⟨i.val / 128, by show _ < 12; have := i.isLt; omega⟩, ⟨i.val % 128, Nat.mod_lt _ (by decide)⟩,
    Fin.ext (by show i.val / 128 * 128 + i.val % 128 = i.val; omega)⟩

theorem idx : ∀ t : Fin cfg0.N,
    (win0_0.index t (0 : Fin 2) = t.val ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = 0 ∧ win0_6.index t (1 : Fin 2) = t.val) :=
  (by decide +kernel : ∀ t : Fin grid0.N, _)

/-! ## The input blocks and the argument arrays -/

abbrev a0 (c : Dev nD) : Vec Ideal S1536x4096 .bf16 := m ((c : Thread nD τ).loc main_arg0)
abbrev a1 (c : Dev nD) : Vec Ideal S1x4096 .f32 := m ((c : Thread nD τ).loc main_arg1)
abbrev a2 (c : Dev nD) : Vec Ideal S16x4096 .f32 := m ((c : Thread nD τ).loc main_arg2)
abbrev a3 (c : Dev nD) : Vec Ideal S16x1 .f32 := m ((c : Thread nD τ).loc main_arg3)

theorem iblk0_row (c : Dev nD) (t : Fin cfg0.N) (r : Fin 128) (k : Fin 4096) :
    iblk (F := Ideal) m c 0 t (ix2 r k) = a0 m c (ix2 (row t r) k) := by
  obtain ⟨e0, e1⟩ := (idx t).1
  show V m c main_arg0 (((cfg0.win 0).blk t).view.emb (ix2 r k)) = _
  rw [V_main_arg0]
  refine congrArg _ (funext fun a => Fin.ext ?_)
  match a with
  | ⟨0, _⟩ => show win0_0.index t (0 : Fin 2) * 128 + 1 * r.val = t.val * 128 + r.val; omega
  | ⟨1, _⟩ => show win0_0.index t (1 : Fin 2) * 4096 + 1 * k.val = k.val; omega

theorem iblk1_eq (c : Dev nD) (t : Fin cfg0.N) : iblk (F := Ideal) m c 1 t = a1 m c := by
  obtain ⟨e0, e1⟩ := (idx t).2.1
  funext j
  show V m c main_arg1 (((cfg0.win 1).blk t).view.emb j) = _
  rw [V_main_arg1]
  refine congrArg _ (funext fun a => Fin.ext ?_)
  match a with
  | ⟨0, _⟩ => show win0_1.index t (0 : Fin 2) * 1 + 1 * (j 0).val = (j 0).val; omega
  | ⟨1, _⟩ => show win0_1.index t (1 : Fin 2) * 4096 + 1 * (j 1).val = (j 1).val; omega

theorem iblk2_eq (c : Dev nD) (t : Fin cfg0.N) : iblk (F := Ideal) m c 2 t = a2 m c := by
  obtain ⟨e0, e1⟩ := (idx t).2.2.1
  funext j
  show V m c main_arg2 (((cfg0.win 2).blk t).view.emb j) = _
  rw [V_main_arg2]
  refine congrArg _ (funext fun a => Fin.ext ?_)
  match a with
  | ⟨0, _⟩ => show win0_2.index t (0 : Fin 2) * 16 + 1 * (j 0).val = (j 0).val; omega
  | ⟨1, _⟩ => show win0_2.index t (1 : Fin 2) * 4096 + 1 * (j 1).val = (j 1).val; omega

theorem iblk3_eq (c : Dev nD) (t : Fin cfg0.N) : iblk (F := Ideal) m c 3 t = a3 m c := by
  obtain ⟨e0, e1⟩ := (idx t).2.2.2.1
  funext j
  show V m c main_arg3 (((cfg0.win 3).blk t).view.emb j) = _
  rw [V_main_arg3]
  refine congrArg _ (funext fun a => Fin.ext ?_)
  match a with
  | ⟨0, _⟩ => show win0_3.index t (0 : Fin 2) * 16 + 1 * (j 0).val = (j 0).val; omega
  | ⟨1, _⟩ => show win0_3.index t (1 : Fin 2) * 1 + 1 * (j 1).val = (j 1).val; omega

theorem in_row (c : Dev nD) (t : Fin cfg0.N) (r : Fin 128) :
    (fun k : Fin 4096 => iblk (F := Ideal) m c 0 t (ix2 r k)) = fun k => a0 m c (ix2 (row t r) k) :=
  funext fun k => iblk0_row m c t r k

/-! ## Output window 4 -/

theorem emb4 (t : Fin cfg0.N) (r : Fin 128) (k : Fin 4096) : ((cfg0.win 4).blk t).view.emb (ix2 r k) = ix2 (row t r) k := by
  obtain ⟨e0, e1⟩ := (idx t).2.2.2.2.1
  refine funext fun a => Fin.ext ?_
  match a with
  | ⟨0, _⟩ => show win0_4.index t (0 : Fin 2) * 128 + 1 * r.val = t.val * 128 + r.val; omega
  | ⟨1, _⟩ => show win0_4.index t (1 : Fin 2) * 4096 + 1 * k.val = k.val; omega

/-- The body's block, its whole-block loads and its one covering store read away. -/
theorem out4 (c : Dev nD) (t : Fin cfg0.N) :
    out0_4 (F := Ideal) (iblk m c 0 t) (iblk m c 1 t) (iblk m c 2 t) (iblk m c 3 t)
      = k0_pay1 (k0_pay10 (k0_pay3 (iblk m c 0 t)) (NormRows.K.P97 (iblk m c 0 t)) (NormRows.K.P116 (iblk m c 0 t)) (iblk m c 1 t)) k0_pay11 := by
  unfold_out out0_4
  rw [View.canon_unit_zero hz]
  simp only [View.ld_unit_zero (S := S128x4096) hz, View.ld_unit_zero (S := S16x4096) hz, View.ld_unit_zero (S := S1x4096) hz, View.ld_unit_zero (S := S16x1) hz]
  rfl

theorem cut4 (P : Vec Ideal S128x4096 .fp8e4m3) (t : Fin cfg0.N) (r : Fin 128) (k : Fin 4096) :
    (cfg0.win 4).cut (grid0.coords t) P (ix2 r k) = P (ix2 r k) := rfl

theorem read4 (G : Vec Ideal S1536x4096 .fp8e4m3) (t : Fin cfg0.N) (r : Fin 128) (k : Fin 4096) :
    ((cfg0.win 4).blk t).view.read (Elt Ideal) G (ix2 r k) = G (ix2 (row t r) k) := congrArg G (emb4 t r k)

theorem flushed4 (c : Dev nD) (t : Fin cfg0.N) :
    (dats (F := Ideal) m 0 c).flushed 4 t = ((cfg0.win 4).blk t).view.read (Elt Ideal) (Cert.NormRefIdeal.Value.G4 (F := Ideal) (a0 m c) (a1 m c) (a2 m c) (a3 m c)) := by
  show (cfg0.win 4).cut (grid0.coords t) ((dats m 0 c).after 4 t) = _
  rw [after0_4, out4]
  funext j
  obtain ⟨r, k, rfl⟩ : ∃ (r : Fin 128) (k : Fin 4096), j = ix2 r k := ⟨j 0, j 1, eq_ix2 j⟩
  refine (cut4 _ t r k).trans (Eq.trans ?_ (read4 _ t r k).symm)
  refine (NormRows.K.codes_row _ _ r k).trans ?_
  rw [in_row m c t, iblk1_eq]
  exact (NormRows.R.codes_row (a0 m c) (a1 m c) (row t r) k).symm

theorem covered4 (i : S1536x4096.Idx) :
    ∃ t : Fin cfg0.N, (cfg0.win 4).flush t = true ∧ i ∈ ((cfg0.win 4).blk t).view.set := by
  obtain ⟨p, k, rfl⟩ : ∃ (p : Fin 1536) (k : Fin 4096), i = ix2 p k := ⟨i 0, i 1, eq_ix2 i⟩
  obtain ⟨t, r, rfl⟩ := row_surj p
  exact ⟨t, flush0_4 t, emb4 t r k ▸ ((cfg0.win 4).blk t).view.emb_mem_set (ix2 r k)⟩

/-- The array after the run is the reference's. -/
theorem final4 (c : Dev nD) : (dats (F := Ideal) m 0 c).arrAt 4 cfg0.N = (Cert.NormRefIdeal.Value.G4 (F := Ideal) (a0 m c) (a1 m c) (a2 m c) (a3 m c)) :=
  (dats (F := Ideal) m 0 c).arrAt_eq_of_cover 4 (Cert.NormRefIdeal.Value.G4 (F := Ideal) (a0 m c) (a1 m c) (a2 m c) (a3 m c)) (fun t _ => flushed4 m c t) covered4

/-! ## Output window 5 -/

theorem emb5 (t : Fin cfg0.N) (r : Fin 128) (k : Fin 1) : ((cfg0.win 5).blk t).view.emb (ix2 r k) = ix2 (row t r) k := by
  obtain ⟨e0, e1⟩ := (idx t).2.2.2.2.2.1
  refine funext fun a => Fin.ext ?_
  match a with
  | ⟨0, _⟩ => show win0_5.index t (0 : Fin 2) * 128 + 1 * r.val = t.val * 128 + r.val; omega
  | ⟨1, _⟩ => show win0_5.index t (1 : Fin 2) * 1 + 1 * k.val = k.val; omega

/-- The body's block, its whole-block loads and its one covering store read away. -/
theorem out5 (c : Dev nD) (t : Fin cfg0.N) :
    out0_5 (F := Ideal) (iblk m c 0 t) (iblk m c 1 t) (iblk m c 2 t) (iblk m c 3 t)
      = k0_pay9 (k0_pay3 (iblk m c 0 t)) (NormRows.K.P97 (iblk m c 0 t)) (NormRows.K.P116 (iblk m c 0 t)) (iblk m c 1 t) := by
  unfold_out out0_5
  rw [View.canon_unit_zero hz]
  simp only [View.ld_unit_zero (S := S128x4096) hz, View.ld_unit_zero (S := S16x4096) hz, View.ld_unit_zero (S := S1x4096) hz, View.ld_unit_zero (S := S16x1) hz]
  rfl

theorem cut5 (P : Vec Ideal S128x1 .f32) (t : Fin cfg0.N) (r : Fin 128) (k : Fin 1) :
    (cfg0.win 5).cut (grid0.coords t) P (ix2 r k) = P (ix2 r k) := rfl

theorem read5 (G : Vec Ideal S1536x1 .f32) (t : Fin cfg0.N) (r : Fin 128) (k : Fin 1) :
    ((cfg0.win 5).blk t).view.read (Elt Ideal) G (ix2 r k) = G (ix2 (row t r) k) := congrArg G (emb5 t r k)

theorem flushed5 (c : Dev nD) (t : Fin cfg0.N) :
    (dats (F := Ideal) m 0 c).flushed 5 t = ((cfg0.win 5).blk t).view.read (Elt Ideal) (Cert.NormRefIdeal.Value.G5 (F := Ideal) (a0 m c) (a1 m c) (a2 m c) (a3 m c)) := by
  show (cfg0.win 5).cut (grid0.coords t) ((dats m 0 c).after 5 t) = _
  rw [after0_5, out5]
  funext j
  obtain ⟨r, k, rfl⟩ : ∃ (r : Fin 128) (k : Fin 1), j = ix2 r k := ⟨j 0, j 1, eq_ix2 j⟩
  refine (cut5 _ t r k).trans (Eq.trans ?_ (read5 _ t r k).symm)
  refine (NormRows.K.scale_row _ _ r k).trans ?_
  rw [in_row m c t, iblk1_eq]
  exact (NormRows.R.scales_row (a0 m c) (a1 m c) (row t r) k).symm

theorem covered5 (i : S1536x1.Idx) :
    ∃ t : Fin cfg0.N, (cfg0.win 5).flush t = true ∧ i ∈ ((cfg0.win 5).blk t).view.set := by
  obtain ⟨p, k, rfl⟩ : ∃ (p : Fin 1536) (k : Fin 1), i = ix2 p k := ⟨i 0, i 1, eq_ix2 i⟩
  obtain ⟨t, r, rfl⟩ := row_surj p
  exact ⟨t, flush0_5 t, emb5 t r k ▸ ((cfg0.win 5).blk t).view.emb_mem_set (ix2 r k)⟩

/-- The array after the run is the reference's. -/
theorem final5 (c : Dev nD) : (dats (F := Ideal) m 0 c).arrAt 5 cfg0.N = (Cert.NormRefIdeal.Value.G5 (F := Ideal) (a0 m c) (a1 m c) (a2 m c) (a3 m c)) :=
  (dats (F := Ideal) m 0 c).arrAt_eq_of_cover 5 (Cert.NormRefIdeal.Value.G5 (F := Ideal) (a0 m c) (a1 m c) (a2 m c) (a3 m c)) (fun t _ => flushed5 m c t) covered5

/-! ## Output window 6 -/

theorem emb6 (t : Fin cfg0.N) (r : Fin 16) (k : Fin 128) : ((cfg0.win 6).blk t).view.emb (ix2 r k) = ix2 r (row t k) := by
  obtain ⟨e0, e1⟩ := (idx t).2.2.2.2.2.2
  refine funext fun a => Fin.ext ?_
  match a with
  | ⟨0, _⟩ => show win0_6.index t (0 : Fin 2) * 16 + 1 * r.val = r.val; omega
  | ⟨1, _⟩ => show win0_6.index t (1 : Fin 2) * 128 + 1 * k.val = t.val * 128 + k.val; omega

/-- The body's block, its whole-block loads and its one covering store read away. -/
theorem out6 (c : Dev nD) (t : Fin cfg0.N) :
    out0_6 (F := Ideal) (iblk m c 0 t) (iblk m c 1 t) (iblk m c 2 t) (iblk m c 3 t)
      = k0_pay2 (NormRows.K.P149 (iblk m c 0 t) (iblk m c 1 t)) (iblk m c 2 t) (iblk m c 3 t) := by
  unfold_out out0_6
  rw [View.canon_unit_zero hz]
  simp only [View.ld_unit_zero (S := S128x4096) hz, View.ld_unit_zero (S := S16x4096) hz, View.ld_unit_zero (S := S1x4096) hz, View.ld_unit_zero (S := S16x1) hz]
  rfl

theorem cut6 (P : Vec Ideal S16x128 .f32) (t : Fin cfg0.N) (r : Fin 16) (k : Fin 128) :
    (cfg0.win 6).cut (grid0.coords t) P (ix2 r k) = P (ix2 r k) := rfl

theorem read6 (G : Vec Ideal S16x1536 .f32) (t : Fin cfg0.N) (r : Fin 16) (k : Fin 128) :
    ((cfg0.win 6).blk t).view.read (Elt Ideal) G (ix2 r k) = G (ix2 r (row t k)) := congrArg G (emb6 t r k)

theorem flushed6 (c : Dev nD) (t : Fin cfg0.N) :
    (dats (F := Ideal) m 0 c).flushed 6 t = ((cfg0.win 6).blk t).view.read (Elt Ideal) (Cert.NormRefIdeal.Value.G6 (F := Ideal) (a0 m c) (a1 m c) (a2 m c) (a3 m c)) := by
  show (cfg0.win 6).cut (grid0.coords t) ((dats m 0 c).after 6 t) = _
  rw [after0_6, out6]
  funext j
  obtain ⟨r, k, rfl⟩ : ∃ (r : Fin 16) (k : Fin 128), j = ix2 r k := ⟨j 0, j 1, eq_ix2 j⟩
  refine (cut6 _ t r k).trans (Eq.trans ?_ (read6 _ t r k).symm)
  refine (NormRows.K.gate_row _ _ _ _ r k).trans ?_
  rw [in_row m c t, iblk1_eq, iblk2_eq, iblk3_eq]
  exact (NormRows.R.gate_row (a0 m c) (a1 m c) (a2 m c) (a3 m c) r (row t k)).symm

theorem covered6 (i : S16x1536.Idx) :
    ∃ t : Fin cfg0.N, (cfg0.win 6).flush t = true ∧ i ∈ ((cfg0.win 6).blk t).view.set := by
  obtain ⟨r, p, rfl⟩ : ∃ (r : Fin 16) (p : Fin 1536), i = ix2 r p := ⟨i 0, i 1, eq_ix2 i⟩
  obtain ⟨t, k, rfl⟩ := row_surj p
  exact ⟨t, flush0_6 t, emb6 t r k ▸ ((cfg0.win 6).blk t).view.emb_mem_set (ix2 r k)⟩

/-- The array after the run is the reference's. -/
theorem final6 (c : Dev nD) : (dats (F := Ideal) m 0 c).arrAt 6 cfg0.N = (Cert.NormRefIdeal.Value.G6 (F := Ideal) (a0 m c) (a1 m c) (a2 m c) (a3 m c)) :=
  (dats (F := Ideal) m 0 c).arrAt_eq_of_cover 6 (Cert.NormRefIdeal.Value.G6 (F := Ideal) (a0 m c) (a1 m c) (a2 m c) (a3 m c)) (fun t _ => flushed6 m c t) covered6

/-! ## The run -/

/-- After the run the three result arrays are the reference's and the four arguments are as before. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v0_0) = (Cert.NormRefIdeal.Value.G4 (F := Ideal) (a0 m c) (a1 m c) (a2 m c) (a3 m c))
      ∧ r.2.mem ((c : Thread nD τ).loc main_v0_1) = (Cert.NormRefIdeal.Value.G5 (F := Ideal) (a0 m c) (a1 m c) (a2 m c) (a3 m c))
      ∧ r.2.mem ((c : Thread nD τ).loc main_v0_2) = (Cert.NormRefIdeal.Value.G6 (F := Ideal) (a0 m c) (a1 m c) (a2 m c) (a3 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Proof.NormValue

end
-- ==== Proof.NormAlg.lean ====
/-
  Hand-written, untrusted. The first norm's algebraic claim: the kernel's arrays are the reference's payloads of the arguments
  (Proof/NormValue.lean), and the reference's run writes exactly those.
-/
module

public import proofs.«01_k».proof.Defs
public import proofs.«01_k».proof.Proof.NormValue

@[expose] public section

set_option maxRecDepth 16384

noncomputable section

namespace Cert.Proof.NormAlg

open Idealize.ShloMosaic Idealize.ShloMosaic.TcCoe Idealize.SL.Sem Cert.Proof.NormValue

/-- From the same arguments the kernel and the reference leave the same codes, scales and gates. -/
theorem algebraic : Cert.algebraic_NormIdeal_NormRefIdeal (hNormIdeal := Cert.NormIdeal.Gen.facts) (hNormRefIdeal := Cert.NormRefIdeal.Gen.facts) := by
  intro m g m' g' _ hargs
  refine ⟨fun c => Cert.NormRefIdeal.Value.G4 (F := Ideal) (a0 m c) (a1 m c) (a2 m c) (a3 m c),
    fun c => Cert.NormRefIdeal.Value.G5 (F := Ideal) (a0 m c) (a1 m c) (a2 m c) (a3 m c),
    fun c => Cert.NormRefIdeal.Value.G6 (F := Ideal) (a0 m c) (a1 m c) (a2 m c) (a3 m c), ?_, ?_⟩
  · exact run m g
  · refine (θ_run (Cert.NormRefIdeal.defs (F := Ideal)) _ _).mono (fun r h c => ?_) (Cert.NormRefIdeal.Value.run (F := Ideal) m' g')
    obtain ⟨h4, h5, h6, h⟩ := h c
    obtain ⟨e0, e1, e2, e3⟩ := hargs c
    refine ⟨h4.trans ?_, h5.trans ?_, h6.trans ?_, h⟩ <;> rw [e0, e1, e2, e3]

end Cert.Proof.NormAlg

end
-- ==== Proof.QkvRun.lean ====
/-
  The body of the mLSTM call, run once: what it leaves in the blocks of the codes and scales of q, k and v. What it leaves in the other
  results and in the scratch is not named.
-/
module

public import proofs.«01_k».proof.Proof.Gen.QkvIdeal.Frame.Runs
public import proofs.«01_k».proof.Proof.Gen.QkvIdeal.Skeleton
public import Idealize.ShloMosaic.Lib.Pipeline.Frame
public import Idealize.ShloMosaic.Lib.Tactic
public import Idealize.ShloMosaic.Lib.Writes
public import Idealize.ShloMosaic.Lib.WritesUnit
public import Idealize.ShloMosaic.Lib.Pipeline.Value
public import Idealize.ShloMosaic.Lib.ValueIdx

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx

variable {F : FTy → Type} [FloatOps F]

local notation "𝕄" => MT nD τ sig Unit (Elt F) ℕ (UR sig nD τ) ℕ

theorem hz2 : (![0, 0] : Fin 2 → ℕ) = fun _ => 0 := funext fun a => by fin_cases a <;> rfl
theorem hz3 : (![0, 0, 0] : Fin 3 → ℕ) = fun _ => 0 := funext fun a => by fin_cases a <;> rfl

/-- The 384 rows of the codes that the point works on. -/
def xRows (i : grid0.Coords) (x0 : Vec F S1536x4096 .fp8e4m3) : Vec F S384x4096 .fp8e4m3 :=
  View.ld x0 (Rect.unit (s := S1536x4096) (k0_off1 i) S384x4096.size (k0_off1_inb i))

/-- The scales of q, k and v over the 384 rows, and their codes. -/
def qScale (i : grid0.Coords) (x0 : Vec F S1536x4096 .fp8e4m3) (x1 : Vec F S384x1 .f32) (x2 : Vec F S1x4096x256 .fp8e4m3) (x6 : Vec F S1x1x256 .f32) :
    Vec F S384x1 .f32 := k0_pay3 (xRows i x0) x1 x2 x6
def qCodes (i : grid0.Coords) (x0 : Vec F S1536x4096 .fp8e4m3) (x1 : Vec F S384x1 .f32) (x2 : Vec F S1x4096x256 .fp8e4m3) (x6 : Vec F S1x1x256 .f32) :
    Vec F S1x384x256 .fp8e4m3 := k0_pay15 (k0_pay4 (xRows i x0) x1 x2 x6)
def kScale (i : grid0.Coords) (x0 : Vec F S1536x4096 .fp8e4m3) (x1 : Vec F S384x1 .f32) (x3 : Vec F S1x4096x256 .fp8e4m3) (x7 : Vec F S1x1x256 .f32) :
    Vec F S384x1 .f32 := k0_pay7 (k0_pay5 (xRows i x0) x1 x3) x7
def kCodes (i : grid0.Coords) (x0 : Vec F S1536x4096 .fp8e4m3) (x1 : Vec F S384x1 .f32) (x3 : Vec F S1x4096x256 .fp8e4m3) (x7 : Vec F S1x1x256 .f32) :
    Vec F S1x384x256 .fp8e4m3 := k0_pay16 (k0_pay8 (k0_pay5 (xRows i x0) x1 x3) x7)
def vScale (i : grid0.Coords) (x0 : Vec F S1536x4096 .fp8e4m3) (x1 : Vec F S384x1 .f32) (x4 : Vec F S1x4096x512 .fp8e4m3) (x8 : Vec F S1x1x512 .f32) :
    Vec F S384x1 .f32 := k0_pay10 (xRows i x0) x1 x4 x8
def vCodes (i : grid0.Coords) (x0 : Vec F S1536x4096 .fp8e4m3) (x1 : Vec F S384x1 .f32) (x4 : Vec F S1x4096x512 .fp8e4m3) (x8 : Vec F S1x1x512 .f32) :
    Vec F S1x384x512 .fp8e4m3 := k0_pay17 (k0_pay11 (xRows i x0) x1 x4 x8) (Scalar.ofBits .f32 0x43E00000#32) (k0_pay12 (F := F))

/-- A block of three rows. -/
def rowsOf (P0 P1 P2 : Vec F S1x1x1x128 .f32) : Vec F S1x1x3x128 .f32 := fun y =>
  if (y 2).val = 0 then P0 (ix4 (0 : Fin 1) (0 : Fin 1) (0 : Fin 1) (y 3 : Fin 128))
  else if (y 2).val = 1 then P1 (ix4 (0 : Fin 1) (0 : Fin 1) (0 : Fin 1) (y 3 : Fin 128))
  else P2 (ix4 (0 : Fin 1) (0 : Fin 1) (0 : Fin 1) (y 3 : Fin 128))

/-- The three rows of a block of scales: each is a third of the column, turned. -/
def rows (s : Vec F S384x1 .f32) : Vec F S1x1x3x128 .f32 :=
  rowsOf (k0_pay35 (k0_pay31 s k0_pay18)) (k0_pay76 s k0_pay18) (k0_pay112 s k0_pay18)

/-- Three stores of one row each leave the three rows. -/
theorem read_rows {κ : Kind} {sp : Space} (v : View sig κ sp S1x1x3x128 .f32) (f : v.ty.Contents (Elt F))
    (i0 : ∀ a, (![0, 0, 0, 0] : Fin 4 → ℕ) a + S1x1x1x128.size a ≤ S1x1x3x128.size a)
    (i1 : ∀ a, (![0, 0, 1, 0] : Fin 4 → ℕ) a + S1x1x1x128.size a ≤ S1x1x3x128.size a)
    (i2 : ∀ a, (![0, 0, 2, 0] : Fin 4 → ℕ) a + S1x1x1x128.size a ≤ S1x1x3x128.size a) (P0 P1 P2 : Vec F S1x1x1x128 .f32) :
    v.read (Elt F) (v.writes (Elt F) f [⟨Rect.unit (s := S1x1x3x128) ![0, 0, 2, 0] S1x1x1x128.size i2, P2⟩,
        ⟨Rect.unit (s := S1x1x3x128) ![0, 0, 1, 0] S1x1x1x128.size i1, P1⟩, ⟨Rect.unit (s := S1x1x3x128) ![0, 0, 0, 0] S1x1x1x128.size i0, P0⟩])
      = rowsOf P0 P1 P2 := by
  unfold rowsOf
  funext y
  have h0 : (y 0).val = 0 := by have := (y 0).isLt; change (y 0).val < 1 at this; omega
  have h1 : (y 1).val = 0 := by have := (y 1).isLt; change (y 1).val < 1 at this; omega
  have h2 : (y 2).val < 3 := (y 2).isLt
  have mem : ∀ k, (y 2).val = k → ∀ a, (y a).val = (![0, 0, k, 0] : Fin 4 → ℕ) a
      + ((ix4 (0 : Fin 1) (0 : Fin 1) (0 : Fin 1) (y 3 : Fin 128) : S1x1x1x128.Idx) a).val := by
    intro k hk a
    match a with
    | ⟨0, _⟩ => exact h0
    | ⟨1, _⟩ => exact h1
    | ⟨2, _⟩ => exact hk.trans (Nat.add_zero _).symm
    | ⟨3, _⟩ => exact (Nat.zero_add _).symm
  by_cases e0 : (y 2).val = 0
  · rw [if_pos e0]
    refine (View.read_writes_cons_unit_of_not_mem v f i2 P2 _ y rfl (2 : Fin 4) (.inl (show (y 2).val < 2 by omega))).trans ?_
    refine (View.read_writes_cons_unit_of_not_mem v f i1 P1 _ y rfl (2 : Fin 4) (.inl (show (y 2).val < 1 by omega))).trans ?_
    exact View.read_writes_cons_unit_of_mem v f i0 P0 _ y _ rfl (mem 0 e0)
  rw [if_neg e0]
  by_cases e1 : (y 2).val = 1
  · rw [if_pos e1]
    refine (View.read_writes_cons_unit_of_not_mem v f i2 P2 _ y rfl (2 : Fin 4) (.inl (show (y 2).val < 2 by omega))).trans ?_
    exact View.read_writes_cons_unit_of_mem v f i1 P1 _ y _ rfl (mem 1 e1)
  rw [if_neg e1]
  exact View.read_writes_cons_unit_of_mem v f i2 P2 _ y _ rfl (mem 2 (by omega))

/-- A store through the whole of a view leaves its payload. -/
theorem read_whole_store {κ : Kind} {sp : Space} {S : Shape} {e : EltTy} (v : View sig κ sp S e) (f : v.ty.Contents (Elt F))
    {off : Fin S.rank → ℕ} (hoff : off = fun _ => 0) (inb : ∀ a, off a + S.size a ≤ S.size a) (P : Vec F S e) :
    v.read (Elt F) (v.writes (Elt F) f [⟨Rect.unit (s := S) off S.size inb, P⟩]) = P := by
  funext y
  exact View.read_writes_cons_unit_of_mem v f inb P [] y y hoff fun a => (Nat.zero_add _).symm

/-- The body, run once: the blocks of codes and of scales of q, k and v are as named, the other results and the scratch are left at something. -/
theorem run (c : Dev nD) (i : grid0.Coords) (arg2 : Memref sig .tc .vmem S1536x4096 .fp8e4m3) (harg2 : arg2.IsWhole) (arg3 : Memref sig .tc .vmem S384x1 .f32) (harg3 : arg3.IsWhole) (arg4 : Memref sig .tc .vmem S1x4096x256 .fp8e4m3) (harg4 : arg4.IsWhole) (arg5 : Memref sig .tc .vmem S1x4096x256 .fp8e4m3) (harg5 : arg5.IsWhole) (arg6 : Memref sig .tc .vmem S1x4096x512 .fp8e4m3) (harg6 : arg6.IsWhole) (arg7 : Memref sig .tc .vmem S1x4096x512 .fp8e4m3) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x3x128 .f32) (harg12 : arg12.IsWhole) (arg13 : Memref sig .tc .vmem S1x1x3x128 .f32) (harg13 : arg13.IsWhole) (arg14 : Memref sig .tc .vmem S1x1x512 .f32) (harg14 : arg14.IsWhole) (arg15 : Memref sig .tc .vmem S1x1x256x512 .fp8e4m3) (harg15 : arg15.IsWhole) (arg16 : Memref sig .tc .vmem S1x1x1x256 .f32) (harg16 : arg16.IsWhole) (arg17 : Memref sig .tc .vmem S1x1x1x256 .f32) (harg17 : arg17.IsWhole) (arg18 : Memref sig .tc .vmem S1x1x1x1 .f32) (harg18 : arg18.IsWhole) (arg19 : Memref sig .tc .vmem S384x512 .f32) (harg19 : arg19.IsWhole) (arg20 : Memref sig .tc .vmem S384x512 .f32) (harg20 : arg20.IsWhole) (arg21 : Memref sig .tc .vmem S1x384x256 .fp8e4m3) (harg21 : arg21.IsWhole) (arg22 : Memref sig .tc .vmem S1x1x3x128 .f32) (harg22 : arg22.IsWhole) (arg23 : Memref sig .tc .vmem S1x384x256 .fp8e4m3) (harg23 : arg23.IsWhole) (arg24 : Memref sig .tc .vmem S1x1x3x128 .f32) (harg24 : arg24.IsWhole) (arg25 : Memref sig .tc .vmem S1x384x512 .fp8e4m3) (harg25 : arg25.IsWhole) (arg26 : Memref sig .tc .vmem S1x1x3x128 .f32) (harg26 : arg26.IsWhole) (arg27 : Memref sig .tc .vmem S1x1x256x512 .fp8e4m3) (harg27 : arg27.IsWhole) (arg28 : Memref sig .tc .vmem S1x1x1x256 .f32) (harg28 : arg28.IsWhole) (arg29 : Memref sig .tc .vmem S1x1x1x256 .f32) (harg29 : arg29.IsWhole) (arg30 : Memref sig .tc .vmem S1x1x1x1 .f32) (harg30 : arg30.IsWhole) (arg31 : Memref sig .tc .vmem S256x512 .f32) (harg31 : arg31.IsWhole)
    (x0 : Vec F S1536x4096 .fp8e4m3) (x1 : Vec F S384x1 .f32) (x2 : Vec F S1x4096x256 .fp8e4m3) (x3 : Vec F S1x4096x256 .fp8e4m3) (x4 : Vec F S1x4096x512 .fp8e4m3) (x5 : Vec F S1x4096x512 .fp8e4m3) (x6 : Vec F S1x1x256 .f32) (x7 : Vec F S1x1x256 .f32) (x8 : Vec F S1x1x512 .f32) (x9 : Vec F S1x1x512 .f32) (x10 : Vec F S1x1x3x128 .f32) (x11 : Vec F S1x1x3x128 .f32) (x12 : Vec F S1x1x512 .f32) (x13 : Vec F S1x1x256x512 .fp8e4m3) (x14 : Vec F S1x1x1x256 .f32) (x15 : Vec F S1x1x1x256 .f32) (x16 : Vec F S1x1x1x1 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare x11
        ∗ owns (c : Thread nD τ) arg14 fullShare x12
        ∗ owns (c : Thread nD τ) arg15 fullShare x13
        ∗ owns (c : Thread nD τ) arg16 fullShare x14
        ∗ owns (c : Thread nD τ) arg17 fullShare x15
        ∗ owns (c : Thread nD τ) arg18 fullShare x16
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (∃ d, owns (c : Thread nD τ) arg27 fullShare d)
        ∗ (∃ d, owns (c : Thread nD τ) arg28 fullShare d)
        ∗ (∃ d, owns (c : Thread nD τ) arg29 fullShare d)
        ∗ (∃ d, owns (c : Thread nD τ) arg30 fullShare d)
        ∗ (∃ d, owns (c : Thread nD τ) arg31 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ owns (c : Thread nD τ) arg14 fullShare x12
            ∗ owns (c : Thread nD τ) arg15 fullShare x13
            ∗ owns (c : Thread nD τ) arg16 fullShare x14
            ∗ owns (c : Thread nD τ) arg17 fullShare x15
            ∗ owns (c : Thread nD τ) arg18 fullShare x16
            ∗ (∃ d, owns (c : Thread nD τ) arg19 fullShare d)
            ∗ (∃ d, owns (c : Thread nD τ) arg20 fullShare d)
            ∗ owns (c : Thread nD τ) arg21 fullShare (qCodes i x0 x1 x2 x6)
            ∗ owns (c : Thread nD τ) arg22 fullShare (rows (qScale i x0 x1 x2 x6))
            ∗ owns (c : Thread nD τ) arg23 fullShare (kCodes i x0 x1 x3 x7)
            ∗ owns (c : Thread nD τ) arg24 fullShare (rows (kScale i x0 x1 x3 x7))
            ∗ owns (c : Thread nD τ) arg25 fullShare (vCodes i x0 x1 x4 x8)
            ∗ owns (c : Thread nD τ) arg26 fullShare (rows (vScale i x0 x1 x4 x8))
            ∗ (∃ d, owns (c : Thread nD τ) arg27 fullShare d)
            ∗ (∃ d, owns (c : Thread nD τ) arg28 fullShare d)
            ∗ (∃ d, owns (c : Thread nD τ) arg29 fullShare d)
            ∗ (∃ d, owns (c : Thread nD τ) arg30 fullShare d)
            ∗ (∃ d, owns (c : Thread nD τ) arg31 fullShare d)) -∗ K ⟨⟩))
      ⊢ wp frame (wpE (defs₀ (F := F)) Variants.none c none) Set.univ (cc0_mlstm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0_mlstm_eq_skeleton]; unfold cc0_mlstm_skel
  simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _, _; isplitr
    swap; · iexact H17
    ipureintro; rfl
  isplitl [H18]
  · iexists _, _; isplitr
    swap; · iexact H18
    ipureintro; rfl
  isplitl [H19]
  · iexists _; isplitr
    swap; · iexact H19
    ipureintro
    refine (read_whole_store arg21.view f19 hz3 _ _).trans ?_
    unfold run.sl.r_3
    simp only [View.readAt_eq_ld]
    rw [View.ld_unit_zero (S := S384x1) hz2, View.ld_unit_zero (S := S1x4096x256) hz3, View.ld_unit_zero (S := S1x1x256) hz3]
    rfl
  isplitl [H20]
  · iexists _; isplitr
    swap; · iexact H20
    ipureintro
    refine (read_rows arg22.view f20 _ _ _ _ _ _).trans ?_
    unfold run.sl.r_20 run.sl.r_2
    simp only [View.readAt_eq_ld]
    rw [View.ld_unit_zero (S := S384x1) hz2, View.ld_unit_zero (S := S1x4096x256) hz3, View.ld_unit_zero (S := S1x1x256) hz3]
    rfl
  isplitl [H21]
  · iexists _; isplitr
    swap; · iexact H21
    ipureintro
    refine (read_whole_store arg23.view f21 hz3 _ _).trans ?_
    unfold run.sl.r_6 run.sl.r_4
    simp only [View.readAt_eq_ld]
    rw [View.ld_unit_zero (S := S384x1) hz2, View.ld_unit_zero (S := S1x4096x256) hz3, View.ld_unit_zero (S := S1x1x256) hz3]
    rfl
  isplitl [H22]
  · iexists _; isplitr
    swap; · iexact H22
    ipureintro
    refine (read_rows arg24.view f22 _ _ _ _ _ _).trans ?_
    unfold run.sl.r_21 run.sl.r_49 run.sl.r_5 run.sl.r_4
    simp only [View.readAt_eq_ld]
    rw [View.ld_unit_zero (S := S384x1) hz2, View.ld_unit_zero (S := S1x4096x256) hz3, View.ld_unit_zero (S := S1x1x256) hz3]
    rfl
  isplitl [H23]
  · iexists _; isplitr
    swap; · iexact H23
    ipureintro
    refine (read_whole_store arg25.view f23 hz3 _ _).trans ?_
    unfold run.sl.r_8 run.sl.r run.sl.r_1 run.sl.cst_39
    simp only [View.readAt_eq_ld]
    rw [View.ld_unit_zero (S := S384x1) hz2, View.ld_unit_zero (S := S1x4096x512) hz3, View.ld_unit_zero (S := S1x1x512) hz3]
    rfl
  isplitl [H24]
  · iexists _; isplitr
    swap; · iexact H24
    ipureintro
    refine (read_rows arg26.view f24 _ _ _ _ _ _).trans ?_
    unfold run.sl.r_22 run.sl.r_50 run.sl.r_7 run.sl.r run.sl.r_1
    simp only [View.readAt_eq_ld]
    rw [View.ld_unit_zero (S := S384x1) hz2, View.ld_unit_zero (S := S1x4096x512) hz3, View.ld_unit_zero (S := S1x1x512) hz3]
    rfl
  isplitl [H25]
  · iexists _, _; isplitr
    swap; · iexact H25
    ipureintro; rfl
  isplitl [H26]
  · iexists _, _; isplitr
    swap; · iexact H26
    ipureintro; rfl
  isplitl [H27]
  · iexists _, _; isplitr
    swap; · iexact H27
    ipureintro; rfl
  isplitl [H28]
  · iexists _, _; isplitr
    swap; · iexact H28
    ipureintro; rfl
  iexists _, _; isplitr
  swap; · iexact H29
  ipureintro; rfl

end Cert.QkvIdeal.Hand

end
-- ==== Proof.QkvData.lean ====
/-
  The mLSTM kernel's run, point by point, for any six properties of what a point leaves in the blocks of the codes and scales of q, k
  and v; and the frame, which asks nothing of them.
-/
module

public import proofs.«01_k».proof.Proof.QkvRun
public import Idealize.ShloMosaic.Lib.Pipeline.ArrRel

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is said of the six blocks after each point. -/
structure Says (F : FTy → Type) where
  P19 : Fin cfg0.N → Vec F S1x384x256 .fp8e4m3 → Prop
  P20 : Fin cfg0.N → Vec F S1x1x3x128 .f32 → Prop
  P21 : Fin cfg0.N → Vec F S1x384x256 .fp8e4m3 → Prop
  P22 : Fin cfg0.N → Vec F S1x1x3x128 .f32 → Prop
  P23 : Fin cfg0.N → Vec F S1x384x512 .fp8e4m3 → Prop
  P24 : Fin cfg0.N → Vec F S1x1x3x128 .f32 → Prop

/-- The proof data: a point leaves the argument blocks as found, the six blocks as said, the other results and the scratch at anything. -/
def rdat (sp : (c : Dev nD) → Says F) (c : Dev nD) : RDat τ (Elt F) Unit ℕ (UR sig nD τ) ℕ cfg0 c where
  A w := V m c (Pipeline.arrRef spec0 w)
  after w t := match w with
    | ⟨17, _⟩ => fun _ _ => True
    | ⟨18, _⟩ => fun _ _ => True
    | ⟨25, _⟩ => fun _ _ => True
    | ⟨26, _⟩ => fun _ _ => True
    | ⟨27, _⟩ => fun _ _ => True
    | ⟨28, _⟩ => fun _ _ => True
    | ⟨19, _⟩ => fun _ X => (sp c).P19 t X
    | ⟨20, _⟩ => fun _ X => (sp c).P20 t X
    | ⟨21, _⟩ => fun _ X => (sp c).P21 t X
    | ⟨22, _⟩ => fun _ X => (sp c).P22 t X
    | ⟨23, _⟩ => fun _ X => (sp c).P23 t X
    | ⟨24, _⟩ => fun _ X => (sp c).P24 t X
    | ⟨_, _⟩ => fun Y X => X = Y
  Φ _ := iprop(∃ s, owns (c : Thread nD τ) (Memref.whole cc0_scratch0) fullShare s ∗ ∃ r, prngReg c r)
  q _ := fullShare
  owed _ := 0

theorem A_eq (sp : (c : Dev nD) → Says F) (c : Dev nD) (w : Fin cfg0.W) : (rdat m sp c).A w = V m c (Pipeline.arrRef spec0 w) := by
  dsimp only [rdat]

abbrev Blocks (F : FTy → Type) := (w : Fin cfg0.W) → (cfg0.win w).block.Idx → Elt F (cfg0.win w).elt

/-- A point's blocks are as said, whatever it finds. -/
def Keeps (sp : (c : Dev nD) → Says F) : Prop :=
  ∀ c (t : Fin cfg0.N) (Y : Blocks F), (∀ w, (rdat m sp c).Finds w t (Y w)) →
    (sp c).P19 t (qCodes (grid0.coords t) (Y 0) (Y 1) (Y 2) (Y 6)) ∧ (sp c).P20 t (rows (qScale (grid0.coords t) (Y 0) (Y 1) (Y 2) (Y 6)))
      ∧ (sp c).P21 t (kCodes (grid0.coords t) (Y 0) (Y 1) (Y 3) (Y 7)) ∧ (sp c).P22 t (rows (kScale (grid0.coords t) (Y 0) (Y 1) (Y 3) (Y 7)))
      ∧ (sp c).P23 t (vCodes (grid0.coords t) (Y 0) (Y 1) (Y 4) (Y 8)) ∧ (sp c).P24 t (rows (vScale (grid0.coords t) (Y 0) (Y 1) (Y 4) (Y 8)))

theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (sp : (c : Dev nD) → Says F) (K : Keeps m sp) (c : Dev nD) :
    (rdat m sp c).BodyObligation (defs₀ (F := F)) Variants.none () Set.univ := fun t Y hY => by
  rw [bigSep_W0, bigSep_W0, defs₀_row]
  unfold bodyAt0
  rw [show (rdat m sp c).owesAt () t.succ = (rdat m sp c).owesAt () t.castSucc from rfl]
  dsimp only [rdat]
  obtain ⟨h19, h20, h21, h22, h23, h24⟩ := K c t Y hY
  iintro ⟨⟨%s, Hs, Hp⟩, Ho, H0, H1, H2, H3, H4, H5, H6, H7, H8, H9, H10, H11, H12, H13, H14, H15, H16, H17, H18, H19, H20, H21, H22, H23, H24, H25, H26, H27, H28⟩
  iapply (run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) (Y 15) (Y 16) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [Hs]; · iexists _; iexact Hs
  iintro ⟨H0, H1, H2, H3, H4, H5, H6, H7, H8, H9, H10, H11, H12, H13, H14, H15, H16, ⟨%d17, H17⟩, ⟨%d18, H18⟩, H19, H20, H21, H22, H23, H24, ⟨%d25, H25⟩, ⟨%d26, H26⟩, ⟨%d27, H27⟩, ⟨%d28, H28⟩, ⟨%s', Hs⟩⟩
  isplitl [Hs Hp]
  · iexists _
    isplitl [Hs]; · iexact Hs
    iexact Hp
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr; · ipureintro; rfl
    iexact H13
  isplitl [H14]
  · iexists _; isplitr; · ipureintro; rfl
    iexact H14
  isplitl [H15]
  · iexists _; isplitr; · ipureintro; rfl
    iexact H15
  isplitl [H16]
  · iexists _; isplitr; · ipureintro; rfl
    iexact H16
  isplitl [H17]
  · iexists d17; isplitr; · ipureintro; trivial
    iexact H17
  isplitl [H18]
  · iexists d18; isplitr; · ipureintro; trivial
    iexact H18
  isplitl [H19]
  · iexists _; isplitr; · ipureintro; exact h19
    iexact H19
  isplitl [H20]
  · iexists _; isplitr; · ipureintro; exact h20
    iexact H20
  isplitl [H21]
  · iexists _; isplitr; · ipureintro; exact h21
    iexact H21
  isplitl [H22]
  · iexists _; isplitr; · ipureintro; exact h22
    iexact H22
  isplitl [H23]
  · iexists _; isplitr; · ipureintro; exact h23
    iexact H23
  isplitl [H24]
  · iexists _; isplitr; · ipureintro; exact h24
    iexact H24
  isplitl [H25]
  · iexists d25; isplitr; · ipureintro; trivial
    iexact H25
  isplitl [H26]
  · iexists d26; isplitr; · ipureintro; trivial
    iexact H26
  isplitl [H27]
  · iexists d27; isplitr; · ipureintro; trivial
    iexact H27
  iexists d28; isplitr; · ipureintro; trivial
  iexact H28

set_option backward.isDefEq.respectTransparency.types false in
set_option maxHeartbeats 800000 in
/-- The run: every array at what the proof data allow, every semaphore at zero. -/
theorem run_main (sp : (c : Dev nD) → Says F) (K : Keeps m sp) :
    θ_run defs (onTc (τ := τ) (main (F := F))) (s₀ m ρ) (fun r => RDat.FramePost cfg0 (rdat m sp) (V m) r ∧ r.2.sem = fun _ => 0) :=
  RDat.θ_run_frame_track (Q' := _) cfgs (0 : Fin 1) launch0 defs₀ Variants.none (rdat m sp) m ρ main
    (hbody := body_obligation m sp K) (hshare := fun c w => by unfold RDat.share; split <;> rfl)
    (howed := fun _ _ => rfl) (V := V m) (hmain := hmain m Variants.none) (hA := A_eq m sp)
    (hin := fun c => by
      unfold Pipeline.ΦA; rw [scopedRest0_eq]
      dsimp only [rdat]
      simp only [owns_whole]
      iintro ⟨⟨%f0, H0⟩, Hp⟩
      iexists f0
      isplitl [H0]; · iexact H0
      iexact Hp)
    (hout := fun c => by
      unfold Pipeline.ΦA; rw [scopedRest0_eq]
      dsimp only [rdat]
      simp only [owns_whole]
      iintro ⟨%s, H0, Hp⟩
      isplitl [H0]
      · iexists _; iexact H0
      iexact Hp)

/-- Nothing is asked. -/
def anything (c : Dev nD) : Says F := ⟨fun _ _ => True, fun _ _ => True, fun _ _ => True, fun _ _ => True, fun _ _ => True, fun _ _ => True⟩

theorem keeps_anything : Keeps m (anything (F := F)) := fun _ _ _ _ => ⟨trivial, trivial, trivial, trivial, trivial, trivial⟩

set_option maxHeartbeats 4000000 in
/-- The frame from a run: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) ∧ r.2.sem = fun _ => 0) :=
  (θ_run defs _ _).mono (fun _ h => ⟨fun c =>
      ⟨(h.1.arr_in c 0 rfl).trans ((A_eq m anything c 0).trans (V_main_arg0 m c)),
      (h.1.arr_in c 1 rfl).trans ((A_eq m anything c 1).trans (V_main_arg1 m c)),
      (h.1.arr_in c 2 rfl).trans ((A_eq m anything c 2).trans (V_main_arg2 m c)),
      (h.1.arr_in c 3 rfl).trans ((A_eq m anything c 3).trans (V_main_arg3 m c)),
      (h.1.arr_in c 4 rfl).trans ((A_eq m anything c 4).trans (V_main_arg4 m c)),
      (h.1.arr_in c 5 rfl).trans ((A_eq m anything c 5).trans (V_main_arg5 m c)),
      (h.1.arr_in c 6 rfl).trans ((A_eq m anything c 6).trans (V_main_arg6 m c)),
      (h.1.arr_in c 7 rfl).trans ((A_eq m anything c 7).trans (V_main_arg7 m c)),
      (h.1.arr_in c 8 rfl).trans ((A_eq m anything c 8).trans (V_main_arg8 m c)),
      (h.1.arr_in c 9 rfl).trans ((A_eq m anything c 9).trans (V_main_arg9 m c)),
      (h.1.arr_in c 10 rfl).trans ((A_eq m anything c 10).trans (V_main_arg10 m c)),
      (h.1.arr_in c 11 rfl).trans ((A_eq m anything c 11).trans (V_main_arg11 m c)),
      (h.1.arr_in c 12 rfl).trans ((A_eq m anything c 12).trans (V_main_arg12 m c)),
      (h.1.arr_in c 13 rfl).trans ((A_eq m anything c 13).trans (V_main_arg13 m c)),
      (h.1.arr_in c 14 rfl).trans ((A_eq m anything c 14).trans (V_main_arg14 m c)),
      (h.1.arr_in c 15 rfl).trans ((A_eq m anything c 15).trans (V_main_arg15 m c)),
      (h.1.arr_in c 16 rfl).trans ((A_eq m anything c 16).trans (V_main_arg16 m c))⟩, h.2⟩)
    (run_main m ρ anything (keeps_anything m))

end Cert.QkvIdeal.Hand

end
-- ==== Proof.QkvFrame.lean ====
/-
  The mLSTM kernel as printed has the same bodies, windows and host program as its idealised reading, so its frame is
  that one's at the floats of the printed program.
-/
module

public import proofs.«01_k».proof.Defs
public import proofs.«01_k».proof.Proof.QkvData
public import proofs.«01_k».proof.Proof.Gen.Qkv.Launch

@[expose] public section

set_option maxRecDepth 16384

noncomputable section

namespace Cert.Proof.QkvFrame

open Idealize.ShloMosaic Idealize.SL.Sem

variable {F : FTy → Type} [FloatOps F]

set_option maxHeartbeats 0 in
/-- The two programs' tables of pipeline bodies are one table. -/
theorem bodies_eq : HEq (Cert.Qkv.defs₀ (F := F)) (Cert.QkvIdeal.defs₀ (F := F)) := by
  unfold Cert.Qkv.defs₀ Cert.QkvIdeal.defs₀
  refine heq_of_eq (congrArg (Defs.onTc (nD := Cert.QkvIdeal.nD) (τ := Cert.QkvIdeal.τ)) ?_)
  refine funext fun l => funext fun a => ?_
  revert a
  match l with
  | ⟨0, _⟩ => exact fun a => rfl

set_option maxHeartbeats 0 in
/-- So their tables of bodies and pipelines are one table too. -/
theorem defs_eq : HEq (Cert.Qkv.defs (F := F)) (Cert.QkvIdeal.defs (F := F)) := by
  unfold Cert.Qkv.defs Cert.QkvIdeal.defs
  exact heq_of_eq (congrArg (Pipeline.defs (Cert.QkvIdeal.pcfgs (F := F))) (eq_of_heq bodies_eq))

set_option maxHeartbeats 0 in
theorem frame : Cert.quiescent_Qkv (hQkv := Cert.Qkv.Gen.facts) := by
  intro m g _
  have h := Cert.QkvIdeal.Hand.frame (F := Bits) m g
  rw [← eq_of_heq (defs_eq (F := Bits))] at h
  exact h

end Cert.Proof.QkvFrame

end
-- ==== Proof.QkvRows.lean ====
/-
  Hand-written, untrusted. The projections of q, k and v by rows, at the reals: a row of one head's projection, its scale and its
  codes; what the kernel's payloads of a block and the reference's payloads of whole arrays are, row by row.
-/
module

public import proofs.«01_k».proof.Proof.QkvRun
public import proofs.«01_k».proof.Proof.Rows
public import proofs.«01_k».proof.Proof.NormRows
public import proofs.«01_k».proof.Proof.Gen.QkvRefIdeal.Skeleton

@[expose] public section

set_option maxRecDepth 16384

noncomputable section

namespace Cert.Proof.QkvRows

open Idealize.ShloMosaic Idealize.ShloMosaic.ValueIdx Cert.Proof.Rows
open Cert.Proof.NormRows (colSum_apply diag)

/-- One element of a projection: the row's codes against the weights' codes, times the row's scale and the column's. -/
def proj (x w : Fin 4096 → EReal) (xs ws : EReal) : EReal := (∑ k : Fin 4096, x k * w k) * xs * ws

namespace K
open Cert.QkvIdeal Cert.QkvIdeal.Gen Cert.QkvIdeal.Hand

section
variable (X : Vec Ideal S384x4096 .fp8e4m3) (xs : Vec Ideal S384x1 .f32)

theorem q_row (W : Vec Ideal S1x4096x256 .fp8e4m3) (s : Vec Ideal S1x1x256 .f32) (r : Fin 384) (e : Fin 256) :
    k0_pay2 (F := Ideal) X xs W s (ix2 r e) = proj (fun k => X (ix2 r k)) (fun k => W (ix3 0 k e)) (xs (ix2 r 0)) (s (ix3 0 0 e)) := by
  have hd : dot_S384x4096_S4096x256_S384x256_1_0_0_1_n_n = DotDims.plain 384 4096 256 := rfl
  unfold k0_pay2 proj
  simp -implicitDefEqProofs only [mulf_apply, bcol_apply, broadcastTo_1b_ab_apply, shapeCast_1ab_ab_apply, hd, matmul,
    Ideal.matmul_plain_apply, constant_apply, Ideal.ofBits_zero_f32, zero_add]

theorem v_row (W : Vec Ideal S1x4096x512 .fp8e4m3) (s : Vec Ideal S1x1x512 .f32) (r : Fin 384) (e : Fin 512) :
    k0_pay9 (F := Ideal) X xs W s (ix2 r e) = proj (fun k => X (ix2 r k)) (fun k => W (ix3 0 k e)) (xs (ix2 r 0)) (s (ix3 0 0 e)) := by
  have hd : dot_S384x4096_S4096x512_S384x512_1_0_0_1_n_n = DotDims.plain 384 4096 512 := rfl
  unfold k0_pay9 proj
  simp -implicitDefEqProofs only [mulf_apply, bcol_apply, broadcastTo_1b_ab_apply, shapeCast_1ab_ab_apply, hd, matmul,
    Ideal.matmul_plain_apply, constant_apply, Ideal.ofBits_zero_f32, zero_add]

theorem qScale_row (W : Vec Ideal S1x4096x256 .fp8e4m3) (s : Vec Ideal S1x1x256 .f32) (r : Fin 384) (u : Fin 1) :
    k0_pay3 (F := Ideal) X xs W s (ix2 r u)
      = scale (amax fun e : Fin 256 => proj (fun k => X (ix2 r k)) (fun k => W (ix3 0 k e)) (xs (ix2 r 0)) (s (ix3 0 0 e))) := by
  unfold k0_pay3
  simp -implicitDefEqProofs only [select_apply, cmpf_apply, divf_apply, broadcast_apply, shapeCast_a_a1_apply]
  exact congrArg scale ((rowAmax_apply (k0_pay2 (F := Ideal) X xs W s) _ _ _ r).trans (congrArg amax (funext fun e => q_row X xs W s r e)))

theorem vScale_row (W : Vec Ideal S1x4096x512 .fp8e4m3) (s : Vec Ideal S1x1x512 .f32) (r : Fin 384) (u : Fin 1) :
    k0_pay10 (F := Ideal) X xs W s (ix2 r u)
      = scale (amax fun e : Fin 512 => proj (fun k => X (ix2 r k)) (fun k => W (ix3 0 k e)) (xs (ix2 r 0)) (s (ix3 0 0 e))) := by
  unfold k0_pay10
  simp -implicitDefEqProofs only [select_apply, cmpf_apply, divf_apply, broadcast_apply, shapeCast_a_a1_apply]
  exact congrArg scale ((rowAmax_apply (k0_pay9 (F := Ideal) X xs W s) _ _ _ r).trans (congrArg amax (funext fun e => v_row X xs W s r e)))

theorem qCodes_row (W : Vec Ideal S1x4096x256 .fp8e4m3) (s : Vec Ideal S1x1x256 .f32) (u : Fin 1) (r : Fin 384) (e : Fin 256) :
    k0_pay15 (F := Ideal) (k0_pay4 X xs W s) (ix3 u r e)
      = code (scale (amax fun e : Fin 256 => proj (fun k => X (ix2 r k)) (fun k => W (ix3 0 k e)) (xs (ix2 r 0)) (s (ix3 0 0 e))))
          (proj (fun k => X (ix2 r k)) (fun k => W (ix3 0 k e)) (xs (ix2 r 0)) (s (ix3 0 0 e))) := by
  unfold k0_pay15 k0_pay4 code
  simp -implicitDefEqProofs only [shapeCast_ab_1ab_apply, truncf_apply, minimumf_apply, maximumf_apply, divf_apply, broadcast_apply, bcol_apply,
    qScale_row, q_row]

theorem vCodes_row (W : Vec Ideal S1x4096x512 .fp8e4m3) (s : Vec Ideal S1x1x512 .f32) (u : Fin 1) (r : Fin 384) (e : Fin 512) :
    k0_pay17 (F := Ideal) (k0_pay11 X xs W s) (Scalar.ofBits .f32 0x43E00000#32) k0_pay12 (ix3 u r e)
      = code (scale (amax fun e : Fin 512 => proj (fun k => X (ix2 r k)) (fun k => W (ix3 0 k e)) (xs (ix2 r 0)) (s (ix3 0 0 e))))
          (proj (fun k => X (ix2 r k)) (fun k => W (ix3 0 k e)) (xs (ix2 r 0)) (s (ix3 0 0 e))) := by
  unfold k0_pay17 k0_pay13 k0_pay12 k0_pay11 code
  simp -implicitDefEqProofs only [shapeCast_ab_1ab_apply, truncf_apply, minimumf_apply, maximumf_apply, divf_apply, broadcast_apply, bcol_apply,
    vScale_row, v_row]

end

/-- k is projected as q is, with its own weights. -/
theorem kScale_eq (i : grid0.Coords) (x0 : Vec Ideal S1536x4096 .fp8e4m3) (x1 : Vec Ideal S384x1 .f32) (x3 : Vec Ideal S1x4096x256 .fp8e4m3)
    (x7 : Vec Ideal S1x1x256 .f32) : kScale i x0 x1 x3 x7 = qScale i x0 x1 x3 x7 := rfl
theorem kCodes_eq (i : grid0.Coords) (x0 : Vec Ideal S1536x4096 .fp8e4m3) (x1 : Vec Ideal S384x1 .f32) (x3 : Vec Ideal S1x4096x256 .fp8e4m3)
    (x7 : Vec Ideal S1x1x256 .f32) : kCodes i x0 x1 x3 x7 = qCodes i x0 x1 x3 x7 := rfl

/-- A column of 128 turned to a row through the diagonal of a matrix. -/
def turn (v : FVec Ideal S128x1 .f32) : FVec Ideal S1x128 .f32 :=
  shapeCast S1x128 (multiReduction .add [0] S128
    (select k0_pay18 (broadcastTo S128x128 (shapeCast S128x1 v shapeCasts_S128x1_S128x1) broadcasts_S128x1_S128x128)
      (broadcast S128x128 (Scalar.ofBits .f32 0x00000000#32))) 0x00000000#32 reduces_S128x128_S128 (.inl rfl) rfl) shapeCasts_S128_S1x128

theorem turn_apply (v : FVec Ideal S128x1 .f32) (u : Fin 1) (l : Fin 128) : turn v (ix2 u l) = v (ix2 l 0) := by
  unfold turn
  rw [shapeCast_a_1a_apply]
  refine (colSum_apply _ _ (.inl rfl) rfl l).trans ?_
  simp -implicitDefEqProofs only [select_apply, broadcast_apply, bcol_apply, shapeCast_self]
  refine (Finset.sum_eq_single l (fun r _ hr => ?_) fun h => absurd (Finset.mem_univ _) h).trans ?_
  · refine (congrArg (fun b => Scalar.select b _ _) (diag r l)).trans ?_
    rw [if_neg fun h => hr h.symm]
    exact Ideal.ofBits_zero_f32
  · refine (congrArg (fun b => Scalar.select b _ _) (diag l l)).trans ?_
    rw [if_pos rfl]
    rfl

/-- A row cast to a block of one row. -/
theorem cast_row (v : FVec Ideal S1x128 .f32) (a b c : Fin 1) (l : Fin 128) :
    shapeCast S1x1x1x128 v shapeCasts_S1x128_S1x1x1x128 (ix4 a b c l) = v (ix2 0 l) :=
  shapeCast_apply v _ _ _ (by
    rw [Shape.rowMajor_val_four, Shape.rowMajor_val_two]
    show 0 * 128 + l.val = ((a.val * 1 + b.val) * 1 + c.val) * 128 + l.val
    omega)

/-- The block of scales holds the column, 128 to a row. -/
theorem rows_apply (s : Vec Ideal S384x1 .f32) (a b : Fin 1) (g : Fin 3) (l : Fin 128) :
    rows s (ix4 a b g l) = s (ix2 (⟨g.val * 128 + l.val, by have := g.isLt; have := l.isLt; omega⟩ : Fin 384) 0) := by
  have h : ∀ (o : ℕ) (hs : S384x1.Slices ![o, 0] S128x1) (ho : o + 128 ≤ 384),
      shapeCast S1x1x1x128 (turn (extractStridedSlice S128x1 ![o, 0] s hs)) shapeCasts_S1x128_S1x1x1x128 (ix4 (0 : Fin 1) (0 : Fin 1) (0 : Fin 1) l)
        = s (ix2 (⟨o + l.val, by have := l.isLt; omega⟩ : Fin 384) 0) := fun o hs ho => by
    rw [cast_row, turn_apply]
    exact slice2_axis0_apply o s hs l 0 _ rfl
  unfold rows rowsOf
  match g with
  | ⟨0, _⟩ => exact (h 0 slices_S384x1_o0_0_S128x1 (by omega)).trans (congrArg (fun k => s (ix2 k 0)) (Fin.ext (by show 0 + l.val = 0 * 128 + l.val; omega)))
  | ⟨1, _⟩ => exact (h 128 slices_S384x1_o128_0_S128x1 (by omega)).trans (congrArg (fun k => s (ix2 k 0)) (Fin.ext (by show 128 + l.val = 1 * 128 + l.val; omega)))
  | ⟨2, _⟩ => exact (h 256 slices_S384x1_o256_0_S128x1 (by omega)).trans (congrArg (fun k => s (ix2 k 0)) (Fin.ext (by show 256 + l.val = 2 * 128 + l.val; omega)))

end K

/-! ## Arrays with the heads first -/

/-- A batch of products, `[B, M, K]` by `[B, K, N]`, read at an index. -/
theorem heads_matmul_apply {B M K N : ℕ} {φ₁ φ₂ : FTy} (D : DotDims ⟨3, ![B, M, K]⟩ ⟨3, ![B, K, N]⟩ ⟨3, ![B, M, N]⟩) (hr : D.contr.rank = 1)
    (hs : D.contr.size ⟨0, by omega⟩ = K) (prec : Option ContractPrecision) (x : FVec Ideal ⟨3, ![B, M, K]⟩ φ₁) (w : FVec Ideal ⟨3, ![B, K, N]⟩ φ₂)
    (acc : FVec Ideal ⟨3, ![B, M, N]⟩ .f32) (h : Fin B) (r : Fin M) (c : Fin N)
    (el : ∀ (q : D.contr.Idx) (k : Fin K), (q ⟨0, by omega⟩).val = k.val → D.lhsIdx (ix3 h r c) q = ix3 h r k)
    (er : ∀ (q : D.contr.Idx) (k : Fin K), (q ⟨0, by omega⟩).val = k.val → D.rhsIdx (ix3 h r c) q = ix3 h k c) :
    FloatOps.matmul D prec x w acc (ix3 h r c) = acc (ix3 h r c) + ∑ k : Fin K, x (ix3 h r k) * w (ix3 h k c) := by
  rw [Ideal.matmul_apply, ← Equiv.sum_comp (contrEquiv1 D K hr hs).symm]
  refine congrArg (acc (ix3 h r c) + ·) (Finset.sum_congr rfl fun k _ => ?_)
  have hk := contrEquiv1_symm_val D K hr hs k
  rw [el _ k hk, er _ k hk]

/-- One matrix broadcast over the heads. -/
theorem bheads_apply {α : Type} {B a b : ℕ} (v : (⟨3, ![1, a, b]⟩ : Shape).Idx → α) (h : (⟨3, ![1, a, b]⟩ : Shape).Broadcasts ⟨3, ![B, a, b]⟩)
    (p : Fin B) (r : Fin a) (c : Fin b) : broadcastTo ⟨3, ![B, a, b]⟩ v h (ix3 p r c) = v (ix3 (0 : Fin 1) r c) := by
  refine broadcastTo_apply v h (ix3 p r c) (ix3 (0 : Fin 1) r c) fun ax => ?_
  match ax with
  | ⟨0, _⟩ => rfl
  | ⟨1, _⟩ =>
    show r.val = if a = 1 then 0 else r.val
    split
    · have := r.isLt; omega
    · rfl
  | ⟨2, _⟩ =>
    show c.val = if b = 1 then 0 else c.val
    split
    · have := c.isLt; omega
    · rfl

/-- One column broadcast over the heads and the lanes. -/
theorem bcols_apply {α : Type} {B a b : ℕ} (v : (⟨3, ![1, a, 1]⟩ : Shape).Idx → α) (h : (⟨3, ![1, a, 1]⟩ : Shape).Broadcasts ⟨3, ![B, a, b]⟩)
    (p : Fin B) (r : Fin a) (c : Fin b) : broadcastTo ⟨3, ![B, a, b]⟩ v h (ix3 p r c) = v (ix3 (0 : Fin 1) r (0 : Fin 1)) := by
  refine broadcastTo_apply v h (ix3 p r c) (ix3 (0 : Fin 1) r (0 : Fin 1)) fun ax => ?_
  match ax with
  | ⟨0, _⟩ => rfl
  | ⟨1, _⟩ =>
    show r.val = if a = 1 then 0 else r.val
    split
    · have := r.isLt; omega
    · rfl
  | ⟨2, _⟩ => rfl

/-- Each head's row broadcast over the rows. -/
theorem brows_apply {α : Type} {B a b : ℕ} (v : (⟨3, ![B, 1, b]⟩ : Shape).Idx → α) (h : (⟨3, ![B, 1, b]⟩ : Shape).Broadcasts ⟨3, ![B, a, b]⟩)
    (p : Fin B) (r : Fin a) (c : Fin b) : broadcastTo ⟨3, ![B, a, b]⟩ v h (ix3 p r c) = v (ix3 p (0 : Fin 1) c) := by
  refine broadcastTo_apply v h (ix3 p r c) (ix3 p (0 : Fin 1) c) fun ax => ?_
  match ax with
  | ⟨0, _⟩ =>
    show p.val = if B = 1 then 0 else p.val
    split
    · have := p.isLt; omega
    · rfl
  | ⟨1, _⟩ => rfl
  | ⟨2, _⟩ =>
    show c.val = if b = 1 then 0 else c.val
    split
    · have := c.isLt; omega
    · rfl

/-- Each head's column broadcast over the lanes. -/
theorem bscales_apply {α : Type} {B a b : ℕ} (v : (⟨3, ![B, a, 1]⟩ : Shape).Idx → α) (h : (⟨3, ![B, a, 1]⟩ : Shape).Broadcasts ⟨3, ![B, a, b]⟩)
    (p : Fin B) (r : Fin a) (c : Fin b) : broadcastTo ⟨3, ![B, a, b]⟩ v h (ix3 p r c) = v (ix3 p r (0 : Fin 1)) := by
  refine broadcastTo_apply v h (ix3 p r c) (ix3 p r (0 : Fin 1)) fun ax => ?_
  match ax with
  | ⟨0, _⟩ =>
    show p.val = if B = 1 then 0 else p.val
    split
    · have := p.isLt; omega
    · rfl
  | ⟨1, _⟩ =>
    show r.val = if a = 1 then 0 else r.val
    split
    · have := r.isLt; omega
    · rfl
  | ⟨2, _⟩ => rfl

/-- The largest magnitude of a head's row. -/
theorem headAmax_apply {B n k : ℕ} (v : FVec Ideal ⟨3, ![B, n, k]⟩ .f32) (h : (⟨3, ![B, n, k]⟩ : Shape).Reduces [2] ⟨2, ![B, n]⟩)
    (hφ : FKind.Formats .f32) (hacc : (0xFF800000#32 : BitVec 32) = FKind.maximumf.neutral .f32 hφ) (p : Fin B) (r : Fin n) :
    multiReduction .maximumf [2] ⟨2, ![B, n]⟩ (absf v) 0xFF800000#32 h hφ hacc (ix2 p r) = amax fun c => v (ix3 p r c) := by
  rw [Ideal.multiReduction_maximumf_single]
  refine congrArg (Finset.fold max (Ideal.ofBits .f32 0xFF800000#32) · Finset.univ) (funext fun c => ?_)
  refine congrArg (absf v) (funext fun a => ?_)
  match a with
  | ⟨0, _⟩ => exact Fin.ext rfl
  | ⟨1, _⟩ => exact Fin.ext rfl
  | ⟨2, _⟩ => exact Fin.ext rfl

/-- A trailing unit axis added. -/
theorem shapeCast_ab_ab1_apply {α : Type} {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

namespace R
open Cert.QkvRefIdeal Cert.QkvRefIdeal.Gen

section
variable (x : Vec Ideal S1536x4096 .fp8e4m3) (xs : Vec Ideal S1536x1 .f32)

theorem q_row (W : Vec Ideal S8x4096x256 .fp8e4m3) (s : Vec Ideal S8x1x256 .f32) (h : Fin 8) (r : Fin 1536) (e : Fin 256) :
    k0_pay5 (F := Ideal) x xs W s (ix3 h r e) = proj (fun k => x (ix2 r k)) (fun k => W (ix3 h k e)) (xs (ix2 r 0)) (s (ix3 h 0 e)) := by
  unfold k0_pay5 proj
  simp -implicitDefEqProofs only [mulf_apply, bcols_apply, brows_apply, shapeCast_ab_1ab_apply]
  refine congrArg (fun q => q * xs (ix2 r 0) * s (ix3 h 0 e)) ?_
  refine (heads_matmul_apply dot_S8x1536x4096_S8x4096x256_S8x1536x256_2_1_1_2_0_0 rfl rfl none _ _ _ h r e
    (fun q k hq => funext fun a => Fin.ext ?_) (fun q k hq => funext fun a => Fin.ext ?_)).trans ?_
  · match a with
    | ⟨0, _⟩ => rfl
    | ⟨1, _⟩ => rfl
    | ⟨2, _⟩ => exact hq
  · match a with
    | ⟨0, _⟩ => rfl
    | ⟨1, _⟩ => exact hq
    | ⟨2, _⟩ => rfl
  simp -implicitDefEqProofs only [constant_apply, Ideal.ofBits_zero_f32, zero_add, bheads_apply, shapeCast_self, shapeCast_ab_1ab_apply]

theorem v_row (W : Vec Ideal S8x4096x512 .fp8e4m3) (s : Vec Ideal S8x1x512 .f32) (h : Fin 8) (r : Fin 1536) (e : Fin 512) :
    k0_pay1 (F := Ideal) xs W s (k0_pay13 x) (ix3 h r e)
      = proj (fun k => x (ix2 r k)) (fun k => W (ix3 h k e)) (xs (ix2 r 0)) (s (ix3 h 0 e)) := by
  unfold k0_pay1 k0_pay13 proj
  simp -implicitDefEqProofs only [mulf_apply, bcols_apply, brows_apply, shapeCast_ab_1ab_apply]
  refine congrArg (fun q => q * xs (ix2 r 0) * s (ix3 h 0 e)) ?_
  refine (heads_matmul_apply dot_S8x1536x4096_S8x4096x512_S8x1536x512_2_1_1_2_0_0 rfl rfl none _ _ _ h r e
    (fun q k hq => funext fun a => Fin.ext ?_) (fun q k hq => funext fun a => Fin.ext ?_)).trans ?_
  · match a with
    | ⟨0, _⟩ => rfl
    | ⟨1, _⟩ => rfl
    | ⟨2, _⟩ => exact hq
  · match a with
    | ⟨0, _⟩ => rfl
    | ⟨1, _⟩ => exact hq
    | ⟨2, _⟩ => rfl
  simp -implicitDefEqProofs only [constant_apply, Ideal.ofBits_zero_f32, zero_add, bheads_apply, shapeCast_self, shapeCast_ab_1ab_apply]

theorem qScale_row (W : Vec Ideal S8x4096x256 .fp8e4m3) (s : Vec Ideal S8x1x256 .f32) (h : Fin 8) (r : Fin 1536) :
    k0_pay6 (F := Ideal) x xs W s (ix2 h r)
      = scale (amax fun e : Fin 256 => proj (fun k => x (ix2 r k)) (fun k => W (ix3 h k e)) (xs (ix2 r 0)) (s (ix3 h 0 e))) := by
  unfold k0_pay6
  simp -implicitDefEqProofs only [select_apply, cmpf_apply, divf_apply, broadcast_apply]
  exact congrArg scale ((headAmax_apply (k0_pay5 (F := Ideal) x xs W s) _ _ _ h r).trans (congrArg amax (funext fun e => q_row x xs W s h r e)))

theorem vScale_row (W : Vec Ideal S8x4096x512 .fp8e4m3) (s : Vec Ideal S8x1x512 .f32) (h : Fin 8) (r : Fin 1536) :
    k0_pay2 (F := Ideal) xs W s (k0_pay13 x) (ix2 h r)
      = scale (amax fun e : Fin 512 => proj (fun k => x (ix2 r k)) (fun k => W (ix3 h k e)) (xs (ix2 r 0)) (s (ix3 h 0 e))) := by
  unfold k0_pay2
  simp -implicitDefEqProofs only [select_apply, cmpf_apply, divf_apply, broadcast_apply]
  exact congrArg scale ((headAmax_apply (k0_pay1 (F := Ideal) xs W s (k0_pay13 x)) _ _ _ h r).trans
    (congrArg amax (funext fun e => v_row x xs W s h r e)))

theorem qCodes_row (W : Vec Ideal S8x4096x256 .fp8e4m3) (s : Vec Ideal S8x1x256 .f32) (h : Fin 8) (r : Fin 1536) (e : Fin 256) :
    k0_pay7 (F := Ideal) x xs W s (ix3 h r e)
      = code (scale (amax fun e : Fin 256 => proj (fun k => x (ix2 r k)) (fun k => W (ix3 h k e)) (xs (ix2 r 0)) (s (ix3 h 0 e))))
          (proj (fun k => x (ix2 r k)) (fun k => W (ix3 h k e)) (xs (ix2 r 0)) (s (ix3 h 0 e))) := by
  unfold k0_pay7 code
  simp -implicitDefEqProofs only [truncf_apply, minimumf_apply, maximumf_apply, divf_apply, broadcast_apply, bscales_apply, shapeCast_ab_ab1_apply,
    qScale_row, q_row]

theorem vCodes_row (W : Vec Ideal S8x4096x512 .fp8e4m3) (s : Vec Ideal S8x1x512 .f32) (h : Fin 8) (r : Fin 1536) (e : Fin 512) :
    k0_pay3 (F := Ideal) xs W s (k0_pay13 x) (ix3 h r e)
      = code (scale (amax fun e : Fin 512 => proj (fun k => x (ix2 r k)) (fun k => W (ix3 h k e)) (xs (ix2 r 0)) (s (ix3 h 0 e))))
          (proj (fun k => x (ix2 r k)) (fun k => W (ix3 h k e)) (xs (ix2 r 0)) (s (ix3 h 0 e))) := by
  unfold k0_pay3 code
  simp -implicitDefEqProofs only [truncf_apply, minimumf_apply, maximumf_apply, divf_apply, broadcast_apply, bscales_apply, shapeCast_ab_ab1_apply,
    vScale_row, v_row]

end

/-- A row of the array by its batch row, its row of scales and its lane. -/
def rowOf (c : Fin 4) (g : Fin 3) (l : Fin 128) : Fin 1536 :=
  ⟨c.val * 384 + (g.val * 128 + l.val), by have := c.isLt; have := g.isLt; have := l.isLt; omega⟩

/-- The scales, one row for 128 rows of the array. -/
theorem split_apply (v : FVec Ideal S8x1536 .f32) (hc : S8x1536.ShapeCasts S8x4x3x128) (h : Fin 8) (c : Fin 4) (g : Fin 3) (l : Fin 128) :
    shapeCast S8x4x3x128 v hc (ix4 h c g l) = v (ix2 h (rowOf c g l)) :=
  shapeCast_apply v hc _ _ (by
    rw [Shape.rowMajor_val_four, Shape.rowMajor_val_two]
    show h.val * 1536 + (c.val * 384 + (g.val * 128 + l.val)) = ((h.val * 4 + c.val) * 3 + g.val) * 128 + l.val
    omega)

/-- The block of scales of q and k. -/
theorem qSplit_row (x : Vec Ideal S1536x4096 .fp8e4m3) (xs : Vec Ideal S1536x1 .f32) (W : Vec Ideal S8x4096x256 .fp8e4m3) (s : Vec Ideal S8x1x256 .f32)
    (h : Fin 8) (c : Fin 4) (g : Fin 3) (l : Fin 128) :
    k0_pay8 (F := Ideal) x xs W s (ix4 h c g l)
      = scale (amax fun e : Fin 256 => proj (fun k => x (ix2 (rowOf c g l) k)) (fun k => W (ix3 h k e)) (xs (ix2 (rowOf c g l) 0)) (s (ix3 h 0 e))) := by
  unfold k0_pay8
  rw [split_apply, qScale_row]

/-- The block of scales of v. -/
theorem vSplit_row (x : Vec Ideal S1536x4096 .fp8e4m3) (xs : Vec Ideal S1536x1 .f32) (W : Vec Ideal S8x4096x512 .fp8e4m3) (s : Vec Ideal S8x1x512 .f32)
    (h : Fin 8) (c : Fin 4) (g : Fin 3) (l : Fin 128) :
    k0_pay4 (F := Ideal) xs W s (k0_pay13 x) (ix4 h c g l)
      = scale (amax fun e : Fin 512 => proj (fun k => x (ix2 (rowOf c g l) k)) (fun k => W (ix3 h k e)) (xs (ix2 (rowOf c g l) 0)) (s (ix3 h 0 e))) := by
  unfold k0_pay4
  rw [split_apply, vScale_row]

end R

end Cert.Proof.QkvRows

end
-- ==== Proof.QkvIn.lean ====
/-
  Hand-written, untrusted. The blocks of the projections: where each lies in its array, and what a point finds in the blocks of
  the arguments.
-/
module

public import proofs.«01_k».proof.Proof.QkvData
public import proofs.«01_k».proof.Proof.QkvRows

@[expose] public section

set_option maxRecDepth 16384

noncomputable section

namespace Cert.Proof.QkvIn

open Cert.QkvIdeal Cert.QkvIdeal.Gen Cert.QkvIdeal.Hand
open Idealize.ShloMosaic Idealize.ShloMosaic.TcCoe Idealize.ShloMosaic.ValueIdx
open Idealize.ShloMosaic.Pipeline (RDat Cfg Window)

variable (m : (ℓ : Loc nD τ sig) → Buf (Elt Ideal) ℓ)

/-! Point `t` is batch row `t % 4` of head `t / 4`: the blocks it stages, by axis. -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 4 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val / 4 ∧ win0_4.index t (1 : Fin 3) = 0 ∧ win0_4.index t (2 : Fin 3) = 0 :=
  (by decide +kernel : ∀ t : Fin grid0.N, _)
theorem idx6 : ∀ t : Fin cfg0.N, win0_6.index t (0 : Fin 3) = t.val / 4 ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val / 4 ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val / 4 ∧ win0_8.index t (1 : Fin 3) = 0 ∧ win0_8.index t (2 : Fin 3) = 0 :=
  (by decide +kernel : ∀ t : Fin grid0.N, _)
theorem idx19 : ∀ t : Fin cfg0.N, win0_19.index t (0 : Fin 3) = t.val / 4 ∧ win0_19.index t (1 : Fin 3) = t.val % 4 ∧ win0_19.index t (2 : Fin 3) = 0 :=
  (by decide +kernel : ∀ t : Fin grid0.N, _)
theorem idx21 : ∀ t : Fin cfg0.N, win0_21.index t (0 : Fin 3) = t.val / 4 ∧ win0_21.index t (1 : Fin 3) = t.val % 4 ∧ win0_21.index t (2 : Fin 3) = 0 :=
  (by decide +kernel : ∀ t : Fin grid0.N, _)
theorem idx23 : ∀ t : Fin cfg0.N, win0_23.index t (0 : Fin 3) = t.val / 4 ∧ win0_23.index t (1 : Fin 3) = t.val % 4 ∧ win0_23.index t (2 : Fin 3) = 0 :=
  (by decide +kernel : ∀ t : Fin grid0.N, _)
theorem idx20 : ∀ t : Fin cfg0.N, win0_20.index t (0 : Fin 4) = t.val / 4 ∧ win0_20.index t (1 : Fin 4) = t.val % 4 ∧ win0_20.index t (2 : Fin 4) = 0 ∧ win0_20.index t (3 : Fin 4) = 0 :=
  (by decide +kernel : ∀ t : Fin grid0.N, _)
theorem idx22 : ∀ t : Fin cfg0.N, win0_22.index t (0 : Fin 4) = t.val / 4 ∧ win0_22.index t (1 : Fin 4) = t.val % 4 ∧ win0_22.index t (2 : Fin 4) = 0 ∧ win0_22.index t (3 : Fin 4) = 0 :=
  (by decide +kernel : ∀ t : Fin grid0.N, _)
theorem idx24 : ∀ t : Fin cfg0.N, win0_24.index t (0 : Fin 4) = t.val / 4 ∧ win0_24.index t (1 : Fin 4) = t.val % 4 ∧ win0_24.index t (2 : Fin 4) = 0 ∧ win0_24.index t (3 : Fin 4) = 0 :=
  (by decide +kernel : ∀ t : Fin grid0.N, _)

/-- The rows a point reads of the whole array of codes start at its batch row's first. -/
theorem off : ∀ t : Fin cfg0.N, k0_off1 (grid0.coords t) (0 : Fin 2) = t.val % 4 * 384 ∧ k0_off1 (grid0.coords t) (1 : Fin 2) = 0 :=
  (by decide +kernel : ∀ t : Fin grid0.N, _)

/-- A point's head. -/
def head (t : Fin cfg0.N) : Fin 8 := ⟨t.val / 4, by have h : t.val < 32 := t.isLt; omega⟩

/-- A point's batch row: 384 rows of the array. -/
def batch (t : Fin cfg0.N) : Fin 4 := ⟨t.val % 4, by omega⟩

/-- Row `r` of the point's batch row, in the array. -/
def row (t : Fin cfg0.N) (r : Fin 384) : Fin 1536 := ⟨t.val % 4 * 384 + r.val, by have := r.isLt; omega⟩

abbrev a0 (c : Dev nD) : Vec Ideal S1536x4096 .fp8e4m3 := m ((c : Thread nD τ).loc main_arg0)
abbrev a1 (c : Dev nD) : Vec Ideal S1536x1 .f32 := m ((c : Thread nD τ).loc main_arg1)
abbrev a2 (c : Dev nD) : Vec Ideal S8x4096x256 .fp8e4m3 := m ((c : Thread nD τ).loc main_arg2)
abbrev a3 (c : Dev nD) : Vec Ideal S8x4096x256 .fp8e4m3 := m ((c : Thread nD τ).loc main_arg3)
abbrev a4 (c : Dev nD) : Vec Ideal S8x4096x512 .fp8e4m3 := m ((c : Thread nD τ).loc main_arg4)
abbrev a6 (c : Dev nD) : Vec Ideal S8x1x256 .f32 := m ((c : Thread nD τ).loc main_arg6)
abbrev a7 (c : Dev nD) : Vec Ideal S8x1x256 .f32 := m ((c : Thread nD τ).loc main_arg7)
abbrev a8 (c : Dev nD) : Vec Ideal S8x1x512 .f32 := m ((c : Thread nD τ).loc main_arg8)

variable (sp : (c : Dev nD) → Says Ideal) (c : Dev nD)

/-- An argument's block, found by any point, holds the array's elements. -/
theorem found (w : Fin cfg0.W) (hw : (cfg0.win w).isOut = false)
    (hclip : ∀ t t' : Fin cfg0.N, (cfg0.win w).index t = (cfg0.win w).index t' → (cfg0.win w).clip (cfg0.grid.coords t) = (cfg0.win w).clip (cfg0.grid.coords t'))
    (hkeep : ∀ t Y X, (rdat m sp c).after w t Y X → X = Y)
    (t : Fin cfg0.N) (Y : (cfg0.win w).block.Idx → Elt Ideal (cfg0.win w).elt) (hY : (rdat m sp c).Finds w t Y)
    (y : ((cfg0.win w).xblock (cfg0.grid.coords t)).Idx) :
    Y ((cfg0.win w).xinj (cfg0.grid.coords t) y) = ((cfg0.win w).blk t).view.read (Elt Ideal) (V m c (Pipeline.arrRef spec0 w)) y := by
  obtain ⟨d, rfl⟩ := RDat.finds_in_eq_fetched (rdat m sp c) w hw hclip hkeep t Y hY
  unfold RDat.fetched
  rw [Window.fill_xinj]
  unfold RDat.blockOf
  rw [A_eq]

theorem in0 (t : Fin cfg0.N) (Y : Vec Ideal S1536x4096 .fp8e4m3) (hY : (rdat m sp c).Finds 0 t Y) (r : Fin 384) (k : Fin 4096) :
    xRows (grid0.coords t) Y (ix2 r k) = a0 m c (ix2 (row t r) k) := by
  obtain ⟨e0, e1⟩ := idx0 t
  obtain ⟨o0, o1⟩ := off t
  have hx : xRows (grid0.coords t) Y (ix2 r k) = Y (ix2 (row t r) k) := congrArg Y (funext fun a => Fin.ext <| match a with
    | ⟨0, _⟩ => by show k0_off1 (grid0.coords t) (0 : Fin 2) + 1 * r.val = t.val % 4 * 384 + r.val; omega
    | ⟨1, _⟩ => by show k0_off1 (grid0.coords t) (1 : Fin 2) + 1 * k.val = k.val; omega)
  refine hx.trans ((found m sp c 0 rfl (fun _ _ _ => rfl) (fun _ _ _ h => h) t Y hY (ix2 (row t r) k)).trans ?_)
  show V m c main_arg0 (((cfg0.win 0).blk t).view.emb (ix2 (row t r) k)) = _
  rw [V_main_arg0]
  refine congrArg _ (funext fun a => Fin.ext ?_)
  match a with
  | ⟨0, _⟩ => show win0_0.index t (0 : Fin 2) * 1536 + 1 * (row t r).val = (row t r).val; omega
  | ⟨1, _⟩ => show win0_0.index t (1 : Fin 2) * 4096 + 1 * k.val = k.val; omega

theorem in1 (t : Fin cfg0.N) (Y : Vec Ideal S384x1 .f32) (hY : (rdat m sp c).Finds 1 t Y) (r : Fin 384) :
    Y (ix2 r 0) = a1 m c (ix2 (row t r) 0) := by
  obtain ⟨e0, e1⟩ := idx1 t
  refine (found m sp c 1 rfl (fun _ _ _ => rfl) (fun _ _ _ h => h) t Y hY (ix2 r 0)).trans ?_
  show V m c main_arg1 (((cfg0.win 1).blk t).view.emb (ix2 r 0)) = _
  rw [V_main_arg1]
  refine congrArg _ (funext fun a => Fin.ext ?_)
  match a with
  | ⟨0, _⟩ => show win0_1.index t (0 : Fin 2) * 384 + 1 * r.val = t.val % 4 * 384 + r.val; omega
  | ⟨1, _⟩ => show win0_1.index t (1 : Fin 2) * 1 + 1 * 0 = 0; omega

theorem in2 (t : Fin cfg0.N) (Y : Vec Ideal S1x4096x256 .fp8e4m3) (hY : (rdat m sp c).Finds 2 t Y) (k : Fin 4096) (e : Fin 256) :
    Y (ix3 0 k e) = a2 m c (ix3 (head t) k e) := by
  obtain ⟨e0, e1, e2⟩ := idx2 t
  refine (found m sp c 2 rfl (fun _ _ _ => rfl) (fun _ _ _ h => h) t Y hY (ix3 0 k e)).trans ?_
  show V m c main_arg2 (((cfg0.win 2).blk t).view.emb (ix3 0 k e)) = _
  rw [V_main_arg2]
  refine congrArg _ (funext fun a => Fin.ext ?_)
  match a with
  | ⟨0, _⟩ => show win0_2.index t (0 : Fin 3) * 1 + 1 * 0 = t.val / 4; omega
  | ⟨1, _⟩ => show win0_2.index t (1 : Fin 3) * 4096 + 1 * k.val = k.val; omega
  | ⟨2, _⟩ => show win0_2.index t (2 : Fin 3) * 256 + 1 * e.val = e.val; omega

theorem in3 (t : Fin cfg0.N) (Y : Vec Ideal S1x4096x256 .fp8e4m3) (hY : (rdat m sp c).Finds 3 t Y) (k : Fin 4096) (e : Fin 256) :
    Y (ix3 0 k e) = a3 m c (ix3 (head t) k e) := by
  obtain ⟨e0, e1, e2⟩ := idx3 t
  refine (found m sp c 3 rfl (fun _ _ _ => rfl) (fun _ _ _ h => h) t Y hY (ix3 0 k e)).trans ?_
  show V m c main_arg3 (((cfg0.win 3).blk t).view.emb (ix3 0 k e)) = _
  rw [V_main_arg3]
  refine congrArg _ (funext fun a => Fin.ext ?_)
  match a with
  | ⟨0, _⟩ => show win0_3.index t (0 : Fin 3) * 1 + 1 * 0 = t.val / 4; omega
  | ⟨1, _⟩ => show win0_3.index t (1 : Fin 3) * 4096 + 1 * k.val = k.val; omega
  | ⟨2, _⟩ => show win0_3.index t (2 : Fin 3) * 256 + 1 * e.val = e.val; omega

theorem in4 (t : Fin cfg0.N) (Y : Vec Ideal S1x4096x512 .fp8e4m3) (hY : (rdat m sp c).Finds 4 t Y) (k : Fin 4096) (e : Fin 512) :
    Y (ix3 0 k e) = a4 m c (ix3 (head t) k e) := by
  obtain ⟨e0, e1, e2⟩ := idx4 t
  refine (found m sp c 4 rfl (fun _ _ _ => rfl) (fun _ _ _ h => h) t Y hY (ix3 0 k e)).trans ?_
  show V m c main_arg4 (((cfg0.win 4).blk t).view.emb (ix3 0 k e)) = _
  rw [V_main_arg4]
  refine congrArg _ (funext fun a => Fin.ext ?_)
  match a with
  | ⟨0, _⟩ => show win0_4.index t (0 : Fin 3) * 1 + 1 * 0 = t.val / 4; omega
  | ⟨1, _⟩ => show win0_4.index t (1 : Fin 3) * 4096 + 1 * k.val = k.val; omega
  | ⟨2, _⟩ => show win0_4.index t (2 : Fin 3) * 512 + 1 * e.val = e.val; omega

theorem in6 (t : Fin cfg0.N) (Y : Vec Ideal S1x1x256 .f32) (hY : (rdat m sp c).Finds 6 t Y) (e : Fin 256) :
    Y (ix3 0 0 e) = a6 m c (ix3 (head t) 0 e) := by
  obtain ⟨e0, e1, e2⟩ := idx6 t
  refine (found m sp c 6 rfl (fun _ _ _ => rfl) (fun _ _ _ h => h) t Y hY (ix3 0 0 e)).trans ?_
  show V m c main_arg6 (((cfg0.win 6).blk t).view.emb (ix3 0 0 e)) = _
  rw [V_main_arg6]
  refine congrArg _ (funext fun a => Fin.ext ?_)
  match a with
  | ⟨0, _⟩ => show win0_6.index t (0 : Fin 3) * 1 + 1 * 0 = t.val / 4; omega
  | ⟨1, _⟩ => show win0_6.index t (1 : Fin 3) * 1 + 1 * 0 = 0; omega
  | ⟨2, _⟩ => show win0_6.index t (2 : Fin 3) * 256 + 1 * e.val = e.val; omega

theorem in7 (t : Fin cfg0.N) (Y : Vec Ideal S1x1x256 .f32) (hY : (rdat m sp c).Finds 7 t Y) (e : Fin 256) :
    Y (ix3 0 0 e) = a7 m c (ix3 (head t) 0 e) := by
  obtain ⟨e0, e1, e2⟩ := idx7 t
  refine (found m sp c 7 rfl (fun _ _ _ => rfl) (fun _ _ _ h => h) t Y hY (ix3 0 0 e)).trans ?_
  show V m c main_arg7 (((cfg0.win 7).blk t).view.emb (ix3 0 0 e)) = _
  rw [V_main_arg7]
  refine congrArg _ (funext fun a => Fin.ext ?_)
  match a with
  | ⟨0, _⟩ => show win0_7.index t (0 : Fin 3) * 1 + 1 * 0 = t.val / 4; omega
  | ⟨1, _⟩ => show win0_7.index t (1 : Fin 3) * 1 + 1 * 0 = 0; omega
  | ⟨2, _⟩ => show win0_7.index t (2 : Fin 3) * 256 + 1 * e.val = e.val; omega

theorem in8 (t : Fin cfg0.N) (Y : Vec Ideal S1x1x512 .f32) (hY : (rdat m sp c).Finds 8 t Y) (e : Fin 512) :
    Y (ix3 0 0 e) = a8 m c (ix3 (head t) 0 e) := by
  obtain ⟨e0, e1, e2⟩ := idx8 t
  refine (found m sp c 8 rfl (fun _ _ _ => rfl) (fun _ _ _ h => h) t Y hY (ix3 0 0 e)).trans ?_
  show V m c main_arg8 (((cfg0.win 8).blk t).view.emb (ix3 0 0 e)) = _
  rw [V_main_arg8]
  refine congrArg _ (funext fun a => Fin.ext ?_)
  match a with
  | ⟨0, _⟩ => show win0_8.index t (0 : Fin 3) * 1 + 1 * 0 = t.val / 4; omega
  | ⟨1, _⟩ => show win0_8.index t (1 : Fin 3) * 1 + 1 * 0 = 0; omega
  | ⟨2, _⟩ => show win0_8.index t (2 : Fin 3) * 512 + 1 * e.val = e.val; omega

end Cert.Proof.QkvIn

end
-- ==== Proof.QkvAlg.lean ====
/-
  Hand-written, untrusted. The algebraic claim of the projections: every block a point writes back holds the reference's values,
  every element lies in such a block, and the reference's run writes exactly those.
-/
module

public import proofs.«01_k».proof.Defs
public import proofs.«01_k».proof.Proof.QkvIn
public import proofs.«01_k».proof.Proof.Gen.QkvRefIdeal.Value

@[expose] public section

set_option maxRecDepth 16384

noncomputable section

namespace Cert.Proof.QkvAlg

open Cert.QkvIdeal Cert.QkvIdeal.Gen Cert.QkvIdeal.Hand Cert.Proof.QkvIn Cert.Proof.Rows
open Idealize.ShloMosaic Idealize.ShloMosaic.TcCoe Idealize.ShloMosaic.ValueIdx Idealize.SL.Sem
open Idealize.ShloMosaic.Pipeline (RDat Cfg Window Dat)

variable (m : (ℓ : Loc nD τ sig) → Buf (Elt Ideal) ℓ) (c : Dev nD)

/-! ## The reference's arrays -/

/-- A head's projection of a row. -/
def vals {n : ℕ} (W : (⟨3, ![8, 4096, n]⟩ : Shape).Idx → EReal) (s : (⟨3, ![8, 1, n]⟩ : Shape).Idx → EReal) (h : Fin 8) (r : Fin 1536) (e : Fin n) : EReal :=
  QkvRows.proj (fun k => a0 m c (ix2 r k)) (fun k => W (ix3 h k e)) (a1 m c (ix2 r 0)) (s (ix3 h 0 e))

/-- Its scale. -/
def sc {n : ℕ} (W : (⟨3, ![8, 4096, n]⟩ : Shape).Idx → EReal) (s : (⟨3, ![8, 1, n]⟩ : Shape).Idx → EReal) (h : Fin 8) (r : Fin 1536) : EReal :=
  scale (amax fun e : Fin n => vals m c W s h r e)

abbrev G8 (c : Dev nD) : Vec Ideal S8x1536x256 .fp8e4m3 := Cert.QkvRefIdeal.Value.G8 (a0 m c) (a1 m c) (a2 m c) (a3 m c) (a4 m c) (a6 m c) (a7 m c) (a8 m c)
abbrev G9 (c : Dev nD) : Vec Ideal S8x4x3x128 .f32 := Cert.QkvRefIdeal.Value.G9 (a0 m c) (a1 m c) (a2 m c) (a3 m c) (a4 m c) (a6 m c) (a7 m c) (a8 m c)
abbrev G10 (c : Dev nD) : Vec Ideal S8x1536x256 .fp8e4m3 := Cert.QkvRefIdeal.Value.G10 (a0 m c) (a1 m c) (a2 m c) (a3 m c) (a4 m c) (a6 m c) (a7 m c) (a8 m c)
abbrev G11 (c : Dev nD) : Vec Ideal S8x4x3x128 .f32 := Cert.QkvRefIdeal.Value.G11 (a0 m c) (a1 m c) (a2 m c) (a3 m c) (a4 m c) (a6 m c) (a7 m c) (a8 m c)
abbrev G12 (c : Dev nD) : Vec Ideal S8x1536x512 .fp8e4m3 := Cert.QkvRefIdeal.Value.G12 (a0 m c) (a1 m c) (a2 m c) (a3 m c) (a4 m c) (a6 m c) (a7 m c) (a8 m c)
abbrev G13 (c : Dev nD) : Vec Ideal S8x4x3x128 .f32 := Cert.QkvRefIdeal.Value.G13 (a0 m c) (a1 m c) (a2 m c) (a3 m c) (a4 m c) (a6 m c) (a7 m c) (a8 m c)

theorem pay14 : Cert.QkvRefIdeal.Gen.k0_pay14 (F := Ideal) (a0 m c) (a1 m c) (a2 m c) (a3 m c) (a4 m c) (a6 m c) (a7 m c) (a8 m c) = Cert.QkvRefIdeal.Gen.k0_pay13 (F := Ideal) (a0 m c) :=
  congrArg Cert.QkvRefIdeal.Gen.k0_pay13 (View.ld_unit_zero (S := Cert.QkvRefIdeal.S1536x4096) Cert.QkvRefIdeal.Value.hz0 _ (a0 m c))

theorem G8_apply (h : Fin 8) (r : Fin 1536) (e : Fin 256) :
    G8 m c (ix3 h r e) = code (sc m c (a2 m c) (a6 m c) h r) (vals m c (a2 m c) (a6 m c) h r e) :=
  QkvRows.R.qCodes_row (a0 m c) (a1 m c) (a2 m c) (a6 m c) h r e
theorem G9_apply (h : Fin 8) (d : Fin 4) (g : Fin 3) (l : Fin 128) :
    G9 m c (ix4 h d g l) = sc m c (a2 m c) (a6 m c) h (QkvRows.R.rowOf d g l) :=
  QkvRows.R.qSplit_row (a0 m c) (a1 m c) (a2 m c) (a6 m c) h d g l
theorem G10_apply (h : Fin 8) (r : Fin 1536) (e : Fin 256) :
    G10 m c (ix3 h r e) = code (sc m c (a3 m c) (a7 m c) h r) (vals m c (a3 m c) (a7 m c) h r e) :=
  QkvRows.R.qCodes_row (a0 m c) (a1 m c) (a3 m c) (a7 m c) h r e
theorem G11_apply (h : Fin 8) (d : Fin 4) (g : Fin 3) (l : Fin 128) :
    G11 m c (ix4 h d g l) = sc m c (a3 m c) (a7 m c) h (QkvRows.R.rowOf d g l) :=
  QkvRows.R.qSplit_row (a0 m c) (a1 m c) (a3 m c) (a7 m c) h d g l
theorem G12_apply (h : Fin 8) (r : Fin 1536) (e : Fin 512) :
    G12 m c (ix3 h r e) = code (sc m c (a4 m c) (a8 m c) h r) (vals m c (a4 m c) (a8 m c) h r e) :=
  (congrArg (fun z => Cert.QkvRefIdeal.Gen.k0_pay3 (F := Ideal) (a1 m c) (a4 m c) (a8 m c) z (ix3 h r e)) (pay14 m c)).trans (QkvRows.R.vCodes_row (a0 m c) (a1 m c) (a4 m c) (a8 m c) h r e)
theorem G13_apply (h : Fin 8) (d : Fin 4) (g : Fin 3) (l : Fin 128) :
    G13 m c (ix4 h d g l) = sc m c (a4 m c) (a8 m c) h (QkvRows.R.rowOf d g l) :=
  (congrArg (fun z => Cert.QkvRefIdeal.Gen.k0_pay4 (F := Ideal) (a1 m c) (a4 m c) (a8 m c) z (ix4 h d g l)) (pay14 m c)).trans
    (QkvRows.R.vSplit_row (a0 m c) (a1 m c) (a4 m c) (a8 m c) h d g l)

/-! ## What the points leave -/

/-- The six blocks of a point hold the reference's values. -/
def said (c : Dev nD) : Says Ideal where
  P19 := fun t X => ∀ r e, X (ix3 0 r e) = code (sc m c (a2 m c) (a6 m c) (head t) (row t r)) (vals m c (a2 m c) (a6 m c) (head t) (row t r) e)
  P20 := fun t X => ∀ g l, X (ix4 0 0 g l) = sc m c (a2 m c) (a6 m c) (head t) (QkvRows.R.rowOf (batch t) g l)
  P21 := fun t X => ∀ r e, X (ix3 0 r e) = code (sc m c (a3 m c) (a7 m c) (head t) (row t r)) (vals m c (a3 m c) (a7 m c) (head t) (row t r) e)
  P22 := fun t X => ∀ g l, X (ix4 0 0 g l) = sc m c (a3 m c) (a7 m c) (head t) (QkvRows.R.rowOf (batch t) g l)
  P23 := fun t X => ∀ r e, X (ix3 0 r e) = code (sc m c (a4 m c) (a8 m c) (head t) (row t r)) (vals m c (a4 m c) (a8 m c) (head t) (row t r) e)
  P24 := fun t X => ∀ g l, X (ix4 0 0 g l) = sc m c (a4 m c) (a8 m c) (head t) (QkvRows.R.rowOf (batch t) g l)

/-- A head's projection of a row, from a point's blocks of the arguments. -/
theorem vals_of {n : ℕ} (W : (⟨3, ![8, 4096, n]⟩ : Shape).Idx → EReal) (s : (⟨3, ![8, 1, n]⟩ : Shape).Idx → EReal)
    (X : Vec Ideal S384x4096 .fp8e4m3) (xs : Vec Ideal S384x1 .f32) (w : (⟨3, ![1, 4096, n]⟩ : Shape).Idx → EReal)
    (ws : (⟨3, ![1, 1, n]⟩ : Shape).Idx → EReal) (h : Fin 8) (ρ : Fin 384 → Fin 1536) (hX : ∀ r k, X (ix2 r k) = a0 m c (ix2 (ρ r) k))
    (hxs : ∀ r, xs (ix2 r 0) = a1 m c (ix2 (ρ r) 0)) (hw : ∀ k e, w (ix3 0 k e) = W (ix3 h k e)) (hs : ∀ e, ws (ix3 0 0 e) = s (ix3 h 0 e))
    (r : Fin 384) (e : Fin n) :
    QkvRows.proj (fun k => X (ix2 r k)) (fun k => w (ix3 0 k e)) (xs (ix2 r 0)) (ws (ix3 0 0 e)) = vals m c W s h (ρ r) e := by
  unfold vals
  rw [hxs, hs, funext fun k => hX r k, funext fun k => hw k e]

theorem keeps : Keeps m (said m) := fun c t Y hY => by
  have Hq := fun r e => vals_of m c (a2 m c) (a6 m c) (xRows (grid0.coords t) (Y 0)) (Y 1) (Y 2) (Y 6) (head t) (fun r => row t r) (fun r k => in0 m (said m) c t (Y 0) (hY 0) r k)
    (fun r => in1 m (said m) c t (Y 1) (hY 1) r) (fun k e => in2 m (said m) c t (Y 2) (hY 2) k e) (fun e => in6 m (said m) c t (Y 6) (hY 6) e) r e
  have Hk := fun r e => vals_of m c (a3 m c) (a7 m c) (xRows (grid0.coords t) (Y 0)) (Y 1) (Y 3) (Y 7) (head t) (fun r => row t r) (fun r k => in0 m (said m) c t (Y 0) (hY 0) r k)
    (fun r => in1 m (said m) c t (Y 1) (hY 1) r) (fun k e => in3 m (said m) c t (Y 3) (hY 3) k e) (fun e => in7 m (said m) c t (Y 7) (hY 7) e) r e
  have Hv := fun r e => vals_of m c (a4 m c) (a8 m c) (xRows (grid0.coords t) (Y 0)) (Y 1) (Y 4) (Y 8) (head t) (fun r => row t r) (fun r k => in0 m (said m) c t (Y 0) (hY 0) r k)
    (fun r => in1 m (said m) c t (Y 1) (hY 1) r) (fun k e => in4 m (said m) c t (Y 4) (hY 4) k e) (fun e => in8 m (said m) c t (Y 8) (hY 8) e) r e
  exact ⟨fun r e => (QkvRows.K.qCodes_row _ (Y 1) (Y 2) (Y 6) 0 r e).trans
      (congrArg₂ code (congrArg (fun f => scale (amax f)) (funext fun e => Hq r e)) (Hq r e)),
    fun g l => (QkvRows.K.rows_apply _ 0 0 g l).trans ((QkvRows.K.qScale_row _ (Y 1) (Y 2) (Y 6) _ 0).trans
      (congrArg (fun f => scale (amax f)) (funext fun e => Hq _ e))),
    fun r e => (QkvRows.K.qCodes_row _ (Y 1) (Y 3) (Y 7) 0 r e).trans
      (congrArg₂ code (congrArg (fun f => scale (amax f)) (funext fun e => Hk r e)) (Hk r e)),
    fun g l => (QkvRows.K.rows_apply _ 0 0 g l).trans ((QkvRows.K.qScale_row _ (Y 1) (Y 3) (Y 7) _ 0).trans
      (congrArg (fun f => scale (amax f)) (funext fun e => Hk _ e))),
    fun r e => (QkvRows.K.vCodes_row _ (Y 1) (Y 4) (Y 8) 0 r e).trans
      (congrArg₂ code (congrArg (fun f => scale (amax f)) (funext fun e => Hv r e)) (Hv r e)),
    fun g l => (QkvRows.K.rows_apply _ 0 0 g l).trans ((QkvRows.K.vScale_row _ (Y 1) (Y 4) (Y 8) _ 0).trans
      (congrArg (fun f => scale (amax f)) (funext fun e => Hv _ e)))⟩

/-! ## The arrays after the run -/

/-- Contents of the result blocks, at every point, that a point may leave. -/
abbrev Left := (w : Fin cfg0.W) → Fin cfg0.N → (cfg0.win w).block.Idx → Elt Ideal (cfg0.win w).elt

theorem covers19 : (cfg0.win 19).Covers := (by decide +kernel : win0_19.Covers)
theorem covers20 : (cfg0.win 20).Covers := (by decide +kernel : win0_20.Covers)
theorem covers21 : (cfg0.win 21).Covers := (by decide +kernel : win0_21.Covers)
theorem covers22 : (cfg0.win 22).Covers := (by decide +kernel : win0_22.Covers)
theorem covers23 : (cfg0.win 23).Covers := (by decide +kernel : win0_23.Covers)
theorem covers24 : (cfg0.win 24).Covers := (by decide +kernel : win0_24.Covers)

theorem final19 (after : Left) (hL : ∀ u : Fin cfg0.N, (cfg0.win 19).flush u = true → (rdat m (said m) c).Leaves 19 u (after 19 u)) :
    ((rdat m (said m) c).withAfter after).arrAt 19 cfg0.N = G8 m c := by
  refine ((rdat m (said m) c).withAfter after).arrAt_eq_of_covers 19 (G8 m c) covers19 fun t hf y => ?_
  obtain ⟨Y, -, h⟩ := hL t hf
  have hP : (said m c).P19 t (after 19 t) := h
  obtain ⟨e0, e1, e2⟩ := idx19 t
  have y0 : (y 0).val = 0 := by have := (y 0).isLt; change _ < 1 at this; omega
  have he : ((cfg0.win 19).blk t).view.emb y = ix3 (head t) (row t (y 1)) (y 2) := funext fun a => Fin.ext <| match a with
    | ⟨0, _⟩ => by show win0_19.index t (0 : Fin 3) * 1 + 1 * (y 0).val = t.val / 4; omega
    | ⟨1, _⟩ => by show win0_19.index t (1 : Fin 3) * 384 + 1 * (y 1).val = t.val % 4 * 384 + (y 1).val; omega
    | ⟨2, _⟩ => by show win0_19.index t (2 : Fin 3) * 256 + 1 * (y 2).val = (y 2).val; omega
  have hy : (cfg0.win 19).xinj (cfg0.grid.coords t) y = ix3 (0 : Fin 1) (y 1) (y 2) := funext fun a => Fin.ext <| match a with
    | ⟨0, _⟩ => y0
    | ⟨1, _⟩ => rfl
    | ⟨2, _⟩ => rfl
  exact ((congrArg (after 19 t) hy).trans (hP (y 1) (y 2))).trans ((congrArg (G8 m c) he).trans (G8_apply m c (head t) (row t (y 1)) (y 2))).symm

theorem final20 (after : Left) (hL : ∀ u : Fin cfg0.N, (cfg0.win 20).flush u = true → (rdat m (said m) c).Leaves 20 u (after 20 u)) :
    ((rdat m (said m) c).withAfter after).arrAt 20 cfg0.N = G9 m c := by
  refine ((rdat m (said m) c).withAfter after).arrAt_eq_of_covers 20 (G9 m c) covers20 fun t hf y => ?_
  obtain ⟨Y, -, h⟩ := hL t hf
  have hP : (said m c).P20 t (after 20 t) := h
  obtain ⟨e0, e1, e2, e3⟩ := idx20 t
  have y0 : (y 0).val = 0 := by have := (y 0).isLt; change _ < 1 at this; omega
  have y1 : (y 1).val = 0 := by have := (y 1).isLt; change _ < 1 at this; omega
  have he : ((cfg0.win 20).blk t).view.emb y = ix4 (head t) (batch t) (y 2) (y 3) := funext fun a => Fin.ext <| match a with
    | ⟨0, _⟩ => by show win0_20.index t (0 : Fin 4) * 1 + 1 * (y 0).val = t.val / 4; omega
    | ⟨1, _⟩ => by show win0_20.index t (1 : Fin 4) * 1 + 1 * (y 1).val = t.val % 4; omega
    | ⟨2, _⟩ => by show win0_20.index t (2 : Fin 4) * 3 + 1 * (y 2).val = (y 2).val; omega
    | ⟨3, _⟩ => by show win0_20.index t (3 : Fin 4) * 128 + 1 * (y 3).val = (y 3).val; omega
  have hy : (cfg0.win 20).xinj (cfg0.grid.coords t) y = ix4 (0 : Fin 1) (0 : Fin 1) (y 2) (y 3) := funext fun a => Fin.ext <| match a with
    | ⟨0, _⟩ => y0
    | ⟨1, _⟩ => y1
    | ⟨2, _⟩ => rfl
    | ⟨3, _⟩ => rfl
  exact ((congrArg (after 20 t) hy).trans (hP (y 2) (y 3))).trans ((congrArg (G9 m c) he).trans (G9_apply m c (head t) (batch t) (y 2) (y 3))).symm

theorem final21 (after : Left) (hL : ∀ u : Fin cfg0.N, (cfg0.win 21).flush u = true → (rdat m (said m) c).Leaves 21 u (after 21 u)) :
    ((rdat m (said m) c).withAfter after).arrAt 21 cfg0.N = G10 m c := by
  refine ((rdat m (said m) c).withAfter after).arrAt_eq_of_covers 21 (G10 m c) covers21 fun t hf y => ?_
  obtain ⟨Y, -, h⟩ := hL t hf
  have hP : (said m c).P21 t (after 21 t) := h
  obtain ⟨e0, e1, e2⟩ := idx21 t
  have y0 : (y 0).val = 0 := by have := (y 0).isLt; change _ < 1 at this; omega
  have he : ((cfg0.win 21).blk t).view.emb y = ix3 (head t) (row t (y 1)) (y 2) := funext fun a => Fin.ext <| match a with
    | ⟨0, _⟩ => by show win0_21.index t (0 : Fin 3) * 1 + 1 * (y 0).val = t.val / 4; omega
    | ⟨1, _⟩ => by show win0_21.index t (1 : Fin 3) * 384 + 1 * (y 1).val = t.val % 4 * 384 + (y 1).val; omega
    | ⟨2, _⟩ => by show win0_21.index t (2 : Fin 3) * 256 + 1 * (y 2).val = (y 2).val; omega
  have hy : (cfg0.win 21).xinj (cfg0.grid.coords t) y = ix3 (0 : Fin 1) (y 1) (y 2) := funext fun a => Fin.ext <| match a with
    | ⟨0, _⟩ => y0
    | ⟨1, _⟩ => rfl
    | ⟨2, _⟩ => rfl
  exact ((congrArg (after 21 t) hy).trans (hP (y 1) (y 2))).trans ((congrArg (G10 m c) he).trans (G10_apply m c (head t) (row t (y 1)) (y 2))).symm

theorem final22 (after : Left) (hL : ∀ u : Fin cfg0.N, (cfg0.win 22).flush u = true → (rdat m (said m) c).Leaves 22 u (after 22 u)) :
    ((rdat m (said m) c).withAfter after).arrAt 22 cfg0.N = G11 m c := by
  refine ((rdat m (said m) c).withAfter after).arrAt_eq_of_covers 22 (G11 m c) covers22 fun t hf y => ?_
  obtain ⟨Y, -, h⟩ := hL t hf
  have hP : (said m c).P22 t (after 22 t) := h
  obtain ⟨e0, e1, e2, e3⟩ := idx22 t
  have y0 : (y 0).val = 0 := by have := (y 0).isLt; change _ < 1 at this; omega
  have y1 : (y 1).val = 0 := by have := (y 1).isLt; change _ < 1 at this; omega
  have he : ((cfg0.win 22).blk t).view.emb y = ix4 (head t) (batch t) (y 2) (y 3) := funext fun a => Fin.ext <| match a with
    | ⟨0, _⟩ => by show win0_22.index t (0 : Fin 4) * 1 + 1 * (y 0).val = t.val / 4; omega
    | ⟨1, _⟩ => by show win0_22.index t (1 : Fin 4) * 1 + 1 * (y 1).val = t.val % 4; omega
    | ⟨2, _⟩ => by show win0_22.index t (2 : Fin 4) * 3 + 1 * (y 2).val = (y 2).val; omega
    | ⟨3, _⟩ => by show win0_22.index t (3 : Fin 4) * 128 + 1 * (y 3).val = (y 3).val; omega
  have hy : (cfg0.win 22).xinj (cfg0.grid.coords t) y = ix4 (0 : Fin 1) (0 : Fin 1) (y 2) (y 3) := funext fun a => Fin.ext <| match a with
    | ⟨0, _⟩ => y0
    | ⟨1, _⟩ => y1
    | ⟨2, _⟩ => rfl
    | ⟨3, _⟩ => rfl
  exact ((congrArg (after 22 t) hy).trans (hP (y 2) (y 3))).trans ((congrArg (G11 m c) he).trans (G11_apply m c (head t) (batch t) (y 2) (y 3))).symm

theorem final23 (after : Left) (hL : ∀ u : Fin cfg0.N, (cfg0.win 23).flush u = true → (rdat m (said m) c).Leaves 23 u (after 23 u)) :
    ((rdat m (said m) c).withAfter after).arrAt 23 cfg0.N = G12 m c := by
  refine ((rdat m (said m) c).withAfter after).arrAt_eq_of_covers 23 (G12 m c) covers23 fun t hf y => ?_
  obtain ⟨Y, -, h⟩ := hL t hf
  have hP : (said m c).P23 t (after 23 t) := h
  obtain ⟨e0, e1, e2⟩ := idx23 t
  have y0 : (y 0).val = 0 := by have := (y 0).isLt; change _ < 1 at this; omega
  have he : ((cfg0.win 23).blk t).view.emb y = ix3 (head t) (row t (y 1)) (y 2) := funext fun a => Fin.ext <| match a with
    | ⟨0, _⟩ => by show win0_23.index t (0 : Fin 3) * 1 + 1 * (y 0).val = t.val / 4; omega
    | ⟨1, _⟩ => by show win0_23.index t (1 : Fin 3) * 384 + 1 * (y 1).val = t.val % 4 * 384 + (y 1).val; omega
    | ⟨2, _⟩ => by show win0_23.index t (2 : Fin 3) * 512 + 1 * (y 2).val = (y 2).val; omega
  have hy : (cfg0.win 23).xinj (cfg0.grid.coords t) y = ix3 (0 : Fin 1) (y 1) (y 2) := funext fun a => Fin.ext <| match a with
    | ⟨0, _⟩ => y0
    | ⟨1, _⟩ => rfl
    | ⟨2, _⟩ => rfl
  exact ((congrArg (after 23 t) hy).trans (hP (y 1) (y 2))).trans ((congrArg (G12 m c) he).trans (G12_apply m c (head t) (row t (y 1)) (y 2))).symm

theorem final24 (after : Left) (hL : ∀ u : Fin cfg0.N, (cfg0.win 24).flush u = true → (rdat m (said m) c).Leaves 24 u (after 24 u)) :
    ((rdat m (said m) c).withAfter after).arrAt 24 cfg0.N = G13 m c := by
  refine ((rdat m (said m) c).withAfter after).arrAt_eq_of_covers 24 (G13 m c) covers24 fun t hf y => ?_
  obtain ⟨Y, -, h⟩ := hL t hf
  have hP : (said m c).P24 t (after 24 t) := h
  obtain ⟨e0, e1, e2, e3⟩ := idx24 t
  have y0 : (y 0).val = 0 := by have := (y 0).isLt; change _ < 1 at this; omega
  have y1 : (y 1).val = 0 := by have := (y 1).isLt; change _ < 1 at this; omega
  have he : ((cfg0.win 24).blk t).view.emb y = ix4 (head t) (batch t) (y 2) (y 3) := funext fun a => Fin.ext <| match a with
    | ⟨0, _⟩ => by show win0_24.index t (0 : Fin 4) * 1 + 1 * (y 0).val = t.val / 4; omega
    | ⟨1, _⟩ => by show win0_24.index t (1 : Fin 4) * 1 + 1 * (y 1).val = t.val % 4; omega
    | ⟨2, _⟩ => by show win0_24.index t (2 : Fin 4) * 3 + 1 * (y 2).val = (y 2).val; omega
    | ⟨3, _⟩ => by show win0_24.index t (3 : Fin 4) * 128 + 1 * (y 3).val = (y 3).val; omega
  have hy : (cfg0.win 24).xinj (cfg0.grid.coords t) y = ix4 (0 : Fin 1) (0 : Fin 1) (y 2) (y 3) := funext fun a => Fin.ext <| match a with
    | ⟨0, _⟩ => y0
    | ⟨1, _⟩ => y1
    | ⟨2, _⟩ => rfl
    | ⟨3, _⟩ => rfl
  exact ((congrArg (after 24 t) hy).trans (hP (y 2) (y 3))).trans ((congrArg (G13 m c) he).trans (G13_apply m c (head t) (batch t) (y 2) (y 3))).symm

set_option maxHeartbeats 4000000 in
/-- The kernel's run ends with the reference's values in the six result arrays and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v0_2) = G8 m c
      ∧ r.2.mem ((c.tc : Thread nD τ).loc main_v0_3) = G9 m c
      ∧ r.2.mem ((c.tc : Thread nD τ).loc main_v0_4) = G10 m c
      ∧ r.2.mem ((c.tc : Thread nD τ).loc main_v0_5) = G11 m c
      ∧ r.2.mem ((c.tc : Thread nD τ).loc main_v0_6) = G12 m c
      ∧ r.2.mem ((c.tc : Thread nD τ).loc main_v0_7) = G13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine (θ_run defs _ _).mono (fun r h c => ?_) (run_main m ρ (said m) (keeps m))
  obtain ⟨after, hL, hA⟩ := h.1.exists_exact c
  exact ⟨(hA 19).trans (final19 m c after (hL 19)), (hA 20).trans (final20 m c after (hL 20)), (hA 21).trans (final21 m c after (hL 21)), (hA 22).trans (final22 m c after (hL 22)), (hA 23).trans (final23 m c after (hL 23)), (hA 24).trans (final24 m c after (hL 24)),
    (h.1.arr_in c 0 rfl).trans ((A_eq m (said m) c 0).trans (V_main_arg0 m c)),
    (h.1.arr_in c 1 rfl).trans ((A_eq m (said m) c 1).trans (V_main_arg1 m c)),
    (h.1.arr_in c 2 rfl).trans ((A_eq m (said m) c 2).trans (V_main_arg2 m c)),
    (h.1.arr_in c 3 rfl).trans ((A_eq m (said m) c 3).trans (V_main_arg3 m c)),
    (h.1.arr_in c 4 rfl).trans ((A_eq m (said m) c 4).trans (V_main_arg4 m c)),
    (h.1.arr_in c 5 rfl).trans ((A_eq m (said m) c 5).trans (V_main_arg5 m c)),
    (h.1.arr_in c 6 rfl).trans ((A_eq m (said m) c 6).trans (V_main_arg6 m c)),
    (h.1.arr_in c 7 rfl).trans ((A_eq m (said m) c 7).trans (V_main_arg7 m c)),
    (h.1.arr_in c 8 rfl).trans ((A_eq m (said m) c 8).trans (V_main_arg8 m c)),
    (h.1.arr_in c 9 rfl).trans ((A_eq m (said m) c 9).trans (V_main_arg9 m c)),
    (h.1.arr_in c 10 rfl).trans ((A_eq m (said m) c 10).trans (V_main_arg10 m c)),
    (h.1.arr_in c 11 rfl).trans ((A_eq m (said m) c 11).trans (V_main_arg11 m c)),
    (h.1.arr_in c 12 rfl).trans ((A_eq m (said m) c 12).trans (V_main_arg12 m c)),
    (h.1.arr_in c 13 rfl).trans ((A_eq m (said m) c 13).trans (V_main_arg13 m c)),
    (h.1.arr_in c 14 rfl).trans ((A_eq m (said m) c 14).trans (V_main_arg14 m c)),
    (h.1.arr_in c 15 rfl).trans ((A_eq m (said m) c 15).trans (V_main_arg15 m c)),
    (h.1.arr_in c 16 rfl).trans ((A_eq m (said m) c 16).trans (V_main_arg16 m c))⟩

set_option maxHeartbeats 4000000 in
/-- At the reals the kernel and the reference end with equal codes and scales of q, k and v, from equal arguments. -/
theorem algebraic : Cert.algebraic_QkvIdeal_QkvRefIdeal (hQkvIdeal := Cert.QkvIdeal.Gen.facts) (hQkvRefIdeal := Cert.QkvRefIdeal.Gen.facts) := by
  intro m g m' g' _ hargs
  refine ⟨fun c => G8 m c, fun c => G9 m c, fun c => G10 m c, fun c => G11 m c, fun c => G12 m c, fun c => G13 m c, run m g, ?_⟩
  refine (θ_run (Cert.QkvRefIdeal.defs (F := Ideal)) _ _).mono (fun r h c => ?_) (Cert.QkvRefIdeal.Value.run (F := Ideal) m' g')
  obtain ⟨h8, h9, h10, h11, h12, h13, h⟩ := h c
  obtain ⟨e0, e1, e2, e3, e4, -, e6, e7, e8, -⟩ := hargs c
  refine ⟨h8.trans ?_, h9.trans ?_, h10.trans ?_, h11.trans ?_, h12.trans ?_, h13.trans ?_, h⟩ <;> rw [e0, e1, e2, e3, e4, e6, e7, e8]

end Cert.Proof.QkvAlg

end
-- ==== Proof.lean ====
/-
  Hand-written, untrusted. The proof of `Cert.Claim` (proof/Defs.lean): the frames (those of the feed-forward kernel and of the
  kernel with the projections by hand, Proof/FfnData.lean, Proof/FfnFrame.lean, Proof/QkvData.lean and Proof/QkvFrame.lean; the
  others generated), and the algebraic claims of the output projection (Proof/OutAlg.lean), of the feed-forward call
  (Proof/FfnAlg.lean), of the first norm with the gates (Proof/NormAlg.lean) and of the projections (Proof/QkvAlg.lean).
-/
module

public import proofs.«01_k».proof.Defs
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Skeleton
public import proofs.«01_k».proof.Proof.Gen.OutRefIdeal.Launch
public import proofs.«01_k».proof.Proof.Gen.OutRefIdeal.Points
public import proofs.«01_k».proof.Proof.Gen.OutRefIdeal.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Skeleton
public import proofs.«01_k».proof.Proof.Gen.FfnRefIdeal.Launch
public import proofs.«01_k».proof.Proof.Gen.FfnRefIdeal.Points
public import proofs.«01_k».proof.Proof.Gen.FfnRefIdeal.Frame
public import proofs.«01_k».proof.Proof.Gen.OutIdeal.Value
public import proofs.«01_k».proof.Proof.Gen.OutRefIdeal.Value
public import proofs.«01_k».proof.Proof.Gen.FfnRefIdeal.Value
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormRefIdeal.Skeleton
public import proofs.«01_k».proof.Proof.Gen.NormRefIdeal.Launch
public import proofs.«01_k».proof.Proof.Gen.NormRefIdeal.Points
public import proofs.«01_k».proof.Proof.Gen.NormRefIdeal.Frame
public import proofs.«01_k».proof.Proof.Gen.NormRefIdeal.Value
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame.Runs
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.QkvRefIdeal.Value
public import proofs.«01_k».proof.Proof.OutAlg
public import proofs.«01_k».proof.Proof.FfnFrame
public import proofs.«01_k».proof.Proof.FfnAlg
public import proofs.«01_k».proof.Proof.NormAlg
public import proofs.«01_k».proof.Proof.QkvFrame
public import proofs.«01_k».proof.Proof.QkvAlg
public import Idealize.ShloMosaic.Adequacy
public import Idealize.ShloMosaic.Init

@[expose] public section

noncomputable section

namespace Cert.Proof

open Idealize.ShloMosaic

theorem claim : Cert.Claim :=
  ⟨Cert.Out.Gen.facts, Cert.OutIdeal.Gen.facts, Cert.OutRefIdeal.Gen.facts,
    Cert.Ffn.Gen.facts, Cert.FfnIdeal.Gen.facts, Cert.FfnRefIdeal.Gen.facts,
    Cert.Norm.Gen.facts, Cert.NormIdeal.Gen.facts, Cert.NormRefIdeal.Gen.facts,
    Cert.Qkv.Gen.facts, Cert.QkvIdeal.Gen.facts, Cert.QkvRefIdeal.Gen.facts,
    fun m ρ _ => Cert.Out.Gen.frame m ρ, fun m ρ _ => Cert.OutIdeal.Gen.frame m ρ, fun m ρ _ => Cert.OutRefIdeal.Gen.frame m ρ,
    FfnFrame.frame, fun m ρ _ => Cert.FfnIdeal.Hand.frame m ρ, fun m ρ _ => Cert.FfnRefIdeal.Gen.frame m ρ,
    fun m ρ _ => Cert.Norm.Gen.frame m ρ, fun m ρ _ => Cert.NormIdeal.Gen.frame m ρ, fun m ρ _ => Cert.NormRefIdeal.Gen.frame m ρ,
    QkvFrame.frame, fun m ρ _ => Cert.QkvIdeal.Hand.frame m ρ, fun m ρ _ => Cert.QkvRefIdeal.Gen.frame m ρ,
    trivial, OutAlg.algebraic, trivial, FfnAlg.algebraic, trivial, NormAlg.algebraic, trivial, QkvAlg.algebraic⟩

end Cert.Proof

end
